-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v47) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)) →
    ∃ (v0 : (c : Dev Cert.Kernel6Ideal.nD) → Buf (Elt Ideal) ((c.tc : Thread Cert.Kernel6Ideal.nD Cert.Kernel6Ideal.τ).loc Cert.Kernel6Ideal.main_v36_0)) (v1 : (c : Dev Cert.Kernel6Ideal.nD) → Buf (Elt Ideal) ((c.tc : Thread Cert.Kernel6Ideal.nD Cert.Kernel6Ideal.τ).loc Cert.Kernel6Ideal.main_v36_1)) (v2 : (c : Dev Cert.Kernel6Ideal.nD) → Buf (Elt Ideal) ((c.tc : Thread Cert.Kernel6Ideal.nD Cert.Kernel6Ideal.τ).loc Cert.Kernel6Ideal.main_v36_2)) (v3 : (c : Dev Cert.Kernel6Ideal.nD) → Buf (Elt Ideal) ((c.tc : Thread Cert.Kernel6Ideal.nD Cert.Kernel6Ideal.τ).loc Cert.Kernel6Ideal.main_v36_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v36_0) = v0 c
          ∧ r.2.mem ((c.tc : Thread Cert.Kernel6Ideal.nD Cert.Kernel6Ideal.τ).loc Cert.Kernel6Ideal.main_v36_1) = v1 c
          ∧ r.2.mem ((c.tc : Thread Cert.Kernel6Ideal.nD Cert.Kernel6Ideal.τ).loc Cert.Kernel6Ideal.main_v36_2) = v2 c
          ∧ r.2.mem ((c.tc : Thread Cert.Kernel6Ideal.nD Cert.Kernel6Ideal.τ).loc Cert.Kernel6Ideal.main_v36_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v169) = v0 c
          ∧ r.2.mem ((c.tc : Thread Cert.Reference6Ideal.nD Cert.Reference6Ideal.τ).loc Cert.Reference6Ideal.main_v170) = v1 c
          ∧ r.2.mem ((c.tc : Thread Cert.Reference6Ideal.nD Cert.Reference6Ideal.τ).loc Cert.Reference6Ideal.main_v171) = v2 c
          ∧ r.2.mem ((c.tc : Thread Cert.Reference6Ideal.nD Cert.Reference6Ideal.τ).loc Cert.Reference6Ideal.main_v167) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v32_0)) (v1 : (c : Dev Cert.Kernel7Ideal.nD) → Buf (Elt Ideal) ((c.tc : Thread Cert.Kernel7Ideal.nD Cert.Kernel7Ideal.τ).loc Cert.Kernel7Ideal.main_v32_1)) (v2 : (c : Dev Cert.Kernel7Ideal.nD) → Buf (Elt Ideal) ((c.tc : Thread Cert.Kernel7Ideal.nD Cert.Kernel7Ideal.τ).loc Cert.Kernel7Ideal.main_v32_2)) (v3 : (c : Dev Cert.Kernel7Ideal.nD) → Buf (Elt Ideal) ((c.tc : Thread Cert.Kernel7Ideal.nD Cert.Kernel7Ideal.τ).loc Cert.Kernel7Ideal.main_v32_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v32_0) = v0 c
          ∧ r.2.mem ((c.tc : Thread Cert.Kernel7Ideal.nD Cert.Kernel7Ideal.τ).loc Cert.Kernel7Ideal.main_v32_1) = v1 c
          ∧ r.2.mem ((c.tc : Thread Cert.Kernel7Ideal.nD Cert.Kernel7Ideal.τ).loc Cert.Kernel7Ideal.main_v32_2) = v2 c
          ∧ r.2.mem ((c.tc : Thread Cert.Kernel7Ideal.nD Cert.Kernel7Ideal.τ).loc Cert.Kernel7Ideal.main_v32_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v121) = v0 c
          ∧ r.2.mem ((c.tc : Thread Cert.Reference7Ideal.nD Cert.Reference7Ideal.τ).loc Cert.Reference7Ideal.main_v122) = v1 c
          ∧ r.2.mem ((c.tc : Thread Cert.Reference7Ideal.nD Cert.Reference7Ideal.τ).loc Cert.Reference7Ideal.main_v123) = v2 c
          ∧ r.2.mem ((c.tc : Thread Cert.Reference7Ideal.nD Cert.Reference7Ideal.τ).loc Cert.Reference7Ideal.main_v125) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v79) = v0 c
          ∧ r.2.mem ((c.tc : Thread Cert.Reference8Ideal.nD Cert.Reference8Ideal.τ).loc Cert.Reference8Ideal.main_v82) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_in_range.lean ====
abbrev S73 : Shape := ⟨1, ![73]⟩
abbrev S1 : Shape := ⟨1, ![1]⟩
abbrev S37376x1024 : Shape := ⟨2, ![37376, 1024]⟩
abbrev S1024 : Shape := ⟨1, ![1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S73 : S_.BroadcastsInDim S73 (![] : Fin 0 → Fin S73.rank)
  bcast_S_S1 : S_.BroadcastsInDim S1 (![] : Fin 0 → Fin S1.rank)
  bcast_S1_S73_0 : S1.BroadcastsInDim S73 (![0] : Fin 1 → Fin S73.rank)

variable [Facts]

def fn {F : FTy → Type} [FloatOps F] (main_arg0 : IVec S73 32) (main_arg1 : IVec S1 32) (main_arg2 : FVec F S37376x1024 .f32) (main_arg3 : FVec F S1024 .f32) (main_arg4 : FVec F S8x1024x3584 .f32) (main_arg5 : FVec F S8x1024x3584 .f32) (main_arg6 : FVec F S8x3584x1024 .f32) : IVec S73 1 :=
  let main_c : IVec S_ 32 := constantI S_ 32 0#32
  let main_v0 : IVec S73 32 := broadcastInDim S73 ![] bcast_S_S73 main_c
  let main_v1 : IVec S73 1 := cmpi .sge main_arg0 main_v0
  let main_c_0 : IVec S_ 32 := constantI S_ 32 8#32
  let main_v2 : IVec S73 32 := broadcastInDim S73 ![] bcast_S_S73 main_c_0
  let main_v3 : IVec S73 1 := cmpi .slt main_arg0 main_v2
  let main_v4 : IVec S73 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S73 1 := broadcastInDim S73 ![0] bcast_S1_S73_0 main_v6
  let main_v8 : IVec S73 1 := andi main_v4 main_v7
  main_v8
-- ==== Kernel.lean ====
abbrev S73 : Shape := ⟨1, ![73]⟩
abbrev S1 : Shape := ⟨1, ![1]⟩
abbrev S37376x1024 : Shape := ⟨2, ![37376, 1024]⟩
abbrev S1024 : Shape := ⟨1, ![1024]⟩
abbrev S8x1024x3584 : Shape := ⟨3, ![8, 1024, 3584]⟩
abbrev S8x3584x1024 : Shape := ⟨3, ![8, 3584, 1024]⟩
abbrev S1x1024 : Shape := ⟨2, ![1, 1024]⟩
abbrev S512x1024 : Shape := ⟨2, ![512, 1024]⟩
abbrev S1x1024x1792 : Shape := ⟨3, ![1, 1024, 1792]⟩
abbrev S1x1792x1024 : Shape := ⟨3, ![1, 1792, 1024]⟩
abbrev S512 : Shape := ⟨1, ![512]⟩
abbrev S512x1 : Shape := ⟨2, ![512, 1]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 10
  | .vmem => 13
  | .smem => 2
  | _ => 0

abbrev bufTy : (tb : Table) → Fin (tcTables nBuf tb) → BufTy
  | .hbm, ⟨0, _⟩ => ⟨S37376x1024, .f32⟩
  | .hbm, ⟨1, _⟩ => ⟨S1024, .f32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S8x1024x3584, .bf16⟩
  | .hbm, ⟨6, _⟩ => ⟨S8x1024x3584, .bf16⟩
  | .hbm, ⟨7, _⟩ => ⟨S8x3584x1024, .bf16⟩
  | .hbm, ⟨8, _⟩ => ⟨S1x1024, .f32⟩
  | .hbm, ⟨9, _⟩ => ⟨S37376x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1024x1792, .bf16⟩
  | .local _ .vmem, ⟨7, _⟩ => ⟨S1x1792x1024, .bf16⟩
  | .local _ .vmem, ⟨8, _⟩ => ⟨S1x1792x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | .local _ .smem, ⟨0, _⟩ => ⟨S73, .i32⟩
  | .local _ .smem, ⟨1, _⟩ => ⟨S1, .i32⟩
  | _, _ => ⟨S37376x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![73, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (inb_S1_S1_0 : ∀ a, (![0] : Fin 1 → Nat) a + S1.size a ≤ S1.size a) (numel1_S1 : S1.numel = 1) (k0_off1_inb : ∀ i : grid0.Coords, ∀ a, (k0_off1 i) a + S1.size a ≤ S73.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c1_i32 : BitVec 32 := 1#32
  let v2 : BitVec 32 := Scalar.select v1 arg1 c1_i32
  let v3 : Index := Scalar.indexCast arg0
  let v4 : BitVec 32 := pf.at 0 (Rect.unit (s := S73) ![v3.toNat] S1.size (k0_off1_inb i)) numel1_S1
  let c0_i32 : BitVec 32 := 0#32
  let c0_i32_0 : BitVec 32 := 0#32
  ![v4.toNat, c0_i32.toNat, v2.toNat]

def cc0_transform_3 (inb_S1_S1_0 : ∀ a, (![0] : Fin 1 → Nat) a + S1.size a ≤ S1.size a) (numel1_S1 : S1.numel = 1) (k0_off1_inb : ∀ i : grid0.Coords, ∀ a, (k0_off1 i) a + S1.size a ≤ S73.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c1_i32 : BitVec 32 := 1#32
  let v2 : BitVec 32 := Scalar.select v1 arg1 c1_i32
  let v3 : Index := Scalar.indexCast arg0
  let v4 : BitVec 32 := pf.at 0 (Rect.unit (s := S73) ![v3.toNat] S1.size (k0_off1_inb i)) numel1_S1
  let c0_i32 : BitVec 32 := 0#32
  let c0_i32_0 : BitVec 32 := 0#32
  ![v4.toNat, c0_i32.toNat, v2.toNat]

def cc0_transform_4 (inb_S1_S1_0 : ∀ a, (![0] : Fin 1 → Nat) a + S1.size a ≤ S1.size a) (numel1_S1 : S1.numel = 1) (k0_off1_inb : ∀ i : grid0.Coords, ∀ a, (k0_off1 i) a + S1.size a ≤ S73.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c1_i32 : BitVec 32 := 1#32
  let v2 : BitVec 32 := Scalar.select v1 arg1 c1_i32
  let v3 : Index := Scalar.indexCast arg0
  let v4 : BitVec 32 := pf.at 0 (Rect.unit (s := S73) ![v3.toNat] S1.size (k0_off1_inb i)) numel1_S1
  let c0_i32 : BitVec 32 := 0#32
  let c0_i32_0 : BitVec 32 := 0#32
  ![v4.toNat, v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1792x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S73 : Shape := ⟨1, ![73]⟩
abbrev S1 : Shape := ⟨1, ![1]⟩
abbrev S37376x1024 : Shape := ⟨2, ![37376, 1024]⟩
abbrev S1024 : Shape := ⟨1, ![1024]⟩
abbrev S8x1024x3584 : Shape := ⟨3, ![8, 1024, 3584]⟩
abbrev S8x3584x1024 : Shape := ⟨3, ![8, 3584, 1024]⟩
abbrev S_ : Shape := ⟨0, ![]⟩
abbrev S37376 : Shape := ⟨1, ![37376]⟩
abbrev S37376x1 : Shape := ⟨2, ![37376, 1]⟩
abbrev S1x1024 : Shape := ⟨2, ![1, 1024]⟩
abbrev S73x1 : Shape := ⟨2, ![73, 1]⟩
abbrev S1x8 : Shape := ⟨2, ![1, 8]⟩
abbrev S73x8 : Shape := ⟨2, ![73, 8]⟩
abbrev S73x1x8 : Shape := ⟨3, ![73, 1, 8]⟩
abbrev S73x512x8 : Shape := ⟨3, ![73, 512, 8]⟩
abbrev S37376x8 : Shape := ⟨2, ![37376, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S37376x3584 : Shape := ⟨2, ![37376, 3584]⟩

abbrev nBuf : Space → Nat
  | .hbm => 228
  | .vmem => 0
  | .smem => 0
  | _ => 0

abbrev hbmTy0_0 (i : Nat) : BufTy := match i % 128 with
  | 0 => ⟨S73, .i32⟩
  | 1 => ⟨S1, .i32⟩
  | 2 => ⟨S37376x1024, .f32⟩
  | 3 => ⟨S1024, .f32⟩
  | 4 => ⟨S8x1024x3584, .f32⟩
  | 5 => ⟨S8x1024x3584, .f32⟩
  | 6 => ⟨S8x3584x1024, .f32⟩
  | 7 => ⟨S37376x1024, .f32⟩
  | 8 => ⟨S_, .f32⟩
  | 9 => ⟨S37376, .f32⟩
  | 10 => ⟨S37376x1, .f32⟩
  | 11 => ⟨S_, .f32⟩
  | 12 => ⟨S37376x1, .f32⟩
  | 13 => ⟨S37376x1, .f32⟩
  | 14 => ⟨S_, .f32⟩
  | 15 => ⟨S37376x1, .f32⟩
  | 16 => ⟨S37376x1, .f32⟩
  | 17 => ⟨S37376x1, .f32⟩
  | 18 => ⟨S37376x1024, .f32⟩
  | 19 => ⟨S37376x1024, .f32⟩
  | 20 => ⟨S1x1024, .f32⟩
  | 21 => ⟨S37376x1024, .f32⟩
  | 22 => ⟨S37376x1024, .f32⟩
  | 23 => ⟨S73x1, .i32⟩
  | 24 => ⟨S1x8, .i32⟩
  | 25 => ⟨S73x8, .i32⟩
  | 26 => ⟨S73x8, .i32⟩
  | 27 => ⟨S73x8, .i1⟩
  | 28 => ⟨S73x8, .f32⟩
  | 29 => ⟨S73, .i32⟩
  | 30 => ⟨S_, .i32⟩
  | 31 => ⟨S73, .i32⟩
  | 32 => ⟨S73, .i1⟩
  | 33 => ⟨S73x1, .i1⟩
  | 34 => ⟨S_, .f32⟩
  | 35 => ⟨S_, .f32⟩
  | 36 => ⟨S73x8, .i1⟩
  | 37 => ⟨S73x8, .f32⟩
  | 38 => ⟨S73x8, .f32⟩
  | 39 => ⟨S73x1x8, .f32⟩
  | 40 => ⟨S73x512x8, .f32⟩
  | 41 => ⟨S37376x8, .f32⟩
  | 42 => ⟨S_, .f32⟩
  | 43 => ⟨S37376x1024, .f32⟩
  | 44 => ⟨S37376x1, .f32⟩
  | 45 => ⟨S1x1024x3584, .f32⟩
  | 46 => ⟨S1024x3584, .f32⟩
  | 47 => ⟨S1x1024x3584, .f32⟩
  | 48 => ⟨S1024x3584, .f32⟩
  | 49 => ⟨S1x3584x1024, .f32⟩
  | 50 => ⟨S3584x1024, .f32⟩
  | 51 => ⟨S37376x3584, .f32⟩
  | 52 => ⟨S37376x3584, .f32⟩
  | 53 => ⟨S37376x3584, .f32⟩
  | 54 => ⟨S_, .f32⟩
  | 55 => ⟨S37376x3584, .f32⟩
  | 56 => ⟨S37376x3584, .f32⟩
  | 57 => ⟨S_, .f32⟩
  | 58 => ⟨S37376x3584, .f32⟩
  | 59 => ⟨S37376x3584, .f32⟩
  | 60 => ⟨S37376x3584, .f32⟩
  | 61 => ⟨S37376x3584, .f32⟩
  | 62 => ⟨S37376x3584, .f32⟩
  | 63 => ⟨S37376x1024, .f32⟩
  | 64 => ⟨S37376x1024, .f32⟩
  | 65 => ⟨S37376x1024, .f32⟩
  | 66 => ⟨S37376x1024, .f32⟩
  | 67 => ⟨S37376x1, .f32⟩
  | 68 => ⟨S1x1024x3584, .f32⟩
  | 69 => ⟨S1024x3584, .f32⟩
  | 70 => ⟨S1x1024x3584, .f32⟩
  | 71 => ⟨S1024x3584, .f32⟩
  | 72 => ⟨S1x3584x1024, .f32⟩
  | 73 => ⟨S3584x1024, .f32⟩
  | 74 => ⟨S37376x3584, .f32⟩
  | 75 => ⟨S37376x3584, .f32⟩
  | 76 => ⟨S37376x3584, .f32⟩
  | 77 => ⟨S_, .f32⟩
  | 78 => ⟨S37376x3584, .f32⟩
  | 79 => ⟨S37376x3584, .f32⟩
  | 80 => ⟨S_, .f32⟩
  | 81 => ⟨S37376x3584, .f32⟩
  | 82 => ⟨S37376x3584, .f32⟩
  | 83 => ⟨S37376x3584, .f32⟩
  | 84 => ⟨S37376x3584, .f32⟩
  | 85 => ⟨S37376x3584, .f32⟩
  | 86 => ⟨S37376x1024, .f32⟩
  | 87 => ⟨S37376x1024, .f32⟩
  | 88 => ⟨S37376x1024, .f32⟩
  | 89 => ⟨S37376x1024, .f32⟩
  | 90 => ⟨S37376x1, .f32⟩
  | 91 => ⟨S1x1024x3584, .f32⟩
  | 92 => ⟨S1024x3584, .f32⟩
  | 93 => ⟨S1x1024x3584, .f32⟩
  | 94 => ⟨S1024x3584, .f32⟩
  | 95 => ⟨S1x3584x1024, .f32⟩
  | 96 => ⟨S3584x1024, .f32⟩
  | 97 => ⟨S37376x3584, .f32⟩
  | 98 => ⟨S37376x3584, .f32⟩
  | 99 => ⟨S37376x3584, .f32⟩
  | 100 => ⟨S_, .f32⟩
  | 101 => ⟨S37376x3584, .f32⟩
  | 102 => ⟨S37376x3584, .f32⟩
  | 103 => ⟨S_, .f32⟩
  | 104 => ⟨S37376x3584, .f32⟩
  | 105 => ⟨S37376x3584, .f32⟩
  | 106 => ⟨S37376x3584, .f32⟩
  | 107 => ⟨S37376x3584, .f32⟩
  | 108 => ⟨S37376x3584, .f32⟩
  | 109 => ⟨S37376x1024, .f32⟩
  | 110 => ⟨S37376x1024, .f32⟩
  | 111 => ⟨S37376x1024, .f32⟩
  | 112 => ⟨S37376x1024, .f32⟩
  | 113 => ⟨S37376x1, .f32⟩
  | 114 => ⟨S1x1024x3584, .f32⟩
  | 115 => ⟨S1024x3584, .f32⟩
  | 116 => ⟨S1x1024x3584, .f32⟩
  | 117 => ⟨S1024x3584, .f32⟩
  | 118 => ⟨S1x3584x1024, .f32⟩
  | 119 => ⟨S3584x1024, .f32⟩
  | 120 => ⟨S37376x3584, .f32⟩
  | 121 => ⟨S37376x3584, .f32⟩
  | 122 => ⟨S37376x3584, .f32⟩
  | 123 => ⟨S_, .f32⟩
  | 124 => ⟨S37376x3584, .f32⟩
  | 125 => ⟨S37376x3584, .f32⟩
  | 126 => ⟨S_, .f32⟩
  | 127 => ⟨S37376x3584, .f32⟩
  | _ => ⟨S73, .i32⟩

abbrev hbmTy0_1 (i : Nat) : BufTy := match i % 128 with
  | 0 => ⟨S37376x3584, .f32⟩
  | 1 => ⟨S37376x3584, .f32⟩
  | 2 => ⟨S37376x3584, .f32⟩
  | 3 => ⟨S37376x3584, .f32⟩
  | 4 => ⟨S37376x1024, .f32⟩
  | 5 => ⟨S37376x1024, .f32⟩
  | 6 => ⟨S37376x1024, .f32⟩
  | 7 => ⟨S37376x1024, .f32⟩
  | 8 => ⟨S37376x1, .f32⟩
  | 9 => ⟨S1x1024x3584, .f32⟩
  | 10 => ⟨S1024x3584, .f32⟩
  | 11 => ⟨S1x1024x3584, .f32⟩
  | 12 => ⟨S1024x3584, .f32⟩
  | 13 => ⟨S1x3584x1024, .f32⟩
  | 14 => ⟨S3584x1024, .f32⟩
  | 15 => ⟨S37376x3584, .f32⟩
  | 16 => ⟨S37376x3584, .f32⟩
  | 17 => ⟨S37376x3584, .f32⟩
  | 18 => ⟨S_, .f32⟩
  | 19 => ⟨S37376x3584, .f32⟩
  | 20 => ⟨S37376x3584, .f32⟩
  | 21 => ⟨S_, .f32⟩
  | 22 => ⟨S37376x3584, .f32⟩
  | 23 => ⟨S37376x3584, .f32⟩
  | 24 => ⟨S37376x3584, .f32⟩
  | 25 => ⟨S37376x3584, .f32⟩
  | 26 => ⟨S37376x3584, .f32⟩
  | 27 => ⟨S37376x1024, .f32⟩
  | 28 => ⟨S37376x1024, .f32⟩
  | 29 => ⟨S37376x1024, .f32⟩
  | 30 => ⟨S37376x1024, .f32⟩
  | 31 => ⟨S37376x1, .f32⟩
  | 32 => ⟨S1x1024x3584, .f32⟩
  | 33 => ⟨S1024x3584, .f32⟩
  | 34 => ⟨S1x1024x3584, .f32⟩
  | 35 => ⟨S1024x3584, .f32⟩
  | 36 => ⟨S1x3584x1024, .f32⟩
  | 37 => ⟨S3584x1024, .f32⟩
  | 38 => ⟨S37376x3584, .f32⟩
  | 39 => ⟨S37376x3584, .f32⟩
  | 40 => ⟨S37376x3584, .f32⟩
  | 41 => ⟨S_, .f32⟩
  | 42 => ⟨S37376x3584, .f32⟩
  | 43 => ⟨S37376x3584, .f32⟩
  | 44 => ⟨S_, .f32⟩
  | 45 => ⟨S37376x3584, .f32⟩
  | 46 => ⟨S37376x3584, .f32⟩
  | 47 => ⟨S37376x3584, .f32⟩
  | 48 => ⟨S37376x3584, .f32⟩
  | 49 => ⟨S37376x3584, .f32⟩
  | 50 => ⟨S37376x1024, .f32⟩
  | 51 => ⟨S37376x1024, .f32⟩
  | 52 => ⟨S37376x1024, .f32⟩
  | 53 => ⟨S37376x1024, .f32⟩
  | 54 => ⟨S37376x1, .f32⟩
  | 55 => ⟨S1x1024x3584, .f32⟩
  | 56 => ⟨S1024x3584, .f32⟩
  | 57 => ⟨S1x1024x3584, .f32⟩
  | 58 => ⟨S1024x3584, .f32⟩
  | 59 => ⟨S1x3584x1024, .f32⟩
  | 60 => ⟨S3584x1024, .f32⟩
  | 61 => ⟨S37376x3584, .f32⟩
  | 62 => ⟨S37376x3584, .f32⟩
  | 63 => ⟨S37376x3584, .f32⟩
  | 64 => ⟨S_, .f32⟩
  | 65 => ⟨S37376x3584, .f32⟩
  | 66 => ⟨S37376x3584, .f32⟩
  | 67 => ⟨S_, .f32⟩
  | 68 => ⟨S37376x3584, .f32⟩
  | 69 => ⟨S37376x3584, .f32⟩
  | 70 => ⟨S37376x3584, .f32⟩
  | 71 => ⟨S37376x3584, .f32⟩
  | 72 => ⟨S37376x3584, .f32⟩
  | 73 => ⟨S37376x1024, .f32⟩
  | 74 => ⟨S37376x1024, .f32⟩
  | 75 => ⟨S37376x1024, .f32⟩
  | 76 => ⟨S37376x1024, .f32⟩
  | 77 => ⟨S37376x1, .f32⟩
  | 78 => ⟨S1x1024x3584, .f32⟩
  | 79 => ⟨S1024x3584, .f32⟩
  | 80 => ⟨S1x1024x3584, .f32⟩
  | 81 => ⟨S1024x3584, .f32⟩
  | 82 => ⟨S1x3584x1024, .f32⟩
  | 83 => ⟨S3584x1024, .f32⟩
  | 84 => ⟨S37376x3584, .f32⟩
  | 85 => ⟨S37376x3584, .f32⟩
  | 86 => ⟨S37376x3584, .f32⟩
  | 87 => ⟨S_, .f32⟩
  | 88 => ⟨S37376x3584, .f32⟩
  | 89 => ⟨S37376x3584, .f32⟩
  | 90 => ⟨S_, .f32⟩
  | 91 => ⟨S37376x3584, .f32⟩
  | 92 => ⟨S37376x3584, .f32⟩
  | 93 => ⟨S37376x3584, .f32⟩
  | 94 => ⟨S37376x3584, .f32⟩
  | 95 => ⟨S37376x3584, .f32⟩
  | 96 => ⟨S37376x1024, .f32⟩
  | 97 => ⟨S37376x1024, .f32⟩
  | 98 => ⟨S37376x1024, .f32⟩
  | 99 => ⟨S37376x1024, .f32⟩
  | _ => ⟨S73, .i32⟩

abbrev hbmTy (i : Nat) : BufTy := match i / 128 with
  | 0 => hbmTy0_0 i
  | 1 => hbmTy0_1 i
  | _ => ⟨S73, .i32⟩

abbrev bufTy : (tb : Table) → Fin (tcTables nBuf tb) → BufTy
  | .hbm, ⟨i, _⟩ => hbmTy i
  | _, _ => ⟨S73, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call3_v0 : Ref sig .tc := ⟨.hbm, 75, rfl⟩
abbrev main_call3_v1 : Ref sig .tc := ⟨.hbm, 76, rfl⟩
abbrev main_call3_cst : Ref sig .tc := ⟨.hbm, 77, rfl⟩
abbrev main_call3_v2 : Ref sig .tc := ⟨.hbm, 78, rfl⟩
abbrev main_call3_v3 : Ref sig .tc := ⟨.hbm, 79, rfl⟩
abbrev main_call3_cst_0 : Ref sig .tc := ⟨.hbm, 80, rfl⟩
abbrev main_call3_v4 : Ref sig .tc := ⟨.hbm, 81, rfl⟩
abbrev main_call3_v5 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_call4_v0 : Ref sig .tc := ⟨.hbm, 98, rfl⟩
abbrev main_call4_v1 : Ref sig .tc := ⟨.hbm, 99, rfl⟩
abbrev main_call4_cst : Ref sig .tc := ⟨.hbm, 100, rfl⟩
abbrev main_call4_v2 : Ref sig .tc := ⟨.hbm, 101, rfl⟩
abbrev main_call4_v3 : Ref sig .tc := ⟨.hbm, 102, rfl⟩
abbrev main_call4_cst_0 : Ref sig .tc := ⟨.hbm, 103, rfl⟩
abbrev main_call4_v4 : Ref sig .tc := ⟨.hbm, 104, rfl⟩
abbrev main_call4_v5 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_call5_v0 : Ref sig .tc := ⟨.hbm, 121, rfl⟩
abbrev main_call5_v1 : Ref sig .tc := ⟨.hbm, 122, rfl⟩
abbrev main_call5_cst : Ref sig .tc := ⟨.hbm, 123, rfl⟩
abbrev main_call5_v2 : Ref sig .tc := ⟨.hbm, 124, rfl⟩
abbrev main_call5_v3 : Ref sig .tc := ⟨.hbm, 125, rfl⟩
abbrev main_call5_cst_0 : Ref sig .tc := ⟨.hbm, 126, rfl⟩
abbrev main_call5_v4 : Ref sig .tc := ⟨.hbm, 127, rfl⟩
abbrev main_call5_v5 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_call6_v0 : Ref sig .tc := ⟨.hbm, 144, rfl⟩
abbrev main_call6_v1 : Ref sig .tc := ⟨.hbm, 145, rfl⟩
abbrev main_call6_cst : Ref sig .tc := ⟨.hbm, 146, rfl⟩
abbrev main_call6_v2 : Ref sig .tc := ⟨.hbm, 147, rfl⟩
abbrev main_call6_v3 : Ref sig .tc := ⟨.hbm, 148, rfl⟩
abbrev main_call6_cst_0 : Ref sig .tc := ⟨.hbm, 149, rfl⟩
abbrev main_call6_v4 : Ref sig .tc := ⟨.hbm, 150, rfl⟩
abbrev main_call6_v5 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_call7_v0 : Ref sig .tc := ⟨.hbm, 167, rfl⟩
abbrev main_call7_v1 : Ref sig .tc := ⟨.hbm, 168, rfl⟩
abbrev main_call7_cst : Ref sig .tc := ⟨.hbm, 169, rfl⟩
abbrev main_call7_v2 : Ref sig .tc := ⟨.hbm, 170, rfl⟩
abbrev main_call7_v3 : Ref sig .tc := ⟨.hbm, 171, rfl⟩
abbrev main_call7_cst_0 : Ref sig .tc := ⟨.hbm, 172, rfl⟩
abbrev main_call7_v4 : Ref sig .tc := ⟨.hbm, 173, rfl⟩
abbrev main_call7_v5 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_call8_v0 : Ref sig .tc := ⟨.hbm, 190, rfl⟩
abbrev main_call8_v1 : Ref sig .tc := ⟨.hbm, 191, rfl⟩
abbrev main_call8_cst : Ref sig .tc := ⟨.hbm, 192, rfl⟩
abbrev main_call8_v2 : Ref sig .tc := ⟨.hbm, 193, rfl⟩
abbrev main_call8_v3 : Ref sig .tc := ⟨.hbm, 194, rfl⟩
abbrev main_call8_cst_0 : Ref sig .tc := ⟨.hbm, 195, rfl⟩
abbrev main_call8_v4 : Ref sig .tc := ⟨.hbm, 196, rfl⟩
abbrev main_call8_v5 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_call9_v0 : Ref sig .tc := ⟨.hbm, 213, rfl⟩
abbrev main_call9_v1 : Ref sig .tc := ⟨.hbm, 214, rfl⟩
abbrev main_call9_cst : Ref sig .tc := ⟨.hbm, 215, rfl⟩
abbrev main_call9_v2 : Ref sig .tc := ⟨.hbm, 216, rfl⟩
abbrev main_call9_v3 : Ref sig .tc := ⟨.hbm, 217, rfl⟩
abbrev main_call9_cst_0 : Ref sig .tc := ⟨.hbm, 218, rfl⟩
abbrev main_call9_v4 : Ref sig .tc := ⟨.hbm, 219, rfl⟩
abbrev main_call9_v5 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩

abbrev nD : Nat := 1
abbrev τ : Topo := Topo.v7x

variable {F : FTy → Type} [FloatOps F]
-- ==== Kernel2.lean ====
abbrev S16640x1024 : Shape := ⟨2, ![16640, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S1280x1024 : Shape := ⟨2, ![1280, 1024]⟩
abbrev S1024x256 : Shape := ⟨2, ![1024, 256]⟩
abbrev S256x1024 : Shape := ⟨2, ![256, 1024]⟩
abbrev S1280x256 : Shape := ⟨2, ![1280, 256]⟩

abbrev nBuf : Space → Nat
  | .hbm => 11
  | .vmem => 14
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S16640x1024, .f32⟩
  | .local _ .vmem, ⟨0, _⟩ => ⟨S1280x1024, .bf16⟩
  | .local _ .vmem, ⟨1, _⟩ => ⟨S1280x1024, .bf16⟩
  | .local _ .vmem, ⟨2, _⟩ => ⟨S1280x1024, .f32⟩
  | .local _ .vmem, ⟨3, _⟩ => ⟨S1280x1024, .f32⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | .local _ .vmem, ⟨11, _⟩ => ⟨S1280x1024, .f32⟩
  | .local _ .vmem, ⟨12, _⟩ => ⟨S1280x1024, .f32⟩
  | .local _ .vmem, ⟨13, _⟩ => ⟨S1280x1024, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![13, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1280x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16640x1024 : Shape := ⟨2, ![16640, 1024]⟩
abbrev S1024x2816 : Shape := ⟨2, ![1024, 2816]⟩
abbrev S2816x1024 : Shape := ⟨2, ![2816, 1024]⟩
abbrev S1024 : Shape := ⟨1, ![1024]⟩
abbrev S16640x2816 : Shape := ⟨2, ![16640, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16640x1024, .f32⟩
  | .hbm, ⟨7, _⟩ => ⟨S16640x2816, .f32⟩
  | .hbm, ⟨8, _⟩ => ⟨S16640x2816, .f32⟩
  | .hbm, ⟨9, _⟩ => ⟨S16640x2816, .f32⟩
  | .hbm, ⟨10, _⟩ => ⟨S_, .f32⟩
  | .hbm, ⟨11, _⟩ => ⟨S16640x2816, .f32⟩
  | .hbm, ⟨12, _⟩ => ⟨S16640x2816, .f32⟩
  | .hbm, ⟨13, _⟩ => ⟨S_, .f32⟩
  | .hbm, ⟨14, _⟩ => ⟨S16640x2816, .f32⟩
  | .hbm, ⟨15, _⟩ => ⟨S16640x2816, .f32⟩
  | .hbm, ⟨16, _⟩ => ⟨S16640x2816, .f32⟩
  | .hbm, ⟨17, _⟩ => ⟨S16640x2816, .f32⟩
  | .hbm, ⟨18, _⟩ => ⟨S16640x2816, .f32⟩
  | .hbm, ⟨19, _⟩ => ⟨S16640x1024, .f32⟩
  | .hbm, ⟨20, _⟩ => ⟨S16640x1024, .f32⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩

abbrev nD : Nat := 1
abbrev τ : Topo := Topo.v7x

variable {F : FTy → Type} [FloatOps F]
-- ==== Kernel3.lean ====
abbrev S16640x512 : Shape := ⟨2, ![16640, 512]⟩
abbrev S16640x3072 : Shape := ⟨2, ![16640, 3072]⟩
abbrev S16640x1024 : Shape := ⟨2, ![16640, 1024]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S640x512 : Shape := ⟨2, ![640, 512]⟩
abbrev S640x1024 : Shape := ⟨2, ![640, 1024]⟩
abbrev S640x256 : Shape := ⟨2, ![640, 256]⟩
abbrev S640 : Shape := ⟨1, ![640]⟩
abbrev S640x1 : Shape := ⟨2, ![640, 1]⟩

abbrev nBuf : Space → Nat
  | .hbm => 16
  | .vmem => 21
  | .smem => 0
  | _ => 0

abbrev bufTy : (tb : Table) → Fin (tcTables nBuf tb) → BufTy
  | .hbm, ⟨0, _⟩ => ⟨S16640x512, .f32⟩
  | .hbm, ⟨1, _⟩ => ⟨S16640x512, .f32⟩
  | .hbm, ⟨2, _⟩ => ⟨S16640x3072, .bf16⟩
  | .hbm, ⟨3, _⟩ => ⟨S16640x1024, .f32⟩
  | .hbm, ⟨4, _⟩ => ⟨S256x1024, .f32⟩
  | .hbm, ⟨5, _⟩ => ⟨S256x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S256x1024, .bf16⟩
  | .hbm, ⟨10, _⟩ => ⟨S256x1024, .bf16⟩
  | .hbm, ⟨11, _⟩ => ⟨S512x1024, .bf16⟩
  | .hbm, ⟨12, _⟩ => ⟨S1024x1024, .bf16⟩
  | .hbm, ⟨13, _⟩ => ⟨S1x1024, .f32⟩
  | .hbm, ⟨14, _⟩ => ⟨S16640x1024, .f32⟩
  | .hbm, ⟨15, _⟩ => ⟨S16640x1024, .bf16⟩
  | .local _ .vmem, ⟨0, _⟩ => ⟨S640x512, .f32⟩
  | .local _ .vmem, ⟨1, _⟩ => ⟨S640x512, .f32⟩
  | .local _ .vmem, ⟨2, _⟩ => ⟨S640x512, .f32⟩
  | .local _ .vmem, ⟨3, _⟩ => ⟨S640x512, .f32⟩
  | .local _ .vmem, ⟨4, _⟩ => ⟨S640x1024, .bf16⟩
  | .local _ .vmem, ⟨5, _⟩ => ⟨S640x1024, .bf16⟩
  | .local _ .vmem, ⟨6, _⟩ => ⟨S640x1024, .bf16⟩
  | .local _ .vmem, ⟨7, _⟩ => ⟨S640x1024, .bf16⟩
  | .local _ .vmem, ⟨8, _⟩ => ⟨S640x1024, .bf16⟩
  | .local _ .vmem, ⟨9, _⟩ => ⟨S640x1024, .bf16⟩
  | .local _ .vmem, ⟨10, _⟩ => ⟨S640x1024, .f32⟩
  | .local _ .vmem, ⟨11, _⟩ => ⟨S640x1024, .f32⟩
  | .local _ .vmem, ⟨12, _⟩ => ⟨S256x1024, .bf16⟩
  | .local _ .vmem, ⟨13, _⟩ => ⟨S256x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S640x1024, .f32⟩
  | .local _ .vmem, ⟨18, _⟩ => ⟨S640x1024, .f32⟩
  | .local _ .vmem, ⟨19, _⟩ => ⟨S640x1024, .bf16⟩
  | .local _ .vmem, ⟨20, _⟩ => ⟨S640x1024, .bf16⟩
  | _, _ => ⟨S16640x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S640x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S640x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S16640x512 : Shape := ⟨2, ![16640, 512]⟩
abbrev S16640x3072 : Shape := ⟨2, ![16640, 3072]⟩
abbrev S16640x1024 : Shape := ⟨2, ![16640, 1024]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S16640x256 : Shape := ⟨2, ![16640, 256]⟩
abbrev S_ : Shape := ⟨0, ![]⟩
abbrev S16640 : Shape := ⟨1, ![16640]⟩
abbrev S16640x1 : Shape := ⟨2, ![16640, 1]⟩
abbrev S1x1024 : Shape := ⟨2, ![1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S16640x512, .f32⟩
  | .hbm, ⟨1, _⟩ => ⟨S16640x512, .f32⟩
  | .hbm, ⟨2, _⟩ => ⟨S16640x3072, .bf16⟩
  | .hbm, ⟨3, _⟩ => ⟨S16640x1024, .f32⟩
  | .hbm, ⟨4, _⟩ => ⟨S256x1024, .f32⟩
  | .hbm, ⟨5, _⟩ => ⟨S256x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S16640x256, .f32⟩
  | .hbm, ⟨10, _⟩ => ⟨S16640x256, .f32⟩
  | .hbm, ⟨11, _⟩ => ⟨S16640x3072, .f32⟩
  | .hbm, ⟨12, _⟩ => ⟨S16640x1024, .f32⟩
  | .hbm, ⟨13, _⟩ => ⟨S16640x1024, .f32⟩
  | .hbm, ⟨14, _⟩ => ⟨S16640x1024, .f32⟩
  | .hbm, ⟨15, _⟩ => ⟨S16640x1024, .f32⟩
  | .hbm, ⟨16, _⟩ => ⟨S16640x1024, .f32⟩
  | .hbm, ⟨17, _⟩ => ⟨S_, .f32⟩
  | .hbm, ⟨18, _⟩ => ⟨S16640x1024, .f32⟩
  | .hbm, ⟨19, _⟩ => ⟨S16640x1024, .f32⟩
  | .hbm, ⟨20, _⟩ => ⟨S_, .f32⟩
  | .hbm, ⟨21, _⟩ => ⟨S16640x1024, .f32⟩
  | .hbm, ⟨22, _⟩ => ⟨S16640x1024, .f32⟩
  | .hbm, ⟨23, _⟩ => ⟨S16640x1024, .f32⟩
  | .hbm, ⟨24, _⟩ => ⟨S16640x1024, .f32⟩
  | .hbm, ⟨25, _⟩ => ⟨S16640x1024, .f32⟩
  | .hbm, ⟨26, _⟩ => ⟨S16640x1024, .f32⟩
  | .hbm, ⟨27, _⟩ => ⟨S_, .f32⟩
  | .hbm, ⟨28, _⟩ => ⟨S16640x1024, .f32⟩
  | .hbm, ⟨29, _⟩ => ⟨S16640x1024, .f32⟩
  | .hbm, ⟨30, _⟩ => ⟨S_, .f32⟩
  | .hbm, ⟨31, _⟩ => ⟨S16640x1024, .f32⟩
  | .hbm, ⟨32, _⟩ => ⟨S16640x1024, .f32⟩
  | .hbm, ⟨33, _⟩ => ⟨S16640x1024, .f32⟩
  | .hbm, ⟨34, _⟩ => ⟨S16640x1024, .f32⟩
  | .hbm, ⟨35, _⟩ => ⟨S16640x1024, .f32⟩
  | .hbm, ⟨36, _⟩ => ⟨S16640x1024, .f32⟩
  | .hbm, ⟨37, _⟩ => ⟨S16640x1024, .f32⟩
  | .hbm, ⟨38, _⟩ => ⟨S_, .f32⟩
  | .hbm, ⟨39, _⟩ => ⟨S16640x1024, .f32⟩
  | .hbm, ⟨40, _⟩ => ⟨S16640x1024, .f32⟩
  | .hbm, ⟨41, _⟩ => ⟨S_, .f32⟩
  | .hbm, ⟨42, _⟩ => ⟨S16640x1024, .f32⟩
  | .hbm, ⟨43, _⟩ => ⟨S16640x1024, .f32⟩
  | .hbm, ⟨44, _⟩ => ⟨S16640x1024, .f32⟩
  | .hbm, ⟨45, _⟩ => ⟨S16640x1024, .f32⟩
  | .hbm, ⟨46, _⟩ => ⟨S16640x1024, .f32⟩
  | .hbm, ⟨47, _⟩ => ⟨S16640x1024, .f32⟩
  | .hbm, ⟨48, _⟩ => ⟨S16640x1024, .f32⟩
  | .hbm, ⟨49, _⟩ => ⟨S16640x1024, .f32⟩
  | .hbm, ⟨50, _⟩ => ⟨S_, .f32⟩
  | .hbm, ⟨51, _⟩ => ⟨S16640, .f32⟩
  | .hbm, ⟨52, _⟩ => ⟨S16640x1, .f32⟩
  | .hbm, ⟨53, _⟩ => ⟨S_, .f32⟩
  | .hbm, ⟨54, _⟩ => ⟨S16640x1, .f32⟩
  | .hbm, ⟨55, _⟩ => ⟨S16640x1, .f32⟩
  | .hbm, ⟨56, _⟩ => ⟨S_, .f32⟩
  | .hbm, ⟨57, _⟩ => ⟨S16640x1, .f32⟩
  | .hbm, ⟨58, _⟩ => ⟨S16640x1, .f32⟩
  | .hbm, ⟨59, _⟩ => ⟨S16640x1, .f32⟩
  | .hbm, ⟨60, _⟩ => ⟨S16640x1024, .f32⟩
  | .hbm, ⟨61, _⟩ => ⟨S16640x1024, .f32⟩
  | .hbm, ⟨62, _⟩ => ⟨S1x1024, .f32⟩
  | .hbm, ⟨63, _⟩ => ⟨S16640x1024, .f32⟩
  | .hbm, ⟨64, _⟩ => ⟨S16640x1024, .f32⟩
  | .hbm, ⟨65, _⟩ => ⟨S16640x1024, .bf16⟩
  | _, _ => ⟨S16640x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== Kernel4.lean ====
abbrev S16640x1024 : Shape := ⟨2, ![16640, 1024]⟩
abbrev S1024 : Shape := ⟨1, ![1024]⟩
abbrev S1024x5632 : Shape := ⟨2, ![1024, 5632]⟩
abbrev S1024x2560 : Shape := ⟨2, ![1024, 2560]⟩
abbrev S1x1024 : Shape := ⟨2, ![1, 1024]⟩
abbrev S16640x2560 : Shape := ⟨2, ![16640, 2560]⟩
abbrev S1280x1024 : Shape := ⟨2, ![1280, 1024]⟩
abbrev S1024x1280 : Shape := ⟨2, ![1024, 1280]⟩
abbrev S1280x1280 : Shape := ⟨2, ![1280, 1280]⟩
abbrev S1280 : Shape := ⟨1, ![1280]⟩
abbrev S1280x1 : Shape := ⟨2, ![1280, 1]⟩

abbrev nBuf : Space → Nat
  | .hbm => 7
  | .vmem => 8
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x5632, .f32⟩
  | .hbm, ⟨3, _⟩ => ⟨S1024x2560, .f32⟩
  | .hbm, ⟨4, _⟩ => ⟨S1024x2560, .bf16⟩
  | .hbm, ⟨5, _⟩ => ⟨S1x1024, .f32⟩
  | .hbm, ⟨6, _⟩ => ⟨S16640x2560, .f32⟩
  | .local _ .vmem, ⟨0, _⟩ => ⟨S1280x1024, .f32⟩
  | .local _ .vmem, ⟨1, _⟩ => ⟨S1280x1024, .f32⟩
  | .local _ .vmem, ⟨2, _⟩ => ⟨S1x1024, .f32⟩
  | .local _ .vmem, ⟨3, _⟩ => ⟨S1024x1280, .bf16⟩
  | .local _ .vmem, ⟨4, _⟩ => ⟨S1024x1280, .bf16⟩
  | .local _ .vmem, ⟨5, _⟩ => ⟨S1280x1280, .f32⟩
  | .local _ .vmem, ⟨6, _⟩ => ⟨S1280x1280, .f32⟩
  | .local _ .vmem, ⟨7, _⟩ => ⟨S1280x1024, .bf16⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![13, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1280x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16640x1024 : Shape := ⟨2, ![16640, 1024]⟩
abbrev S1024 : Shape := ⟨1, ![1024]⟩
abbrev S1024x5632 : Shape := ⟨2, ![1024, 5632]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16640x5632 : Shape := ⟨2, ![16640, 5632]⟩
abbrev S16640x2560 : Shape := ⟨2, ![16640, 2560]⟩

abbrev nBuf : Space → Nat
  | .hbm => 21
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x5632, .f32⟩
  | .hbm, ⟨3, _⟩ => ⟨S16640x1024, .f32⟩
  | .hbm, ⟨4, _⟩ => ⟨S_, .f32⟩
  | .hbm, ⟨5, _⟩ => ⟨S16640, .f32⟩
  | .hbm, ⟨6, _⟩ => ⟨S16640x1, .f32⟩
  | .hbm, ⟨7, _⟩ => ⟨S_, .f32⟩
  | .hbm, ⟨8, _⟩ => ⟨S16640x1, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S16640x1, .f32⟩
  | .hbm, ⟨14, _⟩ => ⟨S16640x1024, .f32⟩
  | .hbm, ⟨15, _⟩ => ⟨S16640x1024, .f32⟩
  | .hbm, ⟨16, _⟩ => ⟨S1x1024, .f32⟩
  | .hbm, ⟨17, _⟩ => ⟨S16640x1024, .f32⟩
  | .hbm, ⟨18, _⟩ => ⟨S16640x1024, .f32⟩
  | .hbm, ⟨19, _⟩ => ⟨S16640x5632, .f32⟩
  | .hbm, ⟨20, _⟩ => ⟨S16640x2560, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S16640x1024 : Shape := ⟨2, ![16640, 1024]⟩
abbrev S1024 : Shape := ⟨1, ![1024]⟩
abbrev S1024x5632 : Shape := ⟨2, ![1024, 5632]⟩
abbrev S1024x3072 : Shape := ⟨2, ![1024, 3072]⟩
abbrev S1x1024 : Shape := ⟨2, ![1, 1024]⟩
abbrev S16640x3072 : Shape := ⟨2, ![16640, 3072]⟩
abbrev S1280x1024 : Shape := ⟨2, ![1280, 1024]⟩
abbrev S1280x3072 : Shape := ⟨2, ![1280, 3072]⟩
abbrev S1280 : Shape := ⟨1, ![1280]⟩
abbrev S1280x1 : Shape := ⟨2, ![1280, 1]⟩

abbrev nBuf : Space → Nat
  | .hbm => 7
  | .vmem => 7
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x5632, .f32⟩
  | .hbm, ⟨3, _⟩ => ⟨S1024x3072, .f32⟩
  | .hbm, ⟨4, _⟩ => ⟨S1024x3072, .bf16⟩
  | .hbm, ⟨5, _⟩ => ⟨S1x1024, .f32⟩
  | .hbm, ⟨6, _⟩ => ⟨S16640x3072, .bf16⟩
  | .local _ .vmem, ⟨0, _⟩ => ⟨S1280x1024, .f32⟩
  | .local _ .vmem, ⟨1, _⟩ => ⟨S1280x1024, .f32⟩
  | .local _ .vmem, ⟨2, _⟩ => ⟨S1x1024, .f32⟩
  | .local _ .vmem, ⟨3, _⟩ => ⟨S1024x3072, .bf16⟩
  | .local _ .vmem, ⟨4, _⟩ => ⟨S1280x3072, .bf16⟩
  | .local _ .vmem, ⟨5, _⟩ => ⟨S1280x3072, .bf16⟩
  | .local _ .vmem, ⟨6, _⟩ => ⟨S1280x1024, .bf16⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1280x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16640x1024 : Shape := ⟨2, ![16640, 1024]⟩
abbrev S1024 : Shape := ⟨1, ![1024]⟩
abbrev S1024x5632 : Shape := ⟨2, ![1024, 5632]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16640x5632 : Shape := ⟨2, ![16640, 5632]⟩
abbrev S16640x3072 : Shape := ⟨2, ![16640, 3072]⟩

abbrev nBuf : Space → Nat
  | .hbm => 22
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x5632, .f32⟩
  | .hbm, ⟨3, _⟩ => ⟨S16640x1024, .f32⟩
  | .hbm, ⟨4, _⟩ => ⟨S_, .f32⟩
  | .hbm, ⟨5, _⟩ => ⟨S16640, .f32⟩
  | .hbm, ⟨6, _⟩ => ⟨S16640x1, .f32⟩
  | .hbm, ⟨7, _⟩ => ⟨S_, .f32⟩
  | .hbm, ⟨8, _⟩ => ⟨S16640x1, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S16640x1, .f32⟩
  | .hbm, ⟨14, _⟩ => ⟨S16640x1024, .f32⟩
  | .hbm, ⟨15, _⟩ => ⟨S16640x1024, .f32⟩
  | .hbm, ⟨16, _⟩ => ⟨S1x1024, .f32⟩
  | .hbm, ⟨17, _⟩ => ⟨S16640x1024, .f32⟩
  | .hbm, ⟨18, _⟩ => ⟨S16640x1024, .f32⟩
  | .hbm, ⟨19, _⟩ => ⟨S16640x5632, .f32⟩
  | .hbm, ⟨20, _⟩ => ⟨S16640x3072, .f32⟩
  | .hbm, ⟨21, _⟩ => ⟨S16640x3072, .bf16⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel6.lean ====
abbrev S16640x2560 : Shape := ⟨2, ![16640, 2560]⟩
abbrev S32x2x256 : Shape := ⟨3, ![32, 2, 256]⟩
abbrev S32x3x256 : Shape := ⟨3, ![32, 3, 256]⟩
abbrev S32x256 : Shape := ⟨2, ![32, 256]⟩
abbrev S3x256 : Shape := ⟨2, ![3, 256]⟩
abbrev S4x256 : Shape := ⟨2, ![4, 256]⟩
abbrev S256 : Shape := ⟨1, ![256]⟩
abbrev S4x64x64 : Shape := ⟨3, ![4, 64, 64]⟩
abbrev S4x64 : Shape := ⟨2, ![4, 64]⟩
abbrev S16640x512 : Shape := ⟨2, ![16640, 512]⟩
abbrev S1x256 : Shape := ⟨2, ![1, 256]⟩
abbrev S4x4 : Shape := ⟨2, ![4, 4]⟩
abbrev S_ : Shape := ⟨0, ![]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S32x1x256 : Shape := ⟨3, ![32, 1, 256]⟩
abbrev S32x8x256 : Shape := ⟨3, ![32, 8, 256]⟩
abbrev S32x6x256 : Shape := ⟨3, ![32, 6, 256]⟩
abbrev S32x5x256 : Shape := ⟨3, ![32, 5, 256]⟩
abbrev S8x1024 : Shape := ⟨2, ![8, 1024]⟩
abbrev S1x8x256 : Shape := ⟨3, ![1, 8, 256]⟩
abbrev S8x512 : Shape := ⟨2, ![8, 512]⟩
abbrev S16x256 : Shape := ⟨2, ![16, 256]⟩
abbrev S8x256 : Shape := ⟨2, ![8, 256]⟩

abbrev nBuf : Space → Nat
  | .hbm => 57
  | .vmem => 27
  | .smem => 0
  | _ => 0

abbrev bufTy : (tb : Table) → Fin (tcTables nBuf tb) → BufTy
  | .hbm, ⟨0, _⟩ => ⟨S16640x2560, .f32⟩
  | .hbm, ⟨1, _⟩ => ⟨S32x2x256, .f32⟩
  | .hbm, ⟨2, _⟩ => ⟨S32x3x256, .f32⟩
  | .hbm, ⟨3, _⟩ => ⟨S32x256, .f32⟩
  | .hbm, ⟨4, _⟩ => ⟨S3x256, .f32⟩
  | .hbm, ⟨5, _⟩ => ⟨S4x256, .f32⟩
  | .hbm, ⟨6, _⟩ => ⟨S256, .f32⟩
  | .hbm, ⟨7, _⟩ => ⟨S4x64x64, .f32⟩
  | .hbm, ⟨8, _⟩ => ⟨S4x64, .f32⟩
  | .hbm, ⟨9, _⟩ => ⟨S4x64x64, .f32⟩
  | .hbm, ⟨10, _⟩ => ⟨S4x64, .f32⟩
  | .hbm, ⟨11, _⟩ => ⟨S256, .f32⟩
  | .hbm, ⟨12, _⟩ => ⟨S16640x512, .f32⟩
  | .hbm, ⟨13, _⟩ => ⟨S1x256, .f32⟩
  | .hbm, ⟨14, _⟩ => ⟨S4x4, .i32⟩
  | .hbm, ⟨15, _⟩ => ⟨S4x4, .i32⟩
  | .hbm, ⟨16, _⟩ => ⟨S_, .i32⟩
  | .hbm, ⟨17, _⟩ => ⟨S4x4, .i32⟩
  | .hbm, ⟨18, _⟩ => ⟨S4x4, .i32⟩
  | .hbm, ⟨19, _⟩ => ⟨S4x4, .i1⟩
  | .hbm, ⟨20, _⟩ => ⟨S4x4, .f32⟩
  | .hbm, ⟨21, _⟩ => ⟨S4x1x4x1, .f32⟩
  | .hbm, ⟨22, _⟩ => ⟨S4x64x1x64, .f32⟩
  | .hbm, ⟨23, _⟩ => ⟨S4x64x4x64, .f32⟩
  | .hbm, ⟨24, _⟩ => ⟨S4x64x4x64, .f32⟩
  | .hbm, ⟨25, _⟩ => ⟨S4x64x4x64, .f32⟩
  | .hbm, ⟨26, _⟩ => ⟨S256x256, .f32⟩
  | .hbm, ⟨27, _⟩ => ⟨S256x256, .bf16⟩
  | .hbm, ⟨28, _⟩ => ⟨S1x256, .f32⟩
  | .hbm, ⟨29, _⟩ => ⟨S4x4, .i32⟩
  | .hbm, ⟨30, _⟩ => ⟨S4x4, .i32⟩
  | .hbm, ⟨31, _⟩ => ⟨S_, .i32⟩
  | .hbm, ⟨32, _⟩ => ⟨S4x4, .i32⟩
  | .hbm, ⟨33, _⟩ => ⟨S4x4, .i32⟩
  | .hbm, ⟨34, _⟩ => ⟨S4x4, .i1⟩
  | .hbm, ⟨35, _⟩ => ⟨S4x4, .f32⟩
  | .hbm, ⟨36, _⟩ => ⟨S4x1x4x1, .f32⟩
  | .hbm, ⟨37, _⟩ => ⟨S4x64x1x64, .f32⟩
  | .hbm, ⟨38, _⟩ => ⟨S4x64x4x64, .f32⟩
  | .hbm, ⟨39, _⟩ => ⟨S4x64x4x64, .f32⟩
  | .hbm, ⟨40, _⟩ => ⟨S4x64x4x64, .f32⟩
  | .hbm, ⟨41, _⟩ => ⟨S256x256, .f32⟩
  | .hbm, ⟨42, _⟩ => ⟨S256x256, .bf16⟩
  | .hbm, ⟨43, _⟩ => ⟨S1x256, .f32⟩
  | .hbm, ⟨44, _⟩ => ⟨S1x256, .f32⟩
  | .hbm, ⟨45, _⟩ => ⟨S32x1x256, .f32⟩
  | .hbm, ⟨46, _⟩ => ⟨S32x8x256, .f32⟩
  | .hbm, ⟨47, _⟩ => ⟨S_, .f32⟩
  | .hbm, ⟨48, _⟩ => ⟨S32x6x256, .f32⟩
  | .hbm, ⟨49, _⟩ => ⟨S32x8x256, .f32⟩
  | .hbm, ⟨50, _⟩ => ⟨S_, .f32⟩
  | .hbm, ⟨51, _⟩ => ⟨S32x5x256, .f32⟩
  | .hbm, ⟨52, _⟩ => ⟨S32x8x256, .f32⟩
  | .hbm, ⟨53, _⟩ => ⟨S16640x512, .f32⟩
  | .hbm, ⟨54, _⟩ => ⟨S32x8x256, .f32⟩
  | .hbm, ⟨55, _⟩ => ⟨S32x8x256, .f32⟩
  | .hbm, ⟨56, _⟩ => ⟨S32x8x256, .f32⟩
  | .local _ .vmem, ⟨0, _⟩ => ⟨S8x1024, .f32⟩
  | .local _ .vmem, ⟨1, _⟩ => ⟨S8x1024, .f32⟩
  | .local _ .vmem, ⟨2, _⟩ => ⟨S1x8x256, .f32⟩
  | .local _ .vmem, ⟨3, _⟩ => ⟨S1x8x256, .f32⟩
  | .local _ .vmem, ⟨4, _⟩ => ⟨S1x8x256, .f32⟩
  | .local _ .vmem, ⟨5, _⟩ => ⟨S1x8x256, .f32⟩
  | .local _ .vmem, ⟨6, _⟩ => ⟨S1x8x256, .f32⟩
  | .local _ .vmem, ⟨7, _⟩ => ⟨S1x8x256, .f32⟩
  | .local _ .vmem, ⟨8, _⟩ => ⟨S3x256, .f32⟩
  | .local _ .vmem, ⟨9, _⟩ => ⟨S4x256, .f32⟩
  | .local _ .vmem, ⟨10, _⟩ => ⟨S1x256, .f32⟩
  | .local _ .vmem, ⟨11, _⟩ => ⟨S256x256, .bf16⟩
  | .local _ .vmem, ⟨12, _⟩ => ⟨S1x256, .f32⟩
  | .local _ .vmem, ⟨13, _⟩ => ⟨S256x256, .bf16⟩
  | .local _ .vmem, ⟨14, _⟩ => ⟨S1x256, .f32⟩
  | .local _ .vmem, ⟨15, _⟩ => ⟨S1x256, .f32⟩
  | .local _ .vmem, ⟨16, _⟩ => ⟨S8x512, .f32⟩
  | .local _ .vmem, ⟨17, _⟩ => ⟨S8x512, .f32⟩
  | .local _ .vmem, ⟨18, _⟩ => ⟨S1x8x256, .f32⟩
  | .local _ .vmem, ⟨19, _⟩ => ⟨S1x8x256, .f32⟩
  | .local _ .vmem, ⟨20, _⟩ => ⟨S1x8x256, .f32⟩
  | .local _ .vmem, ⟨21, _⟩ => ⟨S1x8x256, .f32⟩
  | .local _ .vmem, ⟨22, _⟩ => ⟨S1x8x256, .f32⟩
  | .local _ .vmem, ⟨23, _⟩ => ⟨S1x8x256, .f32⟩
  | .local _ .vmem, ⟨24, _⟩ => ⟨S16x256, .f32⟩
  | .local _ .vmem, ⟨25, _⟩ => ⟨S16x256, .f32⟩
  | .local _ .vmem, ⟨26, _⟩ => ⟨S8x256, .f32⟩
  | _, _ => ⟨S16640x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst : Ref sig .tc := ⟨.hbm, 47, rfl⟩
abbrev main_v32 : Ref sig .tc := ⟨.hbm, 48, rfl⟩
abbrev main_v33 : Ref sig .tc := ⟨.hbm, 49, rfl⟩
abbrev main_cst_1 : Ref sig .tc := ⟨.hbm, 50, rfl⟩
abbrev main_v34 : Ref sig .tc := ⟨.hbm, 51, rfl⟩
abbrev main_v35 : Ref sig .tc := ⟨.hbm, 52, rfl⟩
abbrev main_v36_0 : Ref sig .tc := ⟨.hbm, 53, rfl⟩
abbrev main_v36_1 : Ref sig .tc := ⟨.hbm, 54, rfl⟩
abbrev main_v36_2 : Ref sig .tc := ⟨.hbm, 55, rfl⟩
abbrev main_v36_3 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c2048_i32 : BitVec 32 := 2048#32
  let v1 : BitVec 32 := Scalar.addi c2048_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c2048_i32 : BitVec 32 := 2048#32
  let v1 : BitVec 32 := Scalar.addi c2048_i32 v0
  let v2 : BitVec 32 := Scalar.addi v1 arg1
  let c0_i32 : BitVec 32 := 0#32
  let c0_i32_0 : BitVec 32 := 0#32
  ![v2.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x8x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Reference6Ideal.lean ====
abbrev S16640x2560 : Shape := ⟨2, ![16640, 2560]⟩
abbrev S32x2x256 : Shape := ⟨3, ![32, 2, 256]⟩
abbrev S32x3x256 : Shape := ⟨3, ![32, 3, 256]⟩
abbrev S32x256 : Shape := ⟨2, ![32, 256]⟩
abbrev S3x256 : Shape := ⟨2, ![3, 256]⟩
abbrev S4x256 : Shape := ⟨2, ![4, 256]⟩
abbrev S256 : Shape := ⟨1, ![256]⟩
abbrev S4x64x64 : Shape := ⟨3, ![4, 64, 64]⟩
abbrev S4x64 : Shape := ⟨2, ![4, 64]⟩
abbrev S16640x512 : Shape := ⟨2, ![16640, 512]⟩
abbrev S256x1024 : Shape := ⟨2, ![256, 1024]⟩
abbrev S32x8x1024 : Shape := ⟨3, ![32, 8, 1024]⟩
abbrev S32x8x256 : Shape := ⟨3, ![32, 8, 256]⟩
abbrev S32x10x256 : Shape := ⟨3, ![32, 10, 256]⟩
abbrev S1x256 : Shape := ⟨2, ![1, 256]⟩
abbrev S1x1x256 : Shape := ⟨3, ![1, 1, 256]⟩
abbrev S8 : Shape := ⟨1, ![8]⟩
abbrev S_ : Shape := ⟨0, ![]⟩
abbrev S32x11x256 : Shape := ⟨3, ![32, 11, 256]⟩
abbrev S32x8x4x64 : Shape := ⟨4, ![32, 8, 4, 64]⟩
abbrev S4x64x32x8 : Shape := ⟨4, ![4, 64, 32, 8]⟩
abbrev S1x1x4x64 : Shape := ⟨4, ![1, 1, 4, 64]⟩
abbrev S1x8x1 : Shape := ⟨3, ![1, 8, 1]⟩
abbrev S32x1x256 : Shape := ⟨3, ![32, 1, 256]⟩
abbrev S32x8x512 : Shape := ⟨3, ![32, 8, 512]⟩
abbrev S256x512 : Shape := ⟨2, ![256, 512]⟩
abbrev S16384x512 : Shape := ⟨2, ![16384, 512]⟩

abbrev nBuf : Space → Nat
  | .hbm => 210
  | .vmem => 0
  | .smem => 0
  | _ => 0

abbrev hbmTy0_0 (i : Nat) : BufTy := match i % 128 with
  | 0 => ⟨S16640x2560, .f32⟩
  | 1 => ⟨S32x2x256, .f32⟩
  | 2 => ⟨S32x3x256, .f32⟩
  | 3 => ⟨S32x256, .f32⟩
  | 4 => ⟨S3x256, .f32⟩
  | 5 => ⟨S4x256, .f32⟩
  | 6 => ⟨S256, .f32⟩
  | 7 => ⟨S4x64x64, .f32⟩
  | 8 => ⟨S4x64, .f32⟩
  | 9 => ⟨S4x64x64, .f32⟩
  | 10 => ⟨S4x64, .f32⟩
  | 11 => ⟨S256, .f32⟩
  | 12 => ⟨S16640x512, .f32⟩
  | 13 => ⟨S256x1024, .f32⟩
  | 14 => ⟨S32x8x1024, .f32⟩
  | 15 => ⟨S32x8x256, .f32⟩
  | 16 => ⟨S32x8x256, .f32⟩
  | 17 => ⟨S32x8x256, .f32⟩
  | 18 => ⟨S32x8x256, .f32⟩
  | 19 => ⟨S32x8x256, .f32⟩
  | 20 => ⟨S32x10x256, .f32⟩
  | 21 => ⟨S32x8x256, .f32⟩
  | 22 => ⟨S1x256, .f32⟩
  | 23 => ⟨S256, .f32⟩
  | 24 => ⟨S1x1x256, .f32⟩
  | 25 => ⟨S32x8x256, .f32⟩
  | 26 => ⟨S32x8x256, .f32⟩
  | 27 => ⟨S32x8x256, .f32⟩
  | 28 => ⟨S1x256, .f32⟩
  | 29 => ⟨S256, .f32⟩
  | 30 => ⟨S1x1x256, .f32⟩
  | 31 => ⟨S32x8x256, .f32⟩
  | 32 => ⟨S32x8x256, .f32⟩
  | 33 => ⟨S32x8x256, .f32⟩
  | 34 => ⟨S32x8x256, .f32⟩
  | 35 => ⟨S1x256, .f32⟩
  | 36 => ⟨S256, .f32⟩
  | 37 => ⟨S1x1x256, .f32⟩
  | 38 => ⟨S32x8x256, .f32⟩
  | 39 => ⟨S32x8x256, .f32⟩
  | 40 => ⟨S32x8x256, .f32⟩
  | 41 => ⟨S8, .i32⟩
  | 42 => ⟨S_, .i32⟩
  | 43 => ⟨S8, .i32⟩
  | 44 => ⟨S8, .i32⟩
  | 45 => ⟨S32x11x256, .f32⟩
  | 46 => ⟨S32x8x256, .f32⟩
  | 47 => ⟨S1x256, .f32⟩
  | 48 => ⟨S256, .f32⟩
  | 49 => ⟨S1x1x256, .f32⟩
  | 50 => ⟨S32x8x256, .f32⟩
  | 51 => ⟨S32x8x256, .f32⟩
  | 52 => ⟨S32x8x256, .f32⟩
  | 53 => ⟨S1x256, .f32⟩
  | 54 => ⟨S256, .f32⟩
  | 55 => ⟨S1x1x256, .f32⟩
  | 56 => ⟨S32x8x256, .f32⟩
  | 57 => ⟨S32x8x256, .f32⟩
  | 58 => ⟨S32x8x256, .f32⟩
  | 59 => ⟨S32x8x256, .f32⟩
  | 60 => ⟨S1x256, .f32⟩
  | 61 => ⟨S256, .f32⟩
  | 62 => ⟨S1x1x256, .f32⟩
  | 63 => ⟨S32x8x256, .f32⟩
  | 64 => ⟨S32x8x256, .f32⟩
  | 65 => ⟨S32x8x256, .f32⟩
  | 66 => ⟨S32x8x256, .f32⟩
  | 67 => ⟨S1x256, .f32⟩
  | 68 => ⟨S256, .f32⟩
  | 69 => ⟨S1x1x256, .f32⟩
  | 70 => ⟨S32x8x256, .f32⟩
  | 71 => ⟨S32x8x256, .f32⟩
  | 72 => ⟨S32x8x256, .f32⟩
  | 73 => ⟨S1x1x256, .f32⟩
  | 74 => ⟨S32x8x256, .f32⟩
  | 75 => ⟨S32x8x256, .f32⟩
  | 76 => ⟨S32x8x4x64, .f32⟩
  | 77 => ⟨S4x64x32x8, .f32⟩
  | 78 => ⟨S32x8x4x64, .f32⟩
  | 79 => ⟨S1x1x4x64, .f32⟩
  | 80 => ⟨S32x8x4x64, .f32⟩
  | 81 => ⟨S32x8x4x64, .f32⟩
  | 82 => ⟨S32x8x4x64, .f32⟩
  | 83 => ⟨S32x8x4x64, .f32⟩
  | 84 => ⟨S_, .f32⟩
  | 85 => ⟨S32x8x4x64, .f32⟩
  | 86 => ⟨S32x8x4x64, .f32⟩
  | 87 => ⟨S_, .f32⟩
  | 88 => ⟨S32x8x4x64, .f32⟩
  | 89 => ⟨S32x8x4x64, .f32⟩
  | 90 => ⟨S32x8x256, .f32⟩
  | 91 => ⟨S4x64x32x8, .f32⟩
  | 92 => ⟨S32x8x4x64, .f32⟩
  | 93 => ⟨S1x1x4x64, .f32⟩
  | 94 => ⟨S32x8x4x64, .f32⟩
  | 95 => ⟨S32x8x4x64, .f32⟩
  | 96 => ⟨S32x8x4x64, .f32⟩
  | 97 => ⟨S32x8x4x64, .f32⟩
  | 98 => ⟨S_, .f32⟩
  | 99 => ⟨S32x8x4x64, .f32⟩
  | 100 => ⟨S32x8x4x64, .f32⟩
  | 101 => ⟨S_, .f32⟩
  | 102 => ⟨S32x8x4x64, .f32⟩
  | 103 => ⟨S32x8x4x64, .f32⟩
  | 104 => ⟨S32x8x256, .f32⟩
  | 105 => ⟨S_, .f32⟩
  | 106 => ⟨S32x8x256, .f32⟩
  | 107 => ⟨S32x8x256, .f32⟩
  | 108 => ⟨S256, .f32⟩
  | 109 => ⟨S_, .f32⟩
  | 110 => ⟨S256, .f32⟩
  | 111 => ⟨S256, .f32⟩
  | 112 => ⟨S256, .f32⟩
  | 113 => ⟨S256, .f32⟩
  | 114 => ⟨S256, .i1⟩
  | 115 => ⟨S256, .f32⟩
  | 116 => ⟨S256, .f32⟩
  | 117 => ⟨S256, .f32⟩
  | 118 => ⟨S256, .f32⟩
  | 119 => ⟨S256, .f32⟩
  | 120 => ⟨S256, .f32⟩
  | 121 => ⟨S256, .f32⟩
  | 122 => ⟨S256, .f32⟩
  | 123 => ⟨S1x1x256, .f32⟩
  | 124 => ⟨S32x8x256, .f32⟩
  | 125 => ⟨S32x8x256, .f32⟩
  | 126 => ⟨S32x8x256, .f32⟩
  | 127 => ⟨S_, .f32⟩
  | _ => ⟨S16640x2560, .f32⟩

abbrev hbmTy0_1 (i : Nat) : BufTy := match i % 128 with
  | 0 => ⟨S32x8x256, .f32⟩
  | 1 => ⟨S32x8x256, .f32⟩
  | 2 => ⟨S32x8x256, .f32⟩
  | 3 => ⟨S32x8x256, .f32⟩
  | 4 => ⟨S32x8x256, .f32⟩
  | 5 => ⟨S_, .i32⟩
  | 6 => ⟨S8, .i32⟩
  | 7 => ⟨S8, .i1⟩
  | 8 => ⟨S1x8x1, .i1⟩
  | 9 => ⟨S_, .f32⟩
  | 10 => ⟨S_, .f32⟩
  | 11 => ⟨S32x8x256, .i1⟩
  | 12 => ⟨S32x8x256, .f32⟩
  | 13 => ⟨S32x8x256, .f32⟩
  | 14 => ⟨S32x8x256, .f32⟩
  | 15 => ⟨S32x8x256, .f32⟩
  | 16 => ⟨S32x1x256, .f32⟩
  | 17 => ⟨S32x256, .f32⟩
  | 18 => ⟨S32x256, .f32⟩
  | 19 => ⟨S32x1x256, .f32⟩
  | 20 => ⟨S32x256, .f32⟩
  | 21 => ⟨S32x256, .f32⟩
  | 22 => ⟨S32x1x256, .f32⟩
  | 23 => ⟨S32x256, .f32⟩
  | 24 => ⟨S32x256, .f32⟩
  | 25 => ⟨S32x1x256, .f32⟩
  | 26 => ⟨S32x256, .f32⟩
  | 27 => ⟨S32x256, .f32⟩
  | 28 => ⟨S32x1x256, .f32⟩
  | 29 => ⟨S32x256, .f32⟩
  | 30 => ⟨S32x256, .f32⟩
  | 31 => ⟨S32x1x256, .f32⟩
  | 32 => ⟨S32x256, .f32⟩
  | 33 => ⟨S32x256, .f32⟩
  | 34 => ⟨S32x1x256, .f32⟩
  | 35 => ⟨S32x256, .f32⟩
  | 36 => ⟨S32x256, .f32⟩
  | 37 => ⟨S32x1x256, .f32⟩
  | 38 => ⟨S32x256, .f32⟩
  | 39 => ⟨S32x256, .f32⟩
  | 40 => ⟨S32x1x256, .f32⟩
  | 41 => ⟨S32x256, .f32⟩
  | 42 => ⟨S32x256, .f32⟩
  | 43 => ⟨S32x1x256, .f32⟩
  | 44 => ⟨S32x256, .f32⟩
  | 45 => ⟨S32x256, .f32⟩
  | 46 => ⟨S32x1x256, .f32⟩
  | 47 => ⟨S32x256, .f32⟩
  | 48 => ⟨S32x256, .f32⟩
  | 49 => ⟨S32x1x256, .f32⟩
  | 50 => ⟨S32x256, .f32⟩
  | 51 => ⟨S32x256, .f32⟩
  | 52 => ⟨S32x1x256, .f32⟩
  | 53 => ⟨S32x256, .f32⟩
  | 54 => ⟨S32x256, .f32⟩
  | 55 => ⟨S32x1x256, .f32⟩
  | 56 => ⟨S32x256, .f32⟩
  | 57 => ⟨S32x256, .f32⟩
  | 58 => ⟨S32x1x256, .f32⟩
  | 59 => ⟨S32x256, .f32⟩
  | 60 => ⟨S32x256, .f32⟩
  | 61 => ⟨S32x1x256, .f32⟩
  | 62 => ⟨S32x256, .f32⟩
  | 63 => ⟨S32x256, .f32⟩
  | 64 => ⟨S32x1x256, .f32⟩
  | 65 => ⟨S32x1x256, .f32⟩
  | 66 => ⟨S32x1x256, .f32⟩
  | 67 => ⟨S32x1x256, .f32⟩
  | 68 => ⟨S32x1x256, .f32⟩
  | 69 => ⟨S32x1x256, .f32⟩
  | 70 => ⟨S32x1x256, .f32⟩
  | 71 => ⟨S32x1x256, .f32⟩
  | 72 => ⟨S32x8x256, .f32⟩
  | 73 => ⟨S32x8x256, .f32⟩
  | 74 => ⟨S32x8x512, .f32⟩
  | 75 => ⟨S256x512, .f32⟩
  | 76 => ⟨S32x1x256, .f32⟩
  | 77 => ⟨S32x8x256, .f32⟩
  | 78 => ⟨S16384x512, .f32⟩
  | 79 => ⟨S16640x512, .f32⟩
  | 80 => ⟨S32x8x256, .f32⟩
  | 81 => ⟨S32x8x256, .f32⟩
  | _ => ⟨S16640x2560, .f32⟩

abbrev hbmTy (i : Nat) : BufTy := match i / 128 with
  | 0 => hbmTy0_0 i
  | 1 => hbmTy0_1 i
  | _ => ⟨S16640x2560, .f32⟩

abbrev bufTy : (tb : Table) → Fin (tcTables nBuf tb) → BufTy
  | .hbm, ⟨i, _⟩ => hbmTy i
  | _, _ => ⟨S16640x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst : Ref sig .tc := ⟨.hbm, 84, rfl⟩
abbrev main_v70 : Ref sig .tc := ⟨.hbm, 85, rfl⟩
abbrev main_v71 : Ref sig .tc := ⟨.hbm, 86, rfl⟩
abbrev main_cst_0 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_1 : Ref sig .tc := ⟨.hbm, 98, rfl⟩
abbrev main_v82 : Ref sig .tc := ⟨.hbm, 99, rfl⟩
abbrev main_v83 : Ref sig .tc := ⟨.hbm, 100, rfl⟩
abbrev main_cst_2 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_cst_3 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_call0_cst : Ref sig .tc := ⟨.hbm, 109, rfl⟩
abbrev main_call0_v0 : Ref sig .tc := ⟨.hbm, 110, rfl⟩
abbrev main_call0_v1 : Ref sig .tc := ⟨.hbm, 111, rfl⟩
abbrev main_call0_v2 : Ref sig .tc := ⟨.hbm, 112, rfl⟩
abbrev main_call0_v3 : Ref sig .tc := ⟨.hbm, 113, rfl⟩
abbrev main_call0_v4 : Ref sig .tc := ⟨.hbm, 114, rfl⟩
abbrev main_call0_v5 : Ref sig .tc := ⟨.hbm, 115, rfl⟩
abbrev main_call0_v6 : Ref sig .tc := ⟨.hbm, 116, rfl⟩
abbrev main_call0_v7 : Ref sig .tc := ⟨.hbm, 117, rfl⟩
abbrev main_call0_v8 : Ref sig .tc := ⟨.hbm, 118, rfl⟩
abbrev main_call0_v9 : Ref sig .tc := ⟨.hbm, 119, rfl⟩
abbrev main_call0_v10 : Ref sig .tc := ⟨.hbm, 120, rfl⟩
abbrev main_call0_v11 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_4 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_5 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_6 : Ref sig .tc := ⟨.hbm, 137, rfl⟩
abbrev main_call1_v0 : Ref sig .tc := ⟨.hbm, 138, rfl⟩
abbrev main_call1_v1 : Ref sig .tc := ⟨.hbm, 139, rfl⟩
abbrev main_call1_v2 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩

abbrev nD : Nat := 1
abbrev τ : Topo := Topo.v7x

variable {F : FTy → Type} [FloatOps F]
-- ==== Kernel7.lean ====
abbrev S16640x2560 : Shape := ⟨2, ![16640, 2560]⟩
abbrev S3x256 : Shape := ⟨2, ![3, 256]⟩
abbrev S4x256 : Shape := ⟨2, ![4, 256]⟩
abbrev S256 : Shape := ⟨1, ![256]⟩
abbrev S4x64x64 : Shape := ⟨3, ![4, 64, 64]⟩
abbrev S4x64 : Shape := ⟨2, ![4, 64]⟩
abbrev S1x256 : Shape := ⟨2, ![1, 256]⟩
abbrev S4x4 : Shape := ⟨2, ![4, 4]⟩
abbrev S_ : Shape := ⟨0, ![]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S4x8x256 : Shape := ⟨3, ![4, 8, 256]⟩
abbrev S16640x512 : Shape := ⟨2, ![16640, 512]⟩
abbrev S1024x1024 : Shape := ⟨2, ![1024, 1024]⟩
abbrev S1x8x256 : Shape := ⟨3, ![1, 8, 256]⟩
abbrev S1024x512 : Shape := ⟨2, ![1024, 512]⟩
abbrev S1032x256 : Shape := ⟨2, ![1032, 256]⟩
abbrev S8x256 : Shape := ⟨2, ![8, 256]⟩
abbrev S1024x256 : Shape := ⟨2, ![1024, 256]⟩

abbrev nBuf : Space → Nat
  | .hbm => 49
  | .vmem => 27
  | .smem => 0
  | _ => 0

abbrev bufTy : (tb : Table) → Fin (tcTables nBuf tb) → BufTy
  | .hbm, ⟨0, _⟩ => ⟨S16640x2560, .f32⟩
  | .hbm, ⟨1, _⟩ => ⟨S3x256, .f32⟩
  | .hbm, ⟨2, _⟩ => ⟨S4x256, .f32⟩
  | .hbm, ⟨3, _⟩ => ⟨S256, .f32⟩
  | .hbm, ⟨4, _⟩ => ⟨S4x64x64, .f32⟩
  | .hbm, ⟨5, _⟩ => ⟨S4x64, .f32⟩
  | .hbm, ⟨6, _⟩ => ⟨S4x64x64, .f32⟩
  | .hbm, ⟨7, _⟩ => ⟨S4x64, .f32⟩
  | .hbm, ⟨8, _⟩ => ⟨S256, .f32⟩
  | .hbm, ⟨9, _⟩ => ⟨S1x256, .f32⟩
  | .hbm, ⟨10, _⟩ => ⟨S4x4, .i32⟩
  | .hbm, ⟨11, _⟩ => ⟨S4x4, .i32⟩
  | .hbm, ⟨12, _⟩ => ⟨S_, .i32⟩
  | .hbm, ⟨13, _⟩ => ⟨S4x4, .i32⟩
  | .hbm, ⟨14, _⟩ => ⟨S4x4, .i32⟩
  | .hbm, ⟨15, _⟩ => ⟨S4x4, .i1⟩
  | .hbm, ⟨16, _⟩ => ⟨S4x4, .f32⟩
  | .hbm, ⟨17, _⟩ => ⟨S4x1x4x1, .f32⟩
  | .hbm, ⟨18, _⟩ => ⟨S4x64x1x64, .f32⟩
  | .hbm, ⟨19, _⟩ => ⟨S4x64x4x64, .f32⟩
  | .hbm, ⟨20, _⟩ => ⟨S4x64x4x64, .f32⟩
  | .hbm, ⟨21, _⟩ => ⟨S4x64x4x64, .f32⟩
  | .hbm, ⟨22, _⟩ => ⟨S256x256, .f32⟩
  | .hbm, ⟨23, _⟩ => ⟨S256x256, .bf16⟩
  | .hbm, ⟨24, _⟩ => ⟨S1x256, .f32⟩
  | .hbm, ⟨25, _⟩ => ⟨S4x4, .i32⟩
  | .hbm, ⟨26, _⟩ => ⟨S4x4, .i32⟩
  | .hbm, ⟨27, _⟩ => ⟨S_, .i32⟩
  | .hbm, ⟨28, _⟩ => ⟨S4x4, .i32⟩
  | .hbm, ⟨29, _⟩ => ⟨S4x4, .i32⟩
  | .hbm, ⟨30, _⟩ => ⟨S4x4, .i1⟩
  | .hbm, ⟨31, _⟩ => ⟨S4x4, .f32⟩
  | .hbm, ⟨32, _⟩ => ⟨S4x1x4x1, .f32⟩
  | .hbm, ⟨33, _⟩ => ⟨S4x64x1x64, .f32⟩
  | .hbm, ⟨34, _⟩ => ⟨S4x64x4x64, .f32⟩
  | .hbm, ⟨35, _⟩ => ⟨S4x64x4x64, .f32⟩
  | .hbm, ⟨36, _⟩ => ⟨S4x64x4x64, .f32⟩
  | .hbm, ⟨37, _⟩ => ⟨S256x256, .f32⟩
  | .hbm, ⟨38, _⟩ => ⟨S256x256, .bf16⟩
  | .hbm, ⟨39, _⟩ => ⟨S1x256, .f32⟩
  | .hbm, ⟨40, _⟩ => ⟨S1x256, .f32⟩
  | .hbm, ⟨41, _⟩ => ⟨S_, .f32⟩
  | .hbm, ⟨42, _⟩ => ⟨S4x8x256, .f32⟩
  | .hbm, ⟨43, _⟩ => ⟨S_, .f32⟩
  | .hbm, ⟨44, _⟩ => ⟨S16640x512, .f32⟩
  | .hbm, ⟨45, _⟩ => ⟨S16640x512, .f32⟩
  | .hbm, ⟨46, _⟩ => ⟨S4x8x256, .f32⟩
  | .hbm, ⟨47, _⟩ => ⟨S4x8x256, .f32⟩
  | .hbm, ⟨48, _⟩ => ⟨S4x8x256, .f32⟩
  | .local _ .vmem, ⟨0, _⟩ => ⟨S1024x1024, .f32⟩
  | .local _ .vmem, ⟨1, _⟩ => ⟨S1024x1024, .f32⟩
  | .local _ .vmem, ⟨2, _⟩ => ⟨S1x8x256, .f32⟩
  | .local _ .vmem, ⟨3, _⟩ => ⟨S1x8x256, .f32⟩
  | .local _ .vmem, ⟨4, _⟩ => ⟨S1x8x256, .f32⟩
  | .local _ .vmem, ⟨5, _⟩ => ⟨S1x8x256, .f32⟩
  | .local _ .vmem, ⟨6, _⟩ => ⟨S1x8x256, .f32⟩
  | .local _ .vmem, ⟨7, _⟩ => ⟨S1x8x256, .f32⟩
  | .local _ .vmem, ⟨8, _⟩ => ⟨S3x256, .f32⟩
  | .local _ .vmem, ⟨9, _⟩ => ⟨S4x256, .f32⟩
  | .local _ .vmem, ⟨10, _⟩ => ⟨S1x256, .f32⟩
  | .local _ .vmem, ⟨11, _⟩ => ⟨S256x256, .bf16⟩
  | .local _ .vmem, ⟨12, _⟩ => ⟨S1x256, .f32⟩
  | .local _ .vmem, ⟨13, _⟩ => ⟨S256x256, .bf16⟩
  | .local _ .vmem, ⟨14, _⟩ => ⟨S1x256, .f32⟩
  | .local _ .vmem, ⟨15, _⟩ => ⟨S1x256, .f32⟩
  | .local _ .vmem, ⟨16, _⟩ => ⟨S1024x512, .f32⟩
  | .local _ .vmem, ⟨17, _⟩ => ⟨S1024x512, .f32⟩
  | .local _ .vmem, ⟨18, _⟩ => ⟨S1x8x256, .f32⟩
  | .local _ .vmem, ⟨19, _⟩ => ⟨S1x8x256, .f32⟩
  | .local _ .vmem, ⟨20, _⟩ => ⟨S1x8x256, .f32⟩
  | .local _ .vmem, ⟨21, _⟩ => ⟨S1x8x256, .f32⟩
  | .local _ .vmem, ⟨22, _⟩ => ⟨S1x8x256, .f32⟩
  | .local _ .vmem, ⟨23, _⟩ => ⟨S1x8x256, .f32⟩
  | .local _ .vmem, ⟨24, _⟩ => ⟨S1032x256, .f32⟩
  | .local _ .vmem, ⟨25, _⟩ => ⟨S1032x256, .f32⟩
  | .local _ .vmem, ⟨26, _⟩ => ⟨S8x256, .f32⟩
  | _, _ => ⟨S16640x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev main_v32_2 : Ref sig .tc := ⟨.hbm, 47, rfl⟩
abbrev main_v32_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x8x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Reference7Ideal.lean ====
abbrev S16640x2560 : Shape := ⟨2, ![16640, 2560]⟩
abbrev S3x256 : Shape := ⟨2, ![3, 256]⟩
abbrev S4x256 : Shape := ⟨2, ![4, 256]⟩
abbrev S256 : Shape := ⟨1, ![256]⟩
abbrev S4x64x64 : Shape := ⟨3, ![4, 64, 64]⟩
abbrev S4x64 : Shape := ⟨2, ![4, 64]⟩
abbrev S16384x1024 : Shape := ⟨2, ![16384, 1024]⟩
abbrev S4x4096x1024 : Shape := ⟨3, ![4, 4096, 1024]⟩
abbrev S4x4096x256 : Shape := ⟨3, ![4, 4096, 256]⟩
abbrev S4096 : Shape := ⟨1, ![4096]⟩
abbrev S_ : Shape := ⟨0, ![]⟩
abbrev S4x3x256 : Shape := ⟨3, ![4, 3, 256]⟩
abbrev S4x4099x256 : Shape := ⟨3, ![4, 4099, 256]⟩
abbrev S1x256 : Shape := ⟨2, ![1, 256]⟩
abbrev S1x1x256 : Shape := ⟨3, ![1, 1, 256]⟩
abbrev S4x4096x4x64 : Shape := ⟨4, ![4, 4096, 4, 64]⟩
abbrev S4x64x4x4096 : Shape := ⟨4, ![4, 64, 4, 4096]⟩
abbrev S1x1x4x64 : Shape := ⟨4, ![1, 1, 4, 64]⟩
abbrev S1x4096x1 : Shape := ⟨3, ![1, 4096, 1]⟩
abbrev S4x1x256 : Shape := ⟨3, ![4, 1, 256]⟩
abbrev S4x2x256 : Shape := ⟨3, ![4, 2, 256]⟩
abbrev S4x4098x256 : Shape := ⟨3, ![4, 4098, 256]⟩
abbrev S4x4096x512 : Shape := ⟨3, ![4, 4096, 512]⟩
abbrev S16384x512 : Shape := ⟨2, ![16384, 512]⟩
abbrev S256x512 : Shape := ⟨2, ![256, 512]⟩
abbrev S16640x512 : Shape := ⟨2, ![16640, 512]⟩
abbrev S4x8x256 : Shape := ⟨3, ![4, 8, 256]⟩

abbrev nBuf : Space → Nat
  | .hbm => 209
  | .vmem => 0
  | .smem => 0
  | _ => 0

abbrev hbmTy0_0 (i : Nat) : BufTy := match i % 128 with
  | 0 => ⟨S16640x2560, .f32⟩
  | 1 => ⟨S3x256, .f32⟩
  | 2 => ⟨S4x256, .f32⟩
  | 3 => ⟨S256, .f32⟩
  | 4 => ⟨S4x64x64, .f32⟩
  | 5 => ⟨S4x64, .f32⟩
  | 6 => ⟨S4x64x64, .f32⟩
  | 7 => ⟨S4x64, .f32⟩
  | 8 => ⟨S256, .f32⟩
  | 9 => ⟨S16384x1024, .f32⟩
  | 10 => ⟨S4x4096x1024, .f32⟩
  | 11 => ⟨S4x4096x256, .f32⟩
  | 12 => ⟨S4x4096x256, .f32⟩
  | 13 => ⟨S4x4096x256, .f32⟩
  | 14 => ⟨S4x4096x256, .f32⟩
  | 15 => ⟨S4096, .i32⟩
  | 16 => ⟨S_, .f32⟩
  | 17 => ⟨S4x3x256, .f32⟩
  | 18 => ⟨S4x4099x256, .f32⟩
  | 19 => ⟨S4x4096x256, .f32⟩
  | 20 => ⟨S1x256, .f32⟩
  | 21 => ⟨S256, .f32⟩
  | 22 => ⟨S1x1x256, .f32⟩
  | 23 => ⟨S4x4096x256, .f32⟩
  | 24 => ⟨S4x4096x256, .f32⟩
  | 25 => ⟨S4x4096x256, .f32⟩
  | 26 => ⟨S1x256, .f32⟩
  | 27 => ⟨S256, .f32⟩
  | 28 => ⟨S1x1x256, .f32⟩
  | 29 => ⟨S4x4096x256, .f32⟩
  | 30 => ⟨S4x4096x256, .f32⟩
  | 31 => ⟨S4x4096x256, .f32⟩
  | 32 => ⟨S4x4096x256, .f32⟩
  | 33 => ⟨S1x256, .f32⟩
  | 34 => ⟨S256, .f32⟩
  | 35 => ⟨S1x1x256, .f32⟩
  | 36 => ⟨S4x4096x256, .f32⟩
  | 37 => ⟨S4x4096x256, .f32⟩
  | 38 => ⟨S4x4096x256, .f32⟩
  | 39 => ⟨S4x4096x256, .f32⟩
  | 40 => ⟨S1x256, .f32⟩
  | 41 => ⟨S256, .f32⟩
  | 42 => ⟨S1x1x256, .f32⟩
  | 43 => ⟨S4x4096x256, .f32⟩
  | 44 => ⟨S4x4096x256, .f32⟩
  | 45 => ⟨S4x4096x256, .f32⟩
  | 46 => ⟨S1x1x256, .f32⟩
  | 47 => ⟨S4x4096x256, .f32⟩
  | 48 => ⟨S4x4096x256, .f32⟩
  | 49 => ⟨S4x4096x4x64, .f32⟩
  | 50 => ⟨S4x64x4x4096, .f32⟩
  | 51 => ⟨S4x4096x4x64, .f32⟩
  | 52 => ⟨S1x1x4x64, .f32⟩
  | 53 => ⟨S4x4096x4x64, .f32⟩
  | 54 => ⟨S4x4096x4x64, .f32⟩
  | 55 => ⟨S4x4096x4x64, .f32⟩
  | 56 => ⟨S4x4096x4x64, .f32⟩
  | 57 => ⟨S_, .f32⟩
  | 58 => ⟨S4x4096x4x64, .f32⟩
  | 59 => ⟨S4x4096x4x64, .f32⟩
  | 60 => ⟨S_, .f32⟩
  | 61 => ⟨S4x4096x4x64, .f32⟩
  | 62 => ⟨S4x4096x4x64, .f32⟩
  | 63 => ⟨S4x4096x256, .f32⟩
  | 64 => ⟨S4x64x4x4096, .f32⟩
  | 65 => ⟨S4x4096x4x64, .f32⟩
  | 66 => ⟨S1x1x4x64, .f32⟩
  | 67 => ⟨S4x4096x4x64, .f32⟩
  | 68 => ⟨S4x4096x4x64, .f32⟩
  | 69 => ⟨S4x4096x4x64, .f32⟩
  | 70 => ⟨S4x4096x4x64, .f32⟩
  | 71 => ⟨S_, .f32⟩
  | 72 => ⟨S4x4096x4x64, .f32⟩
  | 73 => ⟨S4x4096x4x64, .f32⟩
  | 74 => ⟨S_, .f32⟩
  | 75 => ⟨S4x4096x4x64, .f32⟩
  | 76 => ⟨S4x4096x4x64, .f32⟩
  | 77 => ⟨S4x4096x256, .f32⟩
  | 78 => ⟨S_, .f32⟩
  | 79 => ⟨S4x4096x256, .f32⟩
  | 80 => ⟨S4x4096x256, .f32⟩
  | 81 => ⟨S256, .f32⟩
  | 82 => ⟨S_, .f32⟩
  | 83 => ⟨S256, .f32⟩
  | 84 => ⟨S256, .f32⟩
  | 85 => ⟨S256, .f32⟩
  | 86 => ⟨S256, .f32⟩
  | 87 => ⟨S256, .i1⟩
  | 88 => ⟨S256, .f32⟩
  | 89 => ⟨S256, .f32⟩
  | 90 => ⟨S256, .f32⟩
  | 91 => ⟨S256, .f32⟩
  | 92 => ⟨S256, .f32⟩
  | 93 => ⟨S256, .f32⟩
  | 94 => ⟨S256, .f32⟩
  | 95 => ⟨S256, .f32⟩
  | 96 => ⟨S1x1x256, .f32⟩
  | 97 => ⟨S4x4096x256, .f32⟩
  | 98 => ⟨S4x4096x256, .f32⟩
  | 99 => ⟨S4x4096x256, .f32⟩
  | 100 => ⟨S_, .f32⟩
  | 101 => ⟨S4x4096x256, .f32⟩
  | 102 => ⟨S4x4096x256, .f32⟩
  | 103 => ⟨S4x4096x256, .f32⟩
  | 104 => ⟨S4x4096x256, .f32⟩
  | 105 => ⟨S4x4096x256, .f32⟩
  | 106 => ⟨S_, .i32⟩
  | 107 => ⟨S4096, .i32⟩
  | 108 => ⟨S4096, .i1⟩
  | 109 => ⟨S1x4096x1, .i1⟩
  | 110 => ⟨S_, .f32⟩
  | 111 => ⟨S_, .f32⟩
  | 112 => ⟨S4x4096x256, .i1⟩
  | 113 => ⟨S4x4096x256, .f32⟩
  | 114 => ⟨S4x4096x256, .f32⟩
  | 115 => ⟨S4x4096x256, .f32⟩
  | 116 => ⟨S4x4096x256, .f32⟩
  | 117 => ⟨S_, .f32⟩
  | 118 => ⟨S4x256, .f32⟩
  | 119 => ⟨S_, .f32⟩
  | 120 => ⟨S4x4096x256, .f32⟩
  | 121 => ⟨S_, .i32⟩
  | 122 => ⟨S_, .i32⟩
  | 123 => ⟨S4x4096x256, .f32⟩
  | 124 => ⟨S4x4096x256, .f32⟩
  | 125 => ⟨S_, .i32⟩
  | 126 => ⟨S_, .i32⟩
  | 127 => ⟨S4x256, .f32⟩
  | _ => ⟨S16640x2560, .f32⟩

abbrev hbmTy0_1 (i : Nat) : BufTy := match i % 128 with
  | 0 => ⟨S4x4096x256, .f32⟩
  | 1 => ⟨S_, .i32⟩
  | 2 => ⟨S_, .i1⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S4x1x256, .f32⟩
  | 14 => ⟨S4x256, .f32⟩
  | 15 => ⟨S4x256, .f32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S4x1x256, .f32⟩
  | 25 => ⟨S4x256, .f32⟩
  | 26 => ⟨S4x256, .f32⟩
  | 27 => ⟨S4096, .i32⟩
  | 28 => ⟨S_, .i32⟩
  | 29 => ⟨S4096, .i32⟩
  | 30 => ⟨S4096, .i1⟩
  | 31 => ⟨S1x4096x1, .i1⟩
  | 32 => ⟨S4x1x256, .f32⟩
  | 33 => ⟨S4x4096x256, .i1⟩
  | 34 => ⟨S4x4096x256, .f32⟩
  | 35 => ⟨S4x4096x256, .f32⟩
  | 36 => ⟨S_, .i32⟩
  | 37 => ⟨S_, .i32⟩
  | 38 => ⟨S16384x1024, .f32⟩
  | 39 => ⟨S4x4096x1024, .f32⟩
  | 40 => ⟨S4x4096x256, .f32⟩
  | 41 => ⟨S4x4096x256, .f32⟩
  | 42 => ⟨S4x4096x256, .f32⟩
  | 43 => ⟨S4x4096x256, .f32⟩
  | 44 => ⟨S4x4096x256, .f32⟩
  | 45 => ⟨S_, .f32⟩
  | 46 => ⟨S4x2x256, .f32⟩
  | 47 => ⟨S4x4098x256, .f32⟩
  | 48 => ⟨S4x4096x256, .f32⟩
  | 49 => ⟨S1x256, .f32⟩
  | 50 => ⟨S256, .f32⟩
  | 51 => ⟨S1x1x256, .f32⟩
  | 52 => ⟨S4x4096x256, .f32⟩
  | 53 => ⟨S4x4096x256, .f32⟩
  | 54 => ⟨S4x4096x256, .f32⟩
  | 55 => ⟨S1x256, .f32⟩
  | 56 => ⟨S256, .f32⟩
  | 57 => ⟨S1x1x256, .f32⟩
  | 58 => ⟨S4x4096x256, .f32⟩
  | 59 => ⟨S4x4096x256, .f32⟩
  | 60 => ⟨S4x4096x256, .f32⟩
  | 61 => ⟨S4x4096x256, .f32⟩
  | 62 => ⟨S1x256, .f32⟩
  | 63 => ⟨S256, .f32⟩
  | 64 => ⟨S1x1x256, .f32⟩
  | 65 => ⟨S4x4096x256, .f32⟩
  | 66 => ⟨S4x4096x256, .f32⟩
  | 67 => ⟨S4x4096x256, .f32⟩
  | 68 => ⟨S_, .f32⟩
  | 69 => ⟨S4x3x256, .f32⟩
  | 70 => ⟨S4x4099x256, .f32⟩
  | 71 => ⟨S4x4096x256, .f32⟩
  | 72 => ⟨S4x4096x512, .f32⟩
  | 73 => ⟨S16384x512, .f32⟩
  | 74 => ⟨S_, .f32⟩
  | 75 => ⟨S256x512, .f32⟩
  | 76 => ⟨S16640x512, .f32⟩
  | 77 => ⟨S4x8x256, .f32⟩
  | 78 => ⟨S4x8x256, .f32⟩
  | 79 => ⟨S4x1x256, .f32⟩
  | 80 => ⟨S4x8x256, .f32⟩
  | _ => ⟨S16640x2560, .f32⟩

abbrev hbmTy (i : Nat) : BufTy := match i / 128 with
  | 0 => hbmTy0_0 i
  | 1 => hbmTy0_1 i
  | _ => ⟨S16640x2560, .f32⟩

abbrev bufTy : (tb : Table) → Fin (tcTables nBuf tb) → BufTy
  | .hbm, ⟨i, _⟩ => hbmTy i
  | _, _ => ⟨S16640x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_0 : Ref sig .tc := ⟨.hbm, 57, rfl⟩
abbrev main_v47 : Ref sig .tc := ⟨.hbm, 58, rfl⟩
abbrev main_v48 : Ref sig .tc := ⟨.hbm, 59, rfl⟩
abbrev main_cst_1 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_2 : Ref sig .tc := ⟨.hbm, 71, rfl⟩
abbrev main_v59 : Ref sig .tc := ⟨.hbm, 72, rfl⟩
abbrev main_v60 : Ref sig .tc := ⟨.hbm, 73, rfl⟩
abbrev main_cst_3 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_4 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_call0_cst : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_v8 : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_5 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_6 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_7 : Ref sig .tc := ⟨.hbm, 117, rfl⟩
abbrev main_v83 : Ref sig .tc := ⟨.hbm, 118, rfl⟩
abbrev main_cst_8 : Ref sig .tc := ⟨.hbm, 119, rfl⟩
abbrev main_v84 : Ref sig .tc := ⟨.hbm, 120, rfl⟩
abbrev main_c_9 : Ref sig .tc := ⟨.hbm, 121, rfl⟩
abbrev main_c_10 : Ref sig .tc := ⟨.hbm, 122, rfl⟩
abbrev main_v85_0 : Ref sig .tc := ⟨.hbm, 123, rfl⟩
abbrev main_v85_1 : Ref sig .tc := ⟨.hbm, 124, rfl⟩
abbrev main_v85_2 : Ref sig .tc := ⟨.hbm, 125, rfl⟩
abbrev main_v85_3 : Ref sig .tc := ⟨.hbm, 126, rfl⟩
abbrev main_v85_4 : Ref sig .tc := ⟨.hbm, 127, rfl⟩
abbrev main_v85_5 : Ref sig .tc := ⟨.hbm, 128, rfl⟩
abbrev main_while0c_c_19 : Ref sig .tc := ⟨.hbm, 129, rfl⟩
abbrev main_while0c_v126 : Ref sig .tc := ⟨.hbm, 130, rfl⟩
abbrev main_while0b_c_19 : Ref sig .tc := ⟨.hbm, 131, rfl⟩
abbrev main_while0b_v126 : Ref sig .tc := ⟨.hbm, 132, rfl⟩
abbrev main_while0b_call2_c : Ref sig .tc := ⟨.hbm, 133, rfl⟩
abbrev main_while0b_call2_v0 : Ref sig .tc := ⟨.hbm, 134, rfl⟩
abbrev main_while0b_call2_v1 : Ref sig .tc := ⟨.hbm, 135, rfl⟩
abbrev main_while0b_call2_c_0 : Ref sig .tc := ⟨.hbm, 136, rfl⟩
abbrev main_while0b_call2_v2 : Ref sig .tc := ⟨.hbm, 137, rfl⟩
abbrev main_while0b_call2_v3 : Ref sig .tc := ⟨.hbm, 138, rfl⟩
abbrev main_while0b_call2_c_1 : Ref sig .tc := ⟨.hbm, 139, rfl⟩
abbrev main_while0b_call2_c_2 : Ref sig .tc := ⟨.hbm, 140, rfl⟩
abbrev main_while0b_call2_v4 : Ref sig .tc := ⟨.hbm, 141, rfl⟩
abbrev main_while0b_v127 : Ref sig .tc := ⟨.hbm, 142, rfl⟩
abbrev main_while0b_v128 : Ref sig .tc := ⟨.hbm, 143, rfl⟩
abbrev main_while0b_call3_c : Ref sig .tc := ⟨.hbm, 144, rfl⟩
abbrev main_while0b_call3_v0 : Ref sig .tc := ⟨.hbm, 145, rfl⟩
abbrev main_while0b_call3_v1 : Ref sig .tc := ⟨.hbm, 146, rfl⟩
abbrev main_while0b_call3_c_0 : Ref sig .tc := ⟨.hbm, 147, rfl⟩
abbrev main_while0b_call3_v2 : Ref sig .tc := ⟨.hbm, 148, rfl⟩
abbrev main_while0b_call3_v3 : Ref sig .tc := ⟨.hbm, 149, rfl⟩
abbrev main_while0b_call3_c_1 : Ref sig .tc := ⟨.hbm, 150, rfl⟩
abbrev main_while0b_call3_c_2 : Ref sig .tc := ⟨.hbm, 151, rfl⟩
abbrev main_while0b_call3_v4 : Ref sig .tc := ⟨.hbm, 152, rfl⟩
abbrev main_while0b_v129 : Ref sig .tc := ⟨.hbm, 153, rfl⟩
abbrev main_while0b_v130 : Ref sig .tc := ⟨.hbm, 154, rfl⟩
abbrev main_while0b_v131 : Ref sig .tc := ⟨.hbm, 155, rfl⟩
abbrev main_while0b_v132 : Ref sig .tc := ⟨.hbm, 156, rfl⟩
abbrev main_while0b_v133 : Ref sig .tc := ⟨.hbm, 157, rfl⟩
abbrev main_while0b_v134 : Ref sig .tc := ⟨.hbm, 158, rfl⟩
abbrev main_while0b_v135 : Ref sig .tc := ⟨.hbm, 159, rfl⟩
abbrev main_while0b_v136 : Ref sig .tc := ⟨.hbm, 160, rfl⟩
abbrev main_while0b_call4_v0 : Ref sig .tc := ⟨.hbm, 161, rfl⟩
abbrev main_while0b_call4_v1 : Ref sig .tc := ⟨.hbm, 162, rfl⟩
abbrev main_while0b_v137 : Ref sig .tc := ⟨.hbm, 163, rfl⟩
abbrev main_while0b_c_20 : Ref sig .tc := ⟨.hbm, 164, rfl⟩
abbrev main_while0b_v138 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_cst_11 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_cst_12 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_cst_13 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩

abbrev nD : Nat := 1
abbrev τ : Topo := Topo.v7x

variable {F : FTy → Type} [FloatOps F]

abbrev main_while0_count : Scf.Loop 32 := ⟨0#32, 4096#32, 1#32⟩
-- ==== Kernel8.lean ====
abbrev S16640x1024 : Shape := ⟨2, ![16640, 1024]⟩
abbrev S1024 : Shape := ⟨1, ![1024]⟩
abbrev S1024x8 : Shape := ⟨2, ![1024, 8]⟩
abbrev S256x256 : Shape := ⟨2, ![256, 256]⟩
abbrev S_ : Shape := ⟨0, ![]⟩
abbrev S1024x128 : Shape := ⟨2, ![1024, 128]⟩
abbrev S1x1024 : Shape := ⟨2, ![1, 1024]⟩
abbrev S16640x128 : Shape := ⟨2, ![16640, 128]⟩
abbrev S8x128 : Shape := ⟨2, ![8, 128]⟩
abbrev S1280x1024 : Shape := ⟨2, ![1280, 1024]⟩
abbrev S1280x128 : Shape := ⟨2, ![1280, 128]⟩
abbrev S1280 : Shape := ⟨1, ![1280]⟩
abbrev S1280x1 : Shape := ⟨2, ![1280, 1]⟩
abbrev S1x128 : Shape := ⟨2, ![1, 128]⟩
abbrev S256x128 : Shape := ⟨2, ![256, 128]⟩
abbrev S128 : Shape := ⟨1, ![128]⟩

abbrev nBuf : Space → Nat
  | .hbm => 13
  | .vmem => 9
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x8, .f32⟩
  | .hbm, ⟨3, _⟩ => ⟨S256x256, .i32⟩
  | .hbm, ⟨4, _⟩ => ⟨S256x256, .i32⟩
  | .hbm, ⟨5, _⟩ => ⟨S256x256, .i1⟩
  | .hbm, ⟨6, _⟩ => ⟨S256x256, .bf16⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1x1024, .f32⟩
  | .hbm, ⟨11, _⟩ => ⟨S16640x128, .f32⟩
  | .hbm, ⟨12, _⟩ => ⟨S8x128, .f32⟩
  | .local _ .vmem, ⟨0, _⟩ => ⟨S1280x1024, .f32⟩
  | .local _ .vmem, ⟨1, _⟩ => ⟨S1280x1024, .f32⟩
  | .local _ .vmem, ⟨2, _⟩ => ⟨S1x1024, .f32⟩
  | .local _ .vmem, ⟨3, _⟩ => ⟨S1024x128, .f32⟩
  | .local _ .vmem, ⟨4, _⟩ => ⟨S256x256, .bf16⟩
  | .local _ .vmem, ⟨5, _⟩ => ⟨S1280x128, .f32⟩
  | .local _ .vmem, ⟨6, _⟩ => ⟨S1280x128, .f32⟩
  | .local _ .vmem, ⟨7, _⟩ => ⟨S8x128, .f32⟩
  | .local _ .vmem, ⟨8, _⟩ => ⟨S8x128, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1280x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference8Ideal.lean ====
abbrev S16640x1024 : Shape := ⟨2, ![16640, 1024]⟩
abbrev S1024 : Shape := ⟨1, ![1024]⟩
abbrev S1024x8 : Shape := ⟨2, ![1024, 8]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16640x8 : Shape := ⟨2, ![16640, 8]⟩
abbrev S16640x16640 : Shape := ⟨2, ![16640, 16640]⟩
abbrev S16640x128 : Shape := ⟨2, ![16640, 128]⟩
abbrev S8 : Shape := ⟨1, ![8]⟩
abbrev S128 : Shape := ⟨1, ![128]⟩
abbrev S8x128 : Shape := ⟨2, ![8, 128]⟩

abbrev nBuf : Space → Nat
  | .hbm => 137
  | .vmem => 0
  | .smem => 0
  | _ => 0

abbrev hbmTy0_0 (i : Nat) : BufTy := match i % 128 with
  | 0 => ⟨S16640x1024, .f32⟩
  | 1 => ⟨S1024, .f32⟩
  | 2 => ⟨S1024x8, .f32⟩
  | 3 => ⟨S16640x1024, .f32⟩
  | 4 => ⟨S_, .f32⟩
  | 5 => ⟨S16640, .f32⟩
  | 6 => ⟨S16640x1, .f32⟩
  | 7 => ⟨S_, .f32⟩
  | 8 => ⟨S16640x1, .f32⟩
  | 9 => ⟨S16640x1, .f32⟩
  | 10 => ⟨S_, .f32⟩
  | 11 => ⟨S16640x1, .f32⟩
  | 12 => ⟨S16640x1, .f32⟩
  | 13 => ⟨S16640x1, .f32⟩
  | 14 => ⟨S16640x1024, .f32⟩
  | 15 => ⟨S16640x1024, .f32⟩
  | 16 => ⟨S1x1024, .f32⟩
  | 17 => ⟨S16640x1024, .f32⟩
  | 18 => ⟨S16640x1024, .f32⟩
  | 19 => ⟨S16640x8, .f32⟩
  | 20 => ⟨S16640x8, .i32⟩
  | 21 => ⟨S_, .f32⟩
  | 22 => ⟨S16640, .f32⟩
  | 23 => ⟨S16640x1, .f32⟩
  | 24 => ⟨S16640x8, .f32⟩
  | 25 => ⟨S16640x8, .i1⟩
  | 26 => ⟨S_, .i32⟩
  | 27 => ⟨S_, .i32⟩
  | 28 => ⟨S16640x8, .i32⟩
  | 29 => ⟨S16640x8, .i32⟩
  | 30 => ⟨S_, .i32⟩
  | 31 => ⟨S16640, .i32⟩
  | 32 => ⟨S16640x1, .i32⟩
  | 33 => ⟨S16640x8, .i32⟩
  | 34 => ⟨S16640x8, .i1⟩
  | 35 => ⟨S_, .f32⟩
  | 36 => ⟨S_, .f32⟩
  | 37 => ⟨S16640x8, .f32⟩
  | 38 => ⟨S16640x8, .f32⟩
  | 39 => ⟨S16640x8, .i32⟩
  | 40 => ⟨S_, .f32⟩
  | 41 => ⟨S16640, .f32⟩
  | 42 => ⟨S16640x1, .f32⟩
  | 43 => ⟨S16640x8, .f32⟩
  | 44 => ⟨S16640x8, .i1⟩
  | 45 => ⟨S_, .i32⟩
  | 46 => ⟨S_, .i32⟩
  | 47 => ⟨S16640x8, .i32⟩
  | 48 => ⟨S16640x8, .i32⟩
  | 49 => ⟨S_, .i32⟩
  | 50 => ⟨S16640, .i32⟩
  | 51 => ⟨S16640x1, .i32⟩
  | 52 => ⟨S16640x8, .i32⟩
  | 53 => ⟨S16640x8, .i1⟩
  | 54 => ⟨S16640x1, .f32⟩
  | 55 => ⟨S16640x1, .f32⟩
  | 56 => ⟨S16640x8, .i1⟩
  | 57 => ⟨S_, .f32⟩
  | 58 => ⟨S_, .f32⟩
  | 59 => ⟨S16640x8, .f32⟩
  | 60 => ⟨S16640x8, .f32⟩
  | 61 => ⟨S16640x8, .f32⟩
  | 62 => ⟨S16640x8, .f32⟩
  | 63 => ⟨S16640x16640, .i32⟩
  | 64 => ⟨S16640x16640, .i32⟩
  | 65 => ⟨S16640x16640, .i1⟩
  | 66 => ⟨S_, .f32⟩
  | 67 => ⟨S_, .f32⟩
  | 68 => ⟨S16640x16640, .f32⟩
  | 69 => ⟨S16640x16640, .f32⟩
  | 70 => ⟨S16640x16640, .f32⟩
  | 71 => ⟨S16640x8, .f32⟩
  | 72 => ⟨S_, .f32⟩
  | 73 => ⟨S_, .f32⟩
  | 74 => ⟨S16640x8, .f32⟩
  | 75 => ⟨S16640x8, .f32⟩
  | 76 => ⟨S_, .f32⟩
  | 77 => ⟨S16640, .f32⟩
  | 78 => ⟨S16640x1, .f32⟩
  | 79 => ⟨S_, .f32⟩
  | 80 => ⟨S_, .f32⟩
  | 81 => ⟨S16640x8, .f32⟩
  | 82 => ⟨S16640x8, .f32⟩
  | 83 => ⟨S_, .f32⟩
  | 84 => ⟨S16640, .f32⟩
  | 85 => ⟨S16640x1, .f32⟩
  | 86 => ⟨S16640x128, .i32⟩
  | 87 => ⟨S_, .f32⟩
  | 88 => ⟨S16640x128, .f32⟩
  | 89 => ⟨S_, .f32⟩
  | 90 => ⟨S16640x1, .f32⟩
  | 91 => ⟨S16640x1, .f32⟩
  | 92 => ⟨S_, .f32⟩
  | 93 => ⟨S16640x1, .f32⟩
  | 94 => ⟨S16640x1, .f32⟩
  | 95 => ⟨S_, .f32⟩
  | 96 => ⟨S16640x1, .f32⟩
  | 97 => ⟨S16640x1, .f32⟩
  | 98 => ⟨S16640x1, .f32⟩
  | 99 => ⟨S16640x1, .f32⟩
  | 100 => ⟨S16640x1, .f32⟩
  | 101 => ⟨S_, .i32⟩
  | 102 => ⟨S16640x128, .i32⟩
  | 103 => ⟨S16640x128, .i1⟩
  | 104 => ⟨S16640x128, .f32⟩
  | 105 => ⟨S16640x128, .f32⟩
  | 106 => ⟨S_, .i32⟩
  | 107 => ⟨S16640x128, .i32⟩
  | 108 => ⟨S16640x128, .i1⟩
  | 109 => ⟨S16640x128, .f32⟩
  | 110 => ⟨S16640x128, .f32⟩
  | 111 => ⟨S_, .i32⟩
  | 112 => ⟨S16640x128, .i32⟩
  | 113 => ⟨S16640x128, .i1⟩
  | 114 => ⟨S16640x128, .f32⟩
  | 115 => ⟨S16640x128, .f32⟩
  | 116 => ⟨S_, .i32⟩
  | 117 => ⟨S16640x128, .i32⟩
  | 118 => ⟨S16640x128, .i1⟩
  | 119 => ⟨S16640x128, .f32⟩
  | 120 => ⟨S16640x128, .f32⟩
  | 121 => ⟨S_, .i32⟩
  | 122 => ⟨S16640x128, .i32⟩
  | 123 => ⟨S16640x128, .i1⟩
  | 124 => ⟨S16640x128, .f32⟩
  | 125 => ⟨S16640x128, .f32⟩
  | 126 => ⟨S_, .i32⟩
  | 127 => ⟨S16640x128, .i32⟩
  | _ => ⟨S16640x1024, .f32⟩

abbrev hbmTy0_1 (i : Nat) : BufTy := match i % 128 with
  | 0 => ⟨S16640x128, .i1⟩
  | 1 => ⟨S16640x128, .f32⟩
  | 2 => ⟨S16640x128, .f32⟩
  | 3 => ⟨S_, .f32⟩
  | 4 => ⟨S8, .f32⟩
  | 5 => ⟨S_, .i32⟩
  | 6 => ⟨S_, .f32⟩
  | 7 => ⟨S128, .f32⟩
  | 8 => ⟨S8x128, .f32⟩
  | _ => ⟨S16640x1024, .f32⟩

abbrev hbmTy (i : Nat) : BufTy := match i / 128 with
  | 0 => hbmTy0_0 i
  | 1 => hbmTy0_1 i
  | _ => ⟨S16640x1024, .f32⟩

abbrev bufTy : (tb : Table) → Fin (tcTables nBuf tb) → BufTy
  | .hbm, ⟨i, _⟩ => hbmTy i
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_call2_v0 : Ref sig .tc := ⟨.hbm, 46, rfl⟩
abbrev main_call2_v1 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_cst_9 : Ref sig .tc := ⟨.hbm, 58, rfl⟩
abbrev main_call3_v0 : Ref sig .tc := ⟨.hbm, 59, rfl⟩
abbrev main_call3_v1 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_cst_11 : Ref sig .tc := ⟨.hbm, 67, rfl⟩
abbrev main_call4_v0 : Ref sig .tc := ⟨.hbm, 68, rfl⟩
abbrev main_call4_v1 : Ref sig .tc := ⟨.hbm, 69, rfl⟩
abbrev main_v43 : Ref sig .tc := ⟨.hbm, 70, rfl⟩
abbrev main_v44 : Ref sig .tc := ⟨.hbm, 71, rfl⟩
abbrev main_cst_12 : Ref sig .tc := ⟨.hbm, 72, rfl⟩
abbrev main_call5_v0 : Ref sig .tc := ⟨.hbm, 73, rfl⟩
abbrev main_call5_v1 : Ref sig .tc := ⟨.hbm, 74, rfl⟩
abbrev main_v45 : Ref sig .tc := ⟨.hbm, 75, rfl⟩
abbrev main_cst_13 : Ref sig .tc := ⟨.hbm, 76, rfl⟩
abbrev main_v46 : Ref sig .tc := ⟨.hbm, 77, rfl⟩
abbrev main_v47 : Ref sig .tc := ⟨.hbm, 78, rfl⟩
abbrev main_cst_14 : Ref sig .tc := ⟨.hbm, 79, rfl⟩
abbrev main_call6_v0 : Ref sig .tc := ⟨.hbm, 80, rfl⟩
abbrev main_call6_v1 : Ref sig .tc := ⟨.hbm, 81, rfl⟩
abbrev main_v48 : Ref sig .tc := ⟨.hbm, 82, rfl⟩
abbrev main_cst_15 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_16 : Ref sig .tc := ⟨.hbm, 87, rfl⟩
abbrev main_v52 : Ref sig .tc := ⟨.hbm, 88, rfl⟩
abbrev main_cst_17 : Ref sig .tc := ⟨.hbm, 89, rfl⟩
abbrev main_v53 : Ref sig .tc := ⟨.hbm, 90, rfl⟩
abbrev main_v54 : Ref sig .tc := ⟨.hbm, 91, rfl⟩
abbrev main_cst_18 : Ref sig .tc := ⟨.hbm, 92, rfl⟩
abbrev main_v55 : Ref sig .tc := ⟨.hbm, 93, rfl⟩
abbrev main_v56 : Ref sig .tc := ⟨.hbm, 94, rfl⟩
abbrev main_cst_19 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_c_20 : Ref sig .tc := ⟨.hbm, 101, rfl⟩
abbrev main_v62 : Ref sig .tc := ⟨.hbm, 102, rfl⟩
abbrev main_v63 : Ref sig .tc := ⟨.hbm, 103, rfl⟩
abbrev main_call7_v0 : Ref sig .tc := ⟨.hbm, 104, rfl⟩
abbrev main_v64 : Ref sig .tc := ⟨.hbm, 105, rfl⟩
abbrev main_c_21 : Ref sig .tc := ⟨.hbm, 106, rfl⟩
abbrev main_v65 : Ref sig .tc := ⟨.hbm, 107, rfl⟩
abbrev main_v66 : Ref sig .tc := ⟨.hbm, 108, rfl⟩
abbrev main_call8_v0 : Ref sig .tc := ⟨.hbm, 109, rfl⟩
abbrev main_v67 : Ref sig .tc := ⟨.hbm, 110, rfl⟩
abbrev main_c_22 : Ref sig .tc := ⟨.hbm, 111, rfl⟩
abbrev main_v68 : Ref sig .tc := ⟨.hbm, 112, rfl⟩
abbrev main_v69 : Ref sig .tc := ⟨.hbm, 113, rfl⟩
abbrev main_call9_v0 : Ref sig .tc := ⟨.hbm, 114, rfl⟩
abbrev main_v70 : Ref sig .tc := ⟨.hbm, 115, rfl⟩
abbrev main_c_23 : Ref sig .tc := ⟨.hbm, 116, rfl⟩
abbrev main_v71 : Ref sig .tc := ⟨.hbm, 117, rfl⟩
abbrev main_v72 : Ref sig .tc := ⟨.hbm, 118, rfl⟩
abbrev main_call10_v0 : Ref sig .tc := ⟨.hbm, 119, rfl⟩
abbrev main_v73 : Ref sig .tc := ⟨.hbm, 120, rfl⟩
abbrev main_c_24 : Ref sig .tc := ⟨.hbm, 121, rfl⟩
abbrev main_v74 : Ref sig .tc := ⟨.hbm, 122, rfl⟩
abbrev main_v75 : Ref sig .tc := ⟨.hbm, 123, rfl⟩
abbrev main_call11_v0 : Ref sig .tc := ⟨.hbm, 124, rfl⟩
abbrev main_v76 : Ref sig .tc := ⟨.hbm, 125, rfl⟩
abbrev main_c_25 : Ref sig .tc := ⟨.hbm, 126, rfl⟩
abbrev main_v77 : Ref sig .tc := ⟨.hbm, 127, rfl⟩
abbrev main_v78 : Ref sig .tc := ⟨.hbm, 128, rfl⟩
abbrev main_call12_v0 : Ref sig .tc := ⟨.hbm, 129, rfl⟩
abbrev main_v79 : Ref sig .tc := ⟨.hbm, 130, rfl⟩
abbrev main_cst_26 : Ref sig .tc := ⟨.hbm, 131, rfl⟩
abbrev main_v80 : Ref sig .tc := ⟨.hbm, 132, rfl⟩
abbrev main_c_27 : Ref sig .tc := ⟨.hbm, 133, rfl⟩
abbrev main_call13_v0 : Ref sig .tc := ⟨.hbm, 134, rfl⟩
abbrev main_v81 : Ref sig .tc := ⟨.hbm, 135, rfl⟩
abbrev main_v82 : Ref sig .tc := ⟨.hbm, 136, rfl⟩

abbrev nD : Nat := 1
abbrev τ : Topo := Topo.v7x

variable {F : FTy → Type} [FloatOps F]
-- ==== Proof.Moe.Range.lean ====
/- What the precondition says of the integer arguments, element by element: each entry of the tile table names one of
   the eight experts, and at least one tile is active. -/
module

public import proofs.«01_k».proof.Defs
public import proofs.«01_k».proof.Proof.Gen.Pre_in_range

@[expose] public section

noncomputable section

namespace Cert.Moe

open Idealize.ShloMosaic

/-- Every entry of the table is below 8 (as a word, so also not negative) and the count, read as a signed word, is at
    least 1. -/
theorem range_of_fn {F : FTy → Type} [FloatOps F] (x0 : IVec Pre_in_range.S73 32) (x1 : IVec Pre_in_range.S1 32)
    (x2 : FVec F Pre_in_range.S37376x1024 .f32) (x3 : FVec F Pre_in_range.S1024 .f32)
    (x4 x5 : FVec F Pre_in_range.S8x1024x3584 .f32) (x6 : FVec F Pre_in_range.S8x3584x1024 .f32)
    (h : Pre_in_range.fn (F := F) x0 x1 x2 x3 x4 x5 x6 = fun _ => 1#1) :
    (∀ i, (x0 i).toNat < 8) ∧ ∀ i, 1 ≤ (x1 i).toInt := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ y : Pre_in_range.S73.Idx, (x0 y).toNat < 8 ∧ ∃ j, 1 ≤ (x1 j).toInt := by
    intro y
    have e := congrFun h y
    simp only [Pre_in_range.fn, andi, cmpi, broadcastInDim, constantI, IntOp.cmpi, andi_ofBool, ofBool_eq_one,
      Bool.and_eq_true] at e
    obtain ⟨⟨hge, hlt⟩, hn⟩ := e
    simp only [BitVec.sle, decide_eq_true_eq] at hn
    refine ⟨?_, Exists.intro _ hn⟩
    · simp only [BitVec.sle, BitVec.slt, decide_eq_true_eq, BitVec.toInt, BitVec.toNat_ofNat] at hge hlt
      omega
  refine ⟨fun i => (key i).1, fun i => ?_⟩
  obtain ⟨j, hj⟩ := (key (fun a => match a with | ⟨0, _⟩ => (⟨0, by decide⟩ : Fin 73))).2
  obtain rfl : i = j := funext fun a => by
    match a with
    | ⟨0, _⟩ => exact Subsingleton.elim (α := Fin 1) _ _
  exact hj

end Cert.Moe

end
-- ==== Proof.Moe.TablesIdeal.lean ====
/- The two prefetched tables of the expert kernel: what the body and the index maps read of them, and that tables in
   range meet every side condition of the generated frame. -/
module

public import proofs.«01_k».proof.Proof.Gen.KernelIdeal.Frame
public import proofs.«01_k».proof.Proof.Moe.Range

@[expose] public section

set_option maxRecDepth 16384

noncomputable section

namespace Cert.KernelIdeal.Moe

open Cert.KernelIdeal Cert.KernelIdeal.Gen
open Idealize.ShloMosaic Idealize.ShloMosaic.TcCoe

variable {F : FTy → Type} [FloatOps F]
variable (m : (ℓ : Loc nD τ sig) → Buf (Elt F) ℓ)

/-- The tile table and the count of active tiles are in range. -/
def InRange : Prop :=
  (∀ i : S73.Idx, (m ((0 : Dev nD), Proc.devRef .tc main_arg0) i : BitVec 32).toNat < 8) ∧
    ∀ i : S1.Idx, 1 ≤ (m ((0 : Dev nD), Proc.devRef .tc main_arg1) i : BitVec 32).toInt

/-- The word of active tiles. -/
def count : BitVec 32 :=
  (show S1.Idx → BitVec 32 from m ((0 : Dev nD), Proc.devRef .tc main_arg1)) (fun | ⟨0, _⟩ => (⟨0, by decide⟩ : Fin 1))

/-- The expert of tile `r`. -/
def expert (r : Fin 73) : BitVec 32 :=
  (show S73.Idx → BitVec 32 from m ((0 : Dev nD), Proc.devRef .tc main_arg0)) (fun | ⟨0, _⟩ => r)

theorem tbl_one (j : S1.Idx) : tbl m 1 j = count m := by
  have e : tbl m 1 = m ((0 : Dev nD), Proc.devRef .tc main_arg1) := V_main_arg1 m 0
  rw [e]
  unfold count
  refine congrArg (show S1.Idx → BitVec 32 from m ((0 : Dev nD), Proc.devRef .tc main_arg1)) (funext fun a => ?_)
  match a with
  | ⟨0, _⟩ => exact Subsingleton.elim (α := Fin 1) _ _

theorem tbl_zero (j : S73.Idx) : tbl m 0 j = expert m (j 0) := by
  have e : tbl m 0 = m ((0 : Dev nD), Proc.devRef .tc main_arg0) := V_main_arg0 m 0
  rw [e]
  unfold expert
  refine congrArg (show S73.Idx → BitVec 32 from m ((0 : Dev nD), Proc.devRef .tc main_arg0)) (funext fun a => ?_)
  match a with
  | ⟨0, _⟩ => rfl

/-- The word the body's branches test is the count. -/
theorem word_eq (j : S1.Idx) :
    tbM0_1.view.readAt (Elt F) (Rect.unit (s := S1) ![0] S1.size inb_S1_S1_0).toLoadRect (tbl m 1) j = count m := by
  exact tbl_one m _

/-- The second branch's condition: the tile is active. -/
theorem cond1_iff (i : grid0.Coords) (v : BitVec 32) : cond0_1 i v ↔ (BitVec.ofNat 32 (i 0).val).slt v = true := by
  unfold cond0_1
  simp only [Scalar.cmpi, Scalar.extui, IntOp.cmpi]
  cases h : (BitVec.ofNat 32 (i 0).val).slt v <;> decide

/-- The first branch's condition: the tile is active and this is the first half of the hidden width. -/
theorem cond0_iff (i : grid0.Coords) (v : BitVec 32) :
    cond0_0 i v ↔ (BitVec.ofNat 32 (i 0).val).slt v = true ∧ (i 1).val = 0 := by
  have h1 : (i 1).val < 2 := (i 1).isLt
  unfold cond0_0
  have hi : (i 1).val = 0 ∨ (i 1).val = 1 := by omega
  rcases hi with hi | hi <;> rw [hi] <;> simp only [Scalar.cmpi, Scalar.extui, Scalar.andi, IntOp.cmpi] <;>
    cases h : (BitVec.ofNat 32 (i 0).val).slt v <;> decide

theorem coords_zero (t : Fin grid0.N) : (grid0.coords t 0).val = t.val / 2 := by
  have ht : t.val < 146 := Nat.lt_of_lt_of_eq t.isLt N_0
  have e0 : (grid0.coords t 0).val = t.val / 2 % 73 := Pipeline.Grid.coords_val t 0 (by decide) rfl
  rw [e0]; omega

theorem coords_one (t : Fin grid0.N) : (grid0.coords t 1).val = t.val % 2 := by
  have e1 : (grid0.coords t 1).val = t.val / 1 % 2 := Pipeline.Grid.coords_val t 1 (by decide) rfl
  rw [e1]; omega

variable {m}

theorem InRange.expert_lt (h : InRange m) (r : Fin 73) : (expert m r).toNat < 8 := h.1 _
theorem InRange.count_pos (h : InRange m) : 1 ≤ (count m).toInt := h.2 _

/-- The first tile is active. -/
theorem InRange.first_active (h : InRange m) : (BitVec.ofNat 32 0).slt (count m) = true := by
  have := h.count_pos
  simp only [BitVec.slt, decide_eq_true_eq]
  simpa using (show (0 : ℤ) < (count m).toInt by omega)

/-- Tables in range name blocks inside the weight arrays. -/
theorem ok_of_range (h : InRange m) : Ok m := by
  have sel (i : grid0.Coords) (v : BitVec 1) : (Scalar.select v (BitVec.ofNat 32 (i 1).val) 1#32 : BitVec 32).toNat < 2 := by
    have h1 : (i 1).val < 2 := (i 1).isLt
    unfold Scalar.select
    split
    · rw [BitVec.toNat_ofNat]; omega
    · decide
  have te (j : S73.Idx) : ((tbl m 0 j : BitVec 32).toNat + 1) * 1 ≤ 8 := by
    rw [tbl_zero]
    have := h.expert_lt (j 0)
    omega
  have half (i : grid0.Coords) (v : BitVec 1) :
      ((Scalar.select v (BitVec.ofNat 32 (i 1).val) 1#32 : BitVec 32).toNat + 1) * 1792 ≤ 3584 := by
    have := sel i v
    omega
  refine ⟨fun i => ?_, fun i => ?_, fun i => ?_⟩
  · refine ⟨fun a => ?_, .inr (.inr ⟨by decide, rfl, rfl, rfl⟩)⟩
    match a with
    | ⟨0, _⟩ => exact te _
    | ⟨1, _⟩ => show (0 + 1) * 1024 ≤ 1024; omega
    | ⟨2, _⟩ => exact half i _
  · refine ⟨fun a => ?_, .inr (.inr ⟨by decide, rfl, rfl, rfl⟩)⟩
    match a with
    | ⟨0, _⟩ => exact te _
    | ⟨1, _⟩ => show (0 + 1) * 1024 ≤ 1024; omega
    | ⟨2, _⟩ => exact half i _
  · refine ⟨fun a => ?_, .inr (.inl (.inr ⟨by decide, rfl, .inl ⟨?_, ?_⟩⟩))⟩
    · match a with
      | ⟨0, _⟩ => exact te _
      | ⟨1, _⟩ => exact half i _
      | ⟨2, _⟩ => show (0 + 1) * 1024 ≤ 1024; omega
    · exact Dvd.dvd.mul_left (show 2 ∣ 1792 by decide) _
    · exact (show 2 ∣ 1792 by decide)

/-- At the first point the kernel takes the first branch, so no point reads the carried buffers before they are written. -/
theorem hyps_of_range (h : InRange m) (hO : Ok m) : Hyps m hO := by
  have key : ∀ t : Fin (cfgM m hO).N, ¬cond0_0 (grid0.coords t) (count m) → ¬(t.val % 146 = 0) := by
    intro t h0 ht
    refine h0 ((cond0_iff _ _).mpr ?_)
    have hN : t.val < 146 := Nat.lt_of_lt_of_eq t.isLt N_0
    have z : t.val = 0 := by omega
    have e0 := coords_zero t
    have e1 := coords_one t
    rw [z] at e0 e1
    exact ⟨by rw [e0]; exact h.first_active, e1⟩
  refine Hyps.of (fun c t => ?_) (fun c t => ?_)
  · unfold Hyps.p0
    rw [word_eq]
    exact fun h0 _ _ => key t h0
  · unfold Hyps.p1
    rw [word_eq]
    exact fun h0 _ _ => key t h0

end Cert.KernelIdeal.Moe

end
-- ==== Proof.Moe.Frames.lean ====
/- The frames of the expert kernel and of its reference: every weakly fair execution ends, leaves the arguments as they
   were and every counter at zero. -/
module

public import proofs.«01_k».proof.Defs
public import proofs.«01_k».proof.Proof.Moe.Tables
public import proofs.«01_k».proof.Proof.Moe.TablesIdeal
public import proofs.«01_k».proof.Proof.Gen.ReferenceIdeal
public import proofs.«01_k».proof.Proof.Gen.ReferenceIdeal.Run

@[expose] public section

set_option maxRecDepth 16384

noncomputable section

namespace Cert.Moe

open Idealize.ShloMosaic Idealize.SL.Sem

/-- The precondition puts the kernel's tables in range. -/
theorem kernel_inRange (m : (ℓ : Loc Kernel.nD Kernel.τ Kernel.sig) → Buf (Elt Bits) ℓ) (h : Pre_Kernel m) :
    Kernel.Moe.InRange m :=
  range_of_fn _ _ _ _ _ _ _ (h 0)

theorem ideal_inRange (m : (ℓ : Loc KernelIdeal.nD KernelIdeal.τ KernelIdeal.sig) → Buf (Elt Ideal) ℓ)
    (h : Pre_KernelIdeal m) : KernelIdeal.Moe.InRange m :=
  range_of_fn _ _ _ _ _ _ _ (h 0)

theorem frame_kernel : quiescent_Kernel := fun m ρ h =>
  Kernel.Gen.frame m ρ (Kernel.Moe.ok_of_range (kernel_inRange m h)) (Kernel.Moe.hyps_of_range (kernel_inRange m h) _)

theorem frame_ideal : quiescent_KernelIdeal := fun m ρ h =>
  KernelIdeal.Gen.frame m ρ (KernelIdeal.Moe.ok_of_range (ideal_inRange m h))
    (KernelIdeal.Moe.hyps_of_range (ideal_inRange m h) _)

theorem frame_reference : quiescent_ReferenceIdeal := fun m ρ _ =>
  (θ_run ReferenceIdeal.defs _ _).mono (fun r h => ⟨fun c => (h c).2, sem_eq_zero_of_no_sems (by decide) r.2⟩)
    (ReferenceIdeal.Value.run (F := Ideal) m ρ)

theorem frame_reference_pre : quiescent_ReferenceIdeal_pre_in_range := fun m ρ _ => frame_reference m ρ trivial

end Cert.Moe

end
-- ==== Proof.Moe.Point.lean ====
/- What the body leaves after the two points of a tile: the rows' normalisation and the two halves of the hidden width,
   accumulated, when the tile is active; zero when it is not. -/
module

public import proofs.«01_k».proof.Proof.Moe.TablesIdeal
public import Idealize.ShloMosaic.Lib.Pipeline.ValueKit

@[expose] public section

set_option maxRecDepth 16384

noncomputable section

namespace Cert.KernelIdeal.Moe

open Cert.KernelIdeal Cert.KernelIdeal.Gen
open Idealize.ShloMosaic Idealize.ShloMosaic.TcCoe

variable {F : FTy → Type} [FloatOps F]
variable {m : (ℓ : Loc nD τ sig) → Buf (Elt F) ℓ} (hO : Ok m) (hH : Hyps m hO) (c : Dev nD)

/-- The tile of point `t` is active. -/
def Active (m : (ℓ : Loc nD τ sig) → Buf (Elt F) ℓ) (t : Fin grid0.N) : Prop :=
  (BitVec.ofNat 32 (grid0.coords t 0).val).slt (count m) = true

theorem pay3_congr {a a' : Vec F S512x1024 .bf16} {b b' d d' : Vec F S1x1024x1792 .bf16} {e e' : Vec F S512x1024 .f32}
    {f f' : Vec F S1x1792x1024 .bf16} (ha : a = a') (hb : b = b') (hd : d = d') (he : e = e') (hf : f = f') :
    k0_pay3 a b d e f = k0_pay3 a' b' d' e' f' := by
  subst ha hb hd he hf; rfl

/-- What the first point of an active tile leaves: the normalised rows and the first half's partial result. -/
theorem first_half (t : Fin (cfgM m hO).N) (h2 : ¬t.val % 2 = 1) (ha : Active m t) :
    (outsAt0 m hO hH c t.val t.isLt).2.1 = k0_pay1 (iblk m hO c 0 t) (iblk m hO c 1 t) ∧
    (outsAt0 m hO hH c t.val t.isLt).2.2 =
      k0_pay3 (k0_pay1 (iblk m hO c 0 t) (iblk m hO c 1 t)) (iblk m hO c 2 t) (iblk m hO c 3 t) k0_pay2 (iblk m hO c 4 t) := by
  have e1 : (grid0.coords t 1).val = 0 := by rw [coords_one]; omega
  rw [outsAt0_A m hO hH c t (by rw [word_eq]; exact (cond0_iff _ _).mpr ⟨ha, e1⟩)
    (by rw [word_eq]; exact (cond1_iff _ _).mpr ha) h2]
  constructor
  · frame_out
    exact congrArg₂ k0_pay1 ((hs0_0 m hO t).read_unread _) ((hs0_1 m hO t).read_unread _)
  · frame_out
    exact pay3_congr (congrArg₂ k0_pay1 ((hs0_0 m hO t).read_unread _) ((hs0_1 m hO t).read_unread _))
      ((hs0_2 m hO t).read_unread _) ((hs0_3 m hO t).read_unread _) rfl ((hs0_4 m hO t).read_unread _)

/-- What the second point of an active tile writes back. -/
theorem second_half (t : Fin (cfgM m hO).N) (h2 : t.val % 2 = 1) (ha : Active m t) :
    (outsAt0 m hO hH c t.val t.isLt).1 = k0_pay4 (grid0.coords t) (count m)
      (k0_pay3 (outsAt0 m hO hH c (t.val - 1) (Nat.lt_of_le_of_lt (Nat.sub_le _ _) t.isLt)).2.1 (iblk m hO c 2 t)
        (iblk m hO c 3 t) (outsAt0 m hO hH c (t.val - 1) (Nat.lt_of_le_of_lt (Nat.sub_le _ _) t.isLt)).2.2 (iblk m hO c 4 t)) := by
  have e1 : ¬ (grid0.coords t 1).val = 0 := by rw [coords_one]; omega
  rw [outsAt0_G m hO hH c t (by rw [word_eq]; exact fun h => e1 ((cond0_iff _ _).mp h).2)
    (by rw [word_eq]; exact (cond1_iff _ _).mpr ha) h2]
  frame_out
  exact congrArg₂ (k0_pay4 (grid0.coords t)) (word_eq m _)
    (pay3_congr ((Memref.isWhole_whole cc0_scratch0).read_unread _) ((hs0_2 m hO t).read_unread _)
      ((hs0_3 m hO t).read_unread _) ((Memref.isWhole_whole cc0_scratch1).read_unread _) ((hs0_4 m hO t).read_unread _))

/-- What the second point of an inactive tile writes back. -/
theorem idle_tile (t : Fin (cfgM m hO).N) (h2 : t.val % 2 = 1) (ha : ¬Active m t) :
    (outsAt0 m hO hH c t.val t.isLt).1 = fun _ => Scalar.ofBits .f32 0x00000000#32 := by
  rw [outsAt0_H m hO hH c t (by rw [word_eq]; exact fun h => ha ((cond0_iff _ _).mp h).1)
    (by rw [word_eq]; exact fun h => ha ((cond1_iff _ _).mp h)) h2]
  frame_out
  refine (congrArg (fun w => k0_pay4 (grid0.coords t) w _) (word_eq m _)).trans ?_
  unfold k0_pay4 Active at *
  funext y
  simp only [Scalar.cmpi, IntOp.cmpi, Bool.not_eq_true] at ha ⊢
  rw [ha]
  rfl

end Cert.KernelIdeal.Moe

end
-- ==== Proof.Moe.Blocks.lean ====
/- The blocks the kernel reads at a point, as entries of the argument arrays: the tile's rows, the norm's weights, and the
   half of the chosen expert's three weight matrices. -/
module

public import proofs.«01_k».proof.Proof.Moe.Point

@[expose] public section

set_option maxRecDepth 16384

noncomputable section

namespace Cert.KernelIdeal.Moe

open Cert.KernelIdeal Cert.KernelIdeal.Gen
open Idealize.ShloMosaic Idealize.ShloMosaic.TcCoe

variable {m : (ℓ : Loc nD τ sig) → Buf (Elt Ideal) ℓ} (hO : Ok m) (c : Dev nD)

theorem half_index (i : grid0.Coords) (v : BitVec 1) (hv : v = 1#1) :
    (Scalar.select v (BitVec.ofNat 32 (i 1).val) 1#32 : BitVec 32).toNat = (i 1).val := by
  have h1 : (i 1).val < 2 := (i 1).isLt
  subst hv
  show (BitVec.ofNat 32 (i 1).val).toNat = _
  rw [BitVec.toNat_ofNat]; omega

theorem active_word (t : Fin grid0.N) (ha : Active m t) (j : S1.Idx) :
    Scalar.cmpi .slt (BitVec.ofNat 32 (grid0.coords t 0).val) (tbl m 1 j) = 1#1 := by
  rw [tbl_one]
  unfold Active at ha
  simp only [Scalar.cmpi, IntOp.cmpi, ha]
  rfl

/-- The tile of point `t`. -/
def tile (t : Fin grid0.N) : Fin 73 := ⟨t.val / 2, by have : t.val < 146 := Nat.lt_of_lt_of_eq t.isLt N_0; omega⟩

theorem index0 (t : Fin (cfgM m hO).N) : ((cfgM m hO).win 0).index t = ![t.val / 2, 0] :=
  (by decide +kernel : ∀ t : Fin grid0.N, cc0_transform_0 (grid0.coords t) = ![t.val / 2, 0]) t
theorem index1 (t : Fin (cfgM m hO).N) : ((cfgM m hO).win 1).index t = ![0, 0] :=
  (by decide +kernel : ∀ t : Fin grid0.N, cc0_transform_1 (grid0.coords t) = ![0, 0]) t
theorem index5 (t : Fin (cfgM m hO).N) : ((cfgM m hO).win 5).index t = ![t.val / 2, 0] :=
  (by decide +kernel : ∀ t : Fin grid0.N, cc0_transform_5 (grid0.coords t) = ![t.val / 2, 0]) t

/-- The word the index maps read of the expert table. -/
theorem expert_word (t : Fin grid0.N) :
    (tbl m).at 0 (Rect.unit (s := S73) ![(Scalar.indexCast (BitVec.ofNat 32 (grid0.coords t 0).val) : BitVec 32).toNat] S1.size
      (k0_off1_inb (grid0.coords t))) numel1_S1 = expert m (tile t) := by
  have ht : t.val < 146 := Nat.lt_of_lt_of_eq t.isLt N_0
  refine (tbl_zero m _).trans (congrArg (expert m) (Fin.ext ?_))
  refine (Rect.emb_apply (s := S73) _ _ 0).trans ?_
  show (BitVec.ofNat 32 (grid0.coords t 0).val).toNat + 1 * 0 = t.val / 2
  rw [coords_zero, BitVec.toNat_ofNat]
  omega

theorem transform2 (t : Fin grid0.N) (ha : Active m t) :
    cc0_transform_2 inb_S1_S1_0 numel1_S1 k0_off1_inb (tbl m) (grid0.coords t) = ![(expert m (tile t)).toNat, 0, t.val % 2] := by
  funext a
  match a with
  | ⟨0, _⟩ => exact congrArg BitVec.toNat (expert_word t)
  | ⟨1, _⟩ => rfl
  | ⟨2, _⟩ =>
    show (Scalar.select _ (BitVec.ofNat 32 (grid0.coords t 1).val) 1#32 : BitVec 32).toNat = t.val % 2
    refine (half_index (grid0.coords t) _ ?_).trans (coords_one t)
    exact active_word t ha _

theorem index2 (t : Fin (cfgM m hO).N) (ha : Active m t) :
    ((cfgM m hO).win 2).index t = ![(expert m (tile t)).toNat, 0, t.val % 2] := transform2 t ha

theorem transform3 (t : Fin grid0.N) (ha : Active m t) :
    cc0_transform_3 inb_S1_S1_0 numel1_S1 k0_off1_inb (tbl m) (grid0.coords t) = ![(expert m (tile t)).toNat, 0, t.val % 2] := by
  funext a
  match a with
  | ⟨0, _⟩ => exact congrArg BitVec.toNat (expert_word t)
  | ⟨1, _⟩ => rfl
  | ⟨2, _⟩ =>
    show (Scalar.select _ (BitVec.ofNat 32 (grid0.coords t 1).val) 1#32 : BitVec 32).toNat = t.val % 2
    refine (half_index (grid0.coords t) _ ?_).trans (coords_one t)
    exact active_word t ha _

theorem index3 (t : Fin (cfgM m hO).N) (ha : Active m t) :
    ((cfgM m hO).win 3).index t = ![(expert m (tile t)).toNat, 0, t.val % 2] := transform3 t ha

theorem transform4 (t : Fin grid0.N) (ha : Active m t) :
    cc0_transform_4 inb_S1_S1_0 numel1_S1 k0_off1_inb (tbl m) (grid0.coords t) = ![(expert m (tile t)).toNat, t.val % 2, 0] := by
  funext a
  match a with
  | ⟨0, _⟩ => exact congrArg BitVec.toNat (expert_word t)
  | ⟨1, _⟩ =>
    show (Scalar.select _ (BitVec.ofNat 32 (grid0.coords t 1).val) 1#32 : BitVec 32).toNat = t.val % 2
    refine (half_index (grid0.coords t) _ ?_).trans (coords_one t)
    exact active_word t ha _
  | ⟨2, _⟩ => rfl

theorem index4 (t : Fin (cfgM m hO).N) (ha : Active m t) :
    ((cfgM m hO).win 4).index t = ![(expert m (tile t)).toNat, t.val % 2, 0] := transform4 t ha

theorem rows_at (t : Fin (cfgM m hO).N) (y : S512x1024.Idx) (i : S37376x1024.Idx)
    (h0 : (i 0).val = t.val / 2 * 512 + (y 0).val) (h1 : (i 1).val = (y 1).val) :
    (show S512x1024.Idx → EReal from iblk m hO c 0 t) y = (show S37376x1024.Idx → EReal from m ((c : Thread nD τ).loc main_arg2)) i := by
  have e : V m c (Pipeline.arrRef spec0 0) = (show S37376x1024.Idx → EReal from m ((c : Thread nD τ).loc main_arg2)) := by
    exact V_main_arg2 m c
  show V m c (Pipeline.arrRef spec0 0) ((((cfgM m hO).win 0).blk t).view.emb y) = _
  refine (congrFun e _).trans (congrArg (show S37376x1024.Idx → EReal from m ((c : Thread nD τ).loc main_arg2)) (funext fun a => Fin.ext ?_))
  have key := (Pipeline.Window.rect_emb_val ((cfgM m hO).win 0) t y a).trans
    (congrArg (fun n => n * ((cfgM m hO).win 0).size a + (y a).val) (congrFun (index0 hO t) a))
  refine key.trans ?_
  clear key e
  match a with
  | ⟨0, _⟩ =>
    show t.val / 2 * 512 + (y 0).val = (i 0).val
    omega
  | ⟨1, _⟩ =>
    show 0 * 1024 + (y 1).val = (i 1).val
    omega

theorem w1_at (t : Fin (cfgM m hO).N) (ha : Active m t) (y : S1x1024x1792.Idx) (i : S8x1024x3584.Idx)
    (h0 : (i 0).val = (expert m (tile t)).toNat) (h1 : (i 1).val = (y 1).val) (h2 : (i 2).val = t.val % 2 * 1792 + (y 2).val) :
    (show S1x1024x1792.Idx → EReal from iblk m hO c 2 t) y = (show S8x1024x3584.Idx → EReal from m ((c : Thread nD τ).loc main_arg4)) i := by
  have e : V m c (Pipeline.arrRef spec0 2) = (show S8x1024x3584.Idx → EReal from m ((c : Thread nD τ).loc main_arg4)) := by
    show V m c main_v0 = _
    entry_read
    rfl
  show V m c (Pipeline.arrRef spec0 2) ((((cfgM m hO).win 2).blk t).view.emb y) = _
  refine (congrFun e _).trans (congrArg (show S8x1024x3584.Idx → EReal from m ((c : Thread nD τ).loc main_arg4)) (funext fun a => Fin.ext ?_))
  have key := (Pipeline.Window.rect_emb_val ((cfgM m hO).win 2) t y a).trans
    (congrArg (fun n => n * ((cfgM m hO).win 2).size a + (y a).val) (congrFun (index2 hO t ha) a))
  refine key.trans ?_
  clear key e
  match a with
  | ⟨0, _⟩ =>
    show (expert m (tile t)).toNat * 1 + (y 0).val = (i 0).val
    have : (y 0).val < 1 := (y 0).isLt
    omega
  | ⟨1, _⟩ =>
    show 0 * 1024 + (y 1).val = (i 1).val
    omega
  | ⟨2, _⟩ =>
    show (t.val % 2) * 1792 + (y 2).val = (i 2).val
    omega

theorem w3_at (t : Fin (cfgM m hO).N) (ha : Active m t) (y : S1x1024x1792.Idx) (i : S8x1024x3584.Idx)
    (h0 : (i 0).val = (expert m (tile t)).toNat) (h1 : (i 1).val = (y 1).val) (h2 : (i 2).val = t.val % 2 * 1792 + (y 2).val) :
    (show S1x1024x1792.Idx → EReal from iblk m hO c 3 t) y = (show S8x1024x3584.Idx → EReal from m ((c : Thread nD τ).loc main_arg5)) i := by
  have e : V m c (Pipeline.arrRef spec0 3) = (show S8x1024x3584.Idx → EReal from m ((c : Thread nD τ).loc main_arg5)) := by
    show V m c main_v1 = _
    entry_read
    rfl
  show V m c (Pipeline.arrRef spec0 3) ((((cfgM m hO).win 3).blk t).view.emb y) = _
  refine (congrFun e _).trans (congrArg (show S8x1024x3584.Idx → EReal from m ((c : Thread nD τ).loc main_arg5)) (funext fun a => Fin.ext ?_))
  have key := (Pipeline.Window.rect_emb_val ((cfgM m hO).win 3) t y a).trans
    (congrArg (fun n => n * ((cfgM m hO).win 3).size a + (y a).val) (congrFun (index3 hO t ha) a))
  refine key.trans ?_
  clear key e
  match a with
  | ⟨0, _⟩ =>
    show (expert m (tile t)).toNat * 1 + (y 0).val = (i 0).val
    have : (y 0).val < 1 := (y 0).isLt
    omega
  | ⟨1, _⟩ =>
    show 0 * 1024 + (y 1).val = (i 1).val
    omega
  | ⟨2, _⟩ =>
    show (t.val % 2) * 1792 + (y 2).val = (i 2).val
    omega

theorem w2_at (t : Fin (cfgM m hO).N) (ha : Active m t) (y : S1x1792x1024.Idx) (i : S8x3584x1024.Idx)
    (h0 : (i 0).val = (expert m (tile t)).toNat) (h1 : (i 1).val = t.val % 2 * 1792 + (y 1).val) (h2 : (i 2).val = (y 2).val) :
    (show S1x1792x1024.Idx → EReal from iblk m hO c 4 t) y = (show S8x3584x1024.Idx → EReal from m ((c : Thread nD τ).loc main_arg6)) i := by
  have e : V m c (Pipeline.arrRef spec0 4) = (show S8x3584x1024.Idx → EReal from m ((c : Thread nD τ).loc main_arg6)) := by
    show V m c main_v2 = _
    entry_read
    rfl
  show V m c (Pipeline.arrRef spec0 4) ((((cfgM m hO).win 4).blk t).view.emb y) = _
  refine (congrFun e _).trans (congrArg (show S8x3584x1024.Idx → EReal from m ((c : Thread nD τ).loc main_arg6)) (funext fun a => Fin.ext ?_))
  have key := (Pipeline.Window.rect_emb_val ((cfgM m hO).win 4) t y a).trans
    (congrArg (fun n => n * ((cfgM m hO).win 4).size a + (y a).val) (congrFun (index4 hO t ha) a))
  refine key.trans ?_
  clear key e
  match a with
  | ⟨0, _⟩ =>
    show (expert m (tile t)).toNat * 1 + (y 0).val = (i 0).val
    have : (y 0).val < 1 := (y 0).isLt
    omega
  | ⟨1, _⟩ =>
    show (t.val % 2) * 1792 + (y 1).val = (i 1).val
    omega
  | ⟨2, _⟩ =>
    show 0 * 1024 + (y 2).val = (i 2).val
    omega

theorem norm_at (t : Fin (cfgM m hO).N) (y : S1x1024.Idx) (i : S1024.Idx) (h0 : (i 0).val = (y 1).val) :
    (show S1x1024.Idx → EReal from iblk m hO c 1 t) y = (show S1024.Idx → EReal from m ((c : Thread nD τ).loc main_arg3)) i := by
  have e : V m c (Pipeline.arrRef spec0 1) =
      shapeCast S1x1024 (show S1024.Idx → EReal from m ((c : Thread nD τ).loc main_arg3)) shapeCasts_S1024_S1x1024 := by
    show V m c main_v3 = _
    entry_read
    rfl
  have e0 : ((((cfgM m hO).win 1).blk t).view.emb y) = (y : S1x1024.Idx) := funext fun a => Fin.ext (by
    have key := (Pipeline.Window.rect_emb_val ((cfgM m hO).win 1) t y a).trans
      (congrArg (fun n => n * ((cfgM m hO).win 1).size a + (y a).val) (congrFun (index1 hO t) a))
    refine key.trans ?_
    clear key e
    match a with
    | ⟨0, _⟩ => show 0 * 1 + (y 0).val = (y 0).val; omega
    | ⟨1, _⟩ => show 0 * 1024 + (y 1).val = (y 1).val; omega)
  show V m c (Pipeline.arrRef spec0 1) ((((cfgM m hO).win 1).blk t).view.emb y) = _
  refine (congrFun e _).trans ((congrArg _ e0).trans ?_)
  generalize (show S1024.Idx → EReal from m ((c : Thread nD τ).loc main_arg3)) = X
  pointwise
  refine congrArg X (funext fun a => Fin.ext ?_)
  match a with
  | ⟨0, _⟩ => exact h0.symm

end Cert.KernelIdeal.Moe

end
-- ==== Proof.Moe.Payload.lean ====
/- What the kernel's payloads compute at one entry, over the extended reals. -/
module

public import proofs.«01_k».proof.Proof.Moe.Blocks
public import Idealize.ShloMosaic.Lib.Pipeline.ValueKit

@[expose] public section

set_option maxRecDepth 16384

noncomputable section

namespace Cert.KernelIdeal.Moe

open Cert.KernelIdeal Cert.KernelIdeal.Gen
open Idealize.ShloMosaic Idealize.ShloMosaic.TcCoe

theorem pay1_at (x : FVec Ideal S512x1024 .f32) (w : FVec Ideal S1x1024 .f32) (a : Fin 512) (k : Fin 1024) :
    k0_pay1 (F := Ideal) x w (ix2 a k) =
      x (ix2 a k) * Ideal.rsqrt (Ideal.div (∑ j : Fin 1024, x (ix2 a j) * x (ix2 a j)) (Ideal.ofBits .f32 0x44800000#32)
        + Ideal.ofBits .f32 0x358637BD#32) * w (ix2 0 k) := by
  pointwise [k0_pay1]

theorem pay2_at (i : S512x1024.Idx) : k0_pay2 (F := Ideal) i = 0 := by
  pointwise [k0_pay2]

theorem pay3_at (h : FVec Ideal S512x1024 .bf16) (w1 w3 : FVec Ideal S1x1024x1792 .bf16) (acc : FVec Ideal S512x1024 .f32)
    (w2 : FVec Ideal S1x1792x1024 .bf16) (a : Fin 512) (d : Fin 1024) :
    k0_pay3 (F := Ideal) h w1 w3 acc w2 (ix2 a d) =
      acc (ix2 a d) + ∑ f : Fin 1792, ((∑ k : Fin 1024, h (ix2 a k) * w1 (ix3 0 k f)) *
        Ideal.logistic (∑ k : Fin 1024, h (ix2 a k) * w1 (ix3 0 k f)) * ∑ k : Fin 1024, h (ix2 a k) * w3 (ix3 0 k f)) *
        w2 (ix3 0 f d) := by
  pointwise [k0_pay3]

end Cert.KernelIdeal.Moe

end
-- ==== Proof.Moe.Math.lean ====
/- The routed feed-forward as a plain formula: of row `r`, normalised, the gated feed-forward of the expert its tile of 512
   rows is assigned to, or zero beyond the active tiles. -/
module

public import Idealize.ShloMosaic.Lib.Pipeline.ValueKit

@[expose] public section

noncomputable section

namespace Cert.Moe

open Idealize.ShloMosaic

/-- A matrix, a vector, a stack of matrices of extended reals. -/
abbrev Mat (a b : ℕ) := (⟨2, ![a, b]⟩ : Shape).Idx → EReal
abbrev Row (a : ℕ) := (⟨1, ![a]⟩ : Shape).Idx → EReal
abbrev Stack (a b c : ℕ) := (⟨3, ![a, b, c]⟩ : Shape).Idx → EReal

variable (x : Mat 37376 1024) (w : Row 1024) (w1 w3 : Stack 8 1024 3584) (w2 : Stack 8 3584 1024)

/-- The row divided by its root mean square, times the norm's weight. -/
def normed (r : Fin 37376) (k : Fin 1024) : EReal :=
  x (ix2 r k) * Ideal.rsqrt (Ideal.div (∑ j : Fin 1024, x (ix2 r j) * x (ix2 r j)) (Ideal.ofBits .f32 0x44800000#32)
    + Ideal.ofBits .f32 0x358637BD#32) * w (ix1 k)

/-- The gated hidden unit `f` of expert `e`. -/
def hidden (e : Fin 8) (r : Fin 37376) (f : Fin 3584) : EReal :=
  (∑ k, normed x w r k * w1 (ix3 e k f)) * Ideal.logistic (∑ k, normed x w r k * w1 (ix3 e k f)) *
    ∑ k, normed x w r k * w3 (ix3 e k f)

/-- Expert `e`'s feed-forward of row `r`. -/
def ffn (e : Fin 8) (r : Fin 37376) (d : Fin 1024) : EReal :=
  ∑ f, hidden x w w1 w3 e r f * w2 (ix3 e f d)

/-- The tile of row `r`. -/
def rowTile (r : Fin 37376) : Fin 73 := ⟨r.val / 512, by omega⟩

open Classical in
/-- The routed feed-forward. -/
def routed (ex : Fin 73 → Fin 8) (n : BitVec 32) (r : Fin 37376) (d : Fin 1024) : EReal :=
  if (BitVec.ofNat 32 (r.val / 512)).slt n = true then ffn x w w1 w3 w2 (ex (rowTile r)) r d else 0

/-- The two halves of the hidden units add up to all of them. -/
theorem ffn_halves (e : Fin 8) (r : Fin 37376) (d : Fin 1024) :
    ffn x w w1 w3 w2 e r d =
      (∑ f : Fin 1792, hidden x w w1 w3 e r (Fin.castAdd 1792 f) * w2 (ix3 e (Fin.castAdd 1792 f) d)) +
        ∑ f : Fin 1792, hidden x w w1 w3 e r (Fin.natAdd 1792 f) * w2 (ix3 e (Fin.natAdd 1792 f) d) :=
  Fin.sum_univ_add (a := 1792) (b := 1792) (fun f : Fin 3584 => hidden x w w1 w3 e r f * w2 (ix3 e f d))

/-- A sum in which one expert alone has gate one. -/
theorem one_gate (g p : Fin 8 → EReal) (e : Fin 8) (he : g e = 1) (hz : ∀ a, a ≠ e → g a = 0) :
    0 + g 0 * p 0 + g 1 * p 1 + g 2 * p 2 + g 3 * p 3 + g 4 * p 4 + g 5 * p 5 + g 6 * p 6 + g 7 * p 7 = p e := by
  rw [zero_add, ← Fin.sum_univ_eight (fun a => g a * p a), Finset.sum_eq_single e]
  · rw [he, one_mul]
  · intro a _ ha; rw [hz a ha, zero_mul]
  · intro h; exact absurd (Finset.mem_univ e) h

/-- A sum in which no expert has a gate. -/
theorem no_gate (g p : Fin 8 → EReal) (hz : ∀ a, g a = 0) :
    0 + g 0 * p 0 + g 1 * p 1 + g 2 * p 2 + g 3 * p 3 + g 4 * p 4 + g 5 * p 5 + g 6 * p 6 + g 7 * p 7 = 0 := by
  simp only [hz, zero_mul, add_zero]

end Cert.Moe

end
-- ==== Proof.Moe.Array.lean ====
/- What the kernel's result array holds after the run: the routed feed-forward, at every row. -/
module

public import proofs.«01_k».proof.Proof.Moe.Payload
public import proofs.«01_k».proof.Proof.Moe.Math

@[expose] public section

set_option maxRecDepth 16384

noncomputable section

namespace Cert.KernelIdeal.Moe

open Cert.KernelIdeal Cert.KernelIdeal.Gen Cert.Moe
open Idealize.ShloMosaic Idealize.ShloMosaic.TcCoe

/-- Half `b` of the hidden units. -/
def unit (b : Fin 2) (f : Fin 1792) : Fin 3584 := ⟨b.val * 1792 + f.val, by omega⟩

/-- One half's contribution to the feed-forward of row `r` by expert `e`. -/
def halfSum (x : Mat 37376 1024) (w : Row 1024) (w1 w3 : Stack 8 1024 3584) (w2 : Stack 8 3584 1024) (e : Fin 8)
    (b : Fin 2) (r : Fin 37376) (d : Fin 1024) : EReal :=
  ∑ f : Fin 1792, hidden x w w1 w3 e r (unit b f) * w2 (ix3 e (unit b f) d)

theorem halves (x : Mat 37376 1024) (w : Row 1024) (w1 w3 : Stack 8 1024 3584) (w2 : Stack 8 3584 1024) (e : Fin 8)
    (r : Fin 37376) (d : Fin 1024) :
    halfSum x w w1 w3 w2 e 0 r d + halfSum x w w1 w3 w2 e 1 r d = ffn x w w1 w3 w2 e r d := by
  have h0 (f : Fin 1792) : unit 0 f = Fin.castAdd 1792 f := Fin.ext (show 0 * 1792 + f.val = f.val by omega)
  have h1 (f : Fin 1792) : unit 1 f = Fin.natAdd 1792 f := Fin.ext (show 1 * 1792 + f.val = 1792 + f.val by omega)
  rw [ffn_halves]
  unfold halfSum
  simp only [h0, h1]

/-- A step of the kernel, once its blocks are known as entries of the arrays. -/
theorem step_at (x : Mat 37376 1024) (w : Row 1024) (w1 w3 : Stack 8 1024 3584) (w2 : Stack 8 3584 1024) (e : Fin 8)
    (b : Fin 2) (r : Fin 37376) (d : Fin 1024) (a : Fin 512)
    (h : FVec Ideal S512x1024 .bf16) (b1 b3 : FVec Ideal S1x1024x1792 .bf16) (acc : FVec Ideal S512x1024 .f32)
    (b2 : FVec Ideal S1x1792x1024 .bf16)
    (hh : ∀ k : Fin 1024, h (ix2 a k) = normed x w r k)
    (h1 : ∀ (k : Fin 1024) (f : Fin 1792), b1 (ix3 0 k f) = w1 (ix3 e k (unit b f)))
    (h3 : ∀ (k : Fin 1024) (f : Fin 1792), b3 (ix3 0 k f) = w3 (ix3 e k (unit b f)))
    (h2 : ∀ f : Fin 1792, b2 (ix3 0 f d) = w2 (ix3 e (unit b f) d)) :
    k0_pay3 (F := Ideal) h b1 b3 acc b2 (ix2 a d) = acc (ix2 a d) + halfSum x w w1 w3 w2 e b r d := by
  rw [pay3_at]
  simp only [hh, h1, h3, h2]
  rfl

/-- The normalised rows, once the blocks are known. -/
theorem rms_row (x : Mat 37376 1024) (w : Row 1024) (r : Fin 37376) (a : Fin 512)
    (b : FVec Ideal S512x1024 .f32) (n : FVec Ideal S1x1024 .f32)
    (hb : ∀ k : Fin 1024, b (ix2 a k) = x (ix2 r k)) (hn : ∀ k : Fin 1024, n (ix2 0 k) = w (ix1 k)) (k : Fin 1024) :
    k0_pay1 (F := Ideal) b n (ix2 a k) = normed x w r k := by
  rw [pay1_at]
  simp only [hb, hn]
  rfl

/-- The mask of an active tile selects the value. -/
theorem pay4_active (i : grid0.Coords) (n : BitVec 32) (v : FVec Ideal S512x1024 .f32)
    (q : Scalar.cmpi .slt (BitVec.ofNat 32 (i 0).val) n = 1#1) : k0_pay4 (F := Ideal) i n v = v := by
  show Scalar.select (Scalar.cmpi .slt (BitVec.ofNat 32 (i 0).val) n) v _ = v
  rw [q]; rfl

variable {m : (ℓ : Loc nD τ sig) → Buf (Elt Ideal) ℓ} (hr : InRange m) (hO : Ok m) (hH : Hyps m hO) (c : Dev nD)

/-- The expert of a tile as an index. -/
def choice (r : Fin 73) : Fin 8 := ⟨(expert m r).toNat, hr.expert_lt r⟩

abbrev rowsA : Mat 37376 1024 := m ((c : Thread nD τ).loc main_arg2)
abbrev normA : Row 1024 := m ((c : Thread nD τ).loc main_arg3)
abbrev upA : Stack 8 1024 3584 := m ((c : Thread nD τ).loc main_arg4)
abbrev gateA : Stack 8 1024 3584 := m ((c : Thread nD τ).loc main_arg5)
abbrev downA : Stack 8 3584 1024 := m ((c : Thread nD τ).loc main_arg6)

/-- A point's step, at a row of its tile. -/
theorem point_step (t : Fin (cfgM m hO).N) (ha : Active m t) (b : Fin 2) (hb : t.val % 2 = b.val) (r : Fin 37376) (a : Fin 512)
    (d : Fin 1024) (h : FVec Ideal S512x1024 .bf16) (acc : FVec Ideal S512x1024 .f32)
    (hh : ∀ k : Fin 1024, h (ix2 a k) = normed (rowsA (m := m) c) (normA (m := m) c) r k) :
    k0_pay3 (F := Ideal) h (iblk m hO c 2 t) (iblk m hO c 3 t) acc (iblk m hO c 4 t) (ix2 a d) = acc (ix2 a d) +
      halfSum (rowsA (m := m) c) (normA (m := m) c) (upA (m := m) c) (gateA (m := m) c) (downA (m := m) c) (choice hr (tile t)) b r d := by
  refine step_at _ _ _ _ _ _ b r d a h _ _ acc _ hh (fun k f => ?_) (fun k f => ?_) (fun f => ?_)
  · exact w1_at hO c t ha (ix3 0 k f) (ix3 (choice hr (tile t)) k (unit b f)) rfl rfl
      (by show b.val * 1792 + f.val = t.val % 2 * 1792 + f.val; rw [hb])
  · exact w3_at hO c t ha (ix3 0 k f) (ix3 (choice hr (tile t)) k (unit b f)) rfl rfl
      (by show b.val * 1792 + f.val = t.val % 2 * 1792 + f.val; rw [hb])
  · exact w2_at hO c t ha (ix3 0 f d) (ix3 (choice hr (tile t)) (unit b f) d) rfl
      (by show b.val * 1792 + f.val = t.val % 2 * 1792 + f.val; rw [hb]) rfl

theorem point_rms (t : Fin (cfgM m hO).N) (r : Fin 37376) (a : Fin 512) (h : r.val = t.val / 2 * 512 + a.val) (k : Fin 1024) :
    k0_pay1 (F := Ideal) (iblk m hO c 0 t) (iblk m hO c 1 t) (ix2 a k) = normed (rowsA (m := m) c) (normA (m := m) c) r k := by
  refine rms_row _ _ r a _ _ (fun k => ?_) (fun k => ?_) k
  · exact rows_at hO c t (ix2 a k) (ix2 r k) h rfl
  · exact norm_at hO c t (ix2 0 k) (ix1 k) rfl

theorem active_iff (t : Fin grid0.N) : Active m t ↔ (BitVec.ofNat 32 (t.val / 2)).slt (count m) = true := by
  unfold Active; rw [coords_zero]

/-- What the last point of a tile leaves in the block: the routed feed-forward of the tile's rows. -/
theorem block_at (t : Fin (cfgM m hO).N) (h2 : t.val % 2 = 1) (a : Fin 512) (d : Fin 1024) (r : Fin 37376)
    (hrow : r.val = t.val / 2 * 512 + a.val) :
    (show S512x1024.Idx → EReal from (outsAt0 m hO hH c t.val t.isLt).1) (ix2 a d) =
      routed (rowsA (m := m) c) (normA (m := m) c) (upA (m := m) c) (gateA (m := m) c) (downA (m := m) c) (choice hr) (count m) r d := by
  have hq : r.val / 512 = t.val / 2 := by omega
  have htile : rowTile r = tile t := Fin.ext hq
  unfold routed
  rw [hq, htile]
  by_cases ha : Active m t
  · have hs := (active_iff t).mp ha
    rw [if_pos hs, second_half hO hH c t h2 ha]
    generalize hs1 : (⟨t.val - 1, Nat.lt_of_le_of_lt (Nat.sub_le _ _) t.isLt⟩ : Fin (cfgM m hO).N) = s
    have hsv : s.val = t.val - 1 := by rw [← hs1]
    have hs2 : s.val / 2 = t.val / 2 := by omega
    have hsa : Active m s := (active_iff s).mpr (by rw [hs2]; exact hs)
    have hst : tile s = tile t := Fin.ext hs2
    have F := first_half hO hH c s (by omega) hsa
    subst hs1
    have q : Scalar.cmpi .slt (BitVec.ofNat 32 (grid0.coords t 0).val) (count m) = 1#1 := by
      unfold Active at ha
      simp only [Scalar.cmpi, IntOp.cmpi, ha]; rfl
    refine (congrFun (pay4_active _ _ _ q) _).trans ?_
    refine (point_step hr hO c t ha 1 h2 r a d _ _ fun k => ?_).trans ?_
    · rw [F.1]; exact point_rms hO c _ r a (by rw [hs2]; exact hrow) k
    · rw [F.2, ← halves]
      refine congrArg₂ (· + ·) ?_ rfl
      refine (point_step hr hO c _ hsa 0 (by show (t.val - 1) % 2 = 0; omega) r a d _ _ fun k => ?_).trans ?_
      · exact point_rms hO c _ r a (by rw [hs2]; exact hrow) k
      · rw [pay2_at, zero_add, hst]
  · rw [if_neg fun h => ha ((active_iff t).mpr h), idle_tile hO hH c t h2 ha]
    exact Ideal.ofBits_zero_f32

/-- The same at any entry of the block and of the array that lie on each other. -/
theorem block_entry (t : Fin (cfgM m hO).N) (h2 : t.val % 2 = 1) (y : S512x1024.Idx) (i : S37376x1024.Idx)
    (k0 : (i 0).val = t.val / 2 * 512 + (y 0).val) (k1 : (i 1).val = 0 * 1024 + (y 1).val) :
    (show S512x1024.Idx → EReal from (outsAt0 m hO hH c t.val t.isLt).1) y =
      routed (rowsA (m := m) c) (normA (m := m) c) (upA (m := m) c) (gateA (m := m) c) (downA (m := m) c) (choice hr) (count m) (i 0) (i 1) := by
  have hd : (i 1 : Fin 1024) = (y 1 : Fin 1024) := Fin.ext (k1.trans (by omega))
  refine (congrArg (show S512x1024.Idx → EReal from (outsAt0 m hO hH c t.val t.isLt).1) (eq_ix2 y)).trans ?_
  refine (block_at hr hO hH c t h2 (y 0) (y 1) (i 0) k0).trans ?_
  exact congrArg _ hd.symm

/-- The last point of a row's tile. -/
def lastPoint (i : S37376x1024.Idx) : Fin grid0.N :=
  ⟨(i 0).val / 512 * 2 + 1, by have hi : (i 0).val < 37376 := (i 0).isLt; rw [N_0]; omega⟩

theorem lastPoint_flush (i : S37376x1024.Idx) : ((cfgM m hO).win 5).flush (lastPoint i) = true :=
  (flush0_5 _ _).mpr (by show ((i 0).val / 512 * 2 + 1) % 2 = 1; omega)

theorem lastPoint_mem (i : S37376x1024.Idx) :
    ((cfgM m hO).win 5).arr.view.emb i ∈ (((cfgM m hO).win 5).blk (lastPoint i)).view.set := by
  refine (Pipeline.Window.emb_mem_blk_iff ((cfgM m hO).win 5) (lastPoint i) i rfl).mpr fun a => ?_
  rw [congrFun (index5 hO (lastPoint i)) a]
  match a with
  | ⟨0, _⟩ =>
    show ((i 0).val / 512 * 2 + 1) / 2 * 512 ≤ (i 0).val ∧ (i 0).val < ((i 0).val / 512 * 2 + 1) / 2 * 512 + 512
    omega
  | ⟨1, _⟩ =>
    have h1 : (i 1).val < 1024 := (i 1).isLt
    show 0 * 1024 ≤ (i 1).val ∧ (i 1).val < 0 * 1024 + 1024
    omega

/-- The whole array. -/
theorem array_eq : (show S37376x1024.Idx → EReal from (dats m hO hH 0 c).arrAt 5 (cfgM m hO).N) = fun i =>
    routed (rowsA (m := m) c) (normA (m := m) c) (upA (m := m) c) (gateA (m := m) c) (downA (m := m) c) (choice hr) (count m) (i 0) (i 1) := by
  refine (dats m hO hH 0 c).arrAt_eq_of_emb 5 (fun i : S37376x1024.Idx => routed (rowsA (m := m) c) (normA (m := m) c)
    (upA (m := m) c) (gateA (m := m) c) (downA (m := m) c) (choice hr) (count m) (i 0) (i 1)) (fun t hf y => ?_)
    (fun i => ⟨lastPoint i, lastPoint_flush hO i, lastPoint_mem hO i⟩)
  have key := fun a : Fin 2 => (Pipeline.Window.rect_emb_val ((cfgM m hO).win 5) t y a).trans
    (congrArg (fun n => n * ((cfgM m hO).win 5).size a + (y a).val) (congrFun (index5 hO t) a))
  exact (congrFun (after0_5 m hO hH c t) y).trans
    (block_entry hr hO hH c t ((flush0_5 _ t).mp hf) y ((((cfgM m hO).win 5).blk t).view.emb y) (key 0) (key 1))

end Cert.KernelIdeal.Moe

end
-- ==== Proof.Moe.Reference.lean ====
/- What the reference computes at one entry: the sum over the eight experts of the row's gate times the expert's gated
   feed-forward of the normalised row. -/
module

public import proofs.«01_k».proof.Proof.Gen.ReferenceIdeal.Read
public import proofs.«01_k».proof.Proof.Moe.Math
public import Idealize.ShloMosaic.Lib.Pipeline.ValueKit

@[expose] public section

set_option maxRecDepth 16384

noncomputable section

namespace Cert.ReferenceIdeal.Moe

open Cert.ReferenceIdeal Cert.ReferenceIdeal.Gen Cert.ReferenceIdeal.Read
open Idealize.ShloMosaic Idealize.ShloMosaic.TcCoe

variable {F : FTy → Type} [FloatOps F]

/-- The gated feed-forward `(silu (h w1) * (h w3)) w2`. -/
def swiglu (h : FVec F S37376x1024 .f32) (w1 w3 : FVec F S1024x3584 .f32) (w2 : FVec F S3584x1024 .f32) :
    FVec F S37376x1024 .f32 :=
  let up := Host.dotGeneral dot_S37376x1024_S1024x3584_S37376x3584_1_0_0_1_n_n none h w1
  let one : FVec F S37376x3584 .f32 := broadcastInDim S37376x3584 ![] bcast_S_S37376x3584 (constant S_ .f32 0x3F800000#32)
  let act := mulf up (Host.divf one (addf one (Host.exp (Host.negf up))))
  Host.dotGeneral dot_S37376x3584_S3584x1024_S37376x1024_1_0_0_1_n_n none
    (mulf act (Host.dotGeneral dot_S37376x1024_S1024x3584_S37376x3584_1_0_0_1_n_n none h w3)) w2

theorem slice_up (e : Fin 8) : S8x1024x3584.Slices ![e.val, 0, 0] S1x1024x3584 := by revert e; decide
theorem slice_down (e : Fin 8) : S8x3584x1024.Slices ![e.val, 0, 0] S1x3584x1024 := by revert e; decide
theorem slice_gate (e : Fin 8) : S37376x8.Slices ![0, e.val] S37376x1 := by revert e; decide

/-- Expert `e`'s matrix out of a stack of eight. -/
def up (x : FVec F S8x1024x3584 .f32) (e : Fin 8) : FVec F S1024x3584 .f32 :=
  shapeCast S1024x3584 (extractStridedSlice S1x1024x3584 ![e.val, 0, 0] x (slice_up e)) shapeCasts_S1x1024x3584_S1024x3584
def down (x : FVec F S8x3584x1024 .f32) (e : Fin 8) : FVec F S3584x1024 .f32 :=
  shapeCast S3584x1024 (extractStridedSlice S1x3584x1024 ![e.val, 0, 0] x (slice_down e)) shapeCasts_S1x3584x1024_S3584x1024

/-- Expert `e`'s summand: the gate's column times its feed-forward. -/
def summand (g : FVec F S37376x8 .f32) (h : FVec F S37376x1024 .f32) (x4 x5 : FVec F S8x1024x3584 .f32)
    (x6 : FVec F S8x3584x1024 .f32) (e : Fin 8) : FVec F S37376x1024 .f32 :=
  mulf (broadcastInDim S37376x1024 ![0, 1] bcast_S37376x1_S37376x1024_0_1
      (extractStridedSlice S37376x1 ![0, e.val] g (slice_gate e)))
    (swiglu h (up x4 e) (up x5 e) (down x6 e))

/-- The result is the summands added in order to zero. -/
theorem out_eq (x0 : (⟨S73, .i32⟩ : BufTy).Contents (Elt F)) (x1 : (⟨S1, .i32⟩ : BufTy).Contents (Elt F))
    (x2 : FVec F S37376x1024 .f32) (x3 : FVec F S1024 .f32) (x4 x5 : FVec F S8x1024x3584 .f32) (x6 : FVec F S8x3584x1024 .f32) :
    val_main_v143 (F := F) x0 x1 x2 x3 x4 x5 x6 =
      let p := summand (val_main_v22 (F := F) x0 x1) (val_main_v12 (F := F) x2 x3) x4 x5 x6
      addf (addf (addf (addf (addf (addf (addf (addf (val_main_v23 (F := F)) (p 0)) (p 1)) (p 2)) (p 3)) (p 4)) (p 5)) (p 6)) (p 7) :=
  rfl

/-- The normalised rows. -/
theorem rms_at (x2 : FVec Ideal S37376x1024 .f32) (x3 : FVec Ideal S1024 .f32) (r : Fin 37376) (k : Fin 1024) :
    val_main_v12 (F := Ideal) x2 x3 (ix2 r k) = Cert.Moe.normed x2 x3 r k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1,
    Cert.Moe.normed]

/-- A summand at one entry: the gate times the expert's feed-forward. -/
theorem summand_at (g : FVec Ideal S37376x8 .f32) (x2 : FVec Ideal S37376x1024 .f32) (x3 : FVec Ideal S1024 .f32)
    (x4 x5 : FVec Ideal S8x1024x3584 .f32) (x6 : FVec Ideal S8x3584x1024 .f32) (e : Fin 8) (r : Fin 37376) (d : Fin 1024) :
    summand g (val_main_v12 (F := Ideal) x2 x3) x4 x5 x6 e (ix2 r d) = g (ix2 r e) * Cert.Moe.ffn x2 x3 x4 x5 x6 e r d := by
  have key (h : FVec Ideal S37376x1024 .f32) : summand g h x4 x5 x6 e (ix2 r d) =
      g (ix2 r e) * ∑ f : Fin 3584, ((∑ k : Fin 1024, h (ix2 r k) * x4 (ix3 e k f)) *
        Ideal.logistic (∑ k : Fin 1024, h (ix2 r k) * x4 (ix3 e k f)) * ∑ k : Fin 1024, h (ix2 r k) * x5 (ix3 e k f)) *
        x6 (ix3 e f d) := by
    pointwise [summand, swiglu, up, down, Ideal.logistic]
  rw [key]
  simp only [rms_at]
  rfl

/-- The gate: one for the expert of the row's tile, within the active tiles. -/
theorem gate_at (x0 : (⟨S73, .i32⟩ : BufTy).Contents (Elt Ideal)) (x1 : (⟨S1, .i32⟩ : BufTy).Contents (Elt Ideal))
    (r : Fin 37376) (e : Fin 8) :
    val_main_v22 (F := Ideal) x0 x1 (ix2 r e) =
      Scalar.select (IntOp.cmpi .slt (BitVec.ofNat 32 (r.val / 512)) (x1 (ix1 0)))
        (FloatOps.uitofp (F := Ideal) .f32 (IntOp.cmpi .eq (x0 (ix1 (Cert.Moe.rowTile r))) (BitVec.ofNat 32 e.val))) 0 := by
  pointwise [val_main_v22, val_main_v21, val_main_v20, val_main_v19, val_main_v18, val_main_v17, val_main_v16, val_main_v15,
    val_main_v14, val_main_v13, val_main_call1_v0, val_main_call1_v1, val_main_call1_v2, val_main_cst_2, val_main_call0_v0,
    val_main_call0_v1, val_main_call0_v2, val_main_call0_v3, val_main_call0_v4, Cert.Moe.rowTile]
  exact congrArg (Scalar.select _ _) Ideal.ofBits_zero_f32

/-- The reference's result at one entry. -/
theorem out_at (x0 : (⟨S73, .i32⟩ : BufTy).Contents (Elt Ideal)) (x1 : (⟨S1, .i32⟩ : BufTy).Contents (Elt Ideal))
    (x2 : FVec Ideal S37376x1024 .f32) (x3 : FVec Ideal S1024 .f32)
    (x4 x5 : FVec Ideal S8x1024x3584 .f32) (x6 : FVec Ideal S8x3584x1024 .f32) (ex : Fin 73 → Fin 8)
    (hx : ∀ t, (x0 (ix1 t) : BitVec 32).toNat = (ex t).val) (r : Fin 37376) (d : Fin 1024) :
    val_main_v143 (F := Ideal) x0 x1 x2 x3 x4 x5 x6 (ix2 r d) =
      Cert.Moe.routed x2 x3 x4 x5 x6 ex (x1 (ix1 0)) r d := by
  have z : val_main_v23 (F := Ideal) (ix2 r d) = (0 : EReal) := by pointwise [val_main_v23, val_main_cst_3]
  rw [out_eq]
  simp only [addf_apply, Ideal.addf_def, summand_at, z]
  generalize hg : (fun e : Fin 8 => (val_main_v22 (F := Ideal) x0 x1 (ix2 r e) : EReal)) = g
  have hg' (e : Fin 8) : val_main_v22 (F := Ideal) x0 x1 (ix2 r e) = g e := congrFun hg e
  simp only [hg']
  unfold Cert.Moe.routed
  by_cases ha : (BitVec.ofNat 32 (r.val / 512)).slt (x1 (ix1 0)) = true
  · rw [if_pos ha]
    refine Cert.Moe.one_gate g (fun e => Cert.Moe.ffn x2 x3 x4 x5 x6 e r d) (ex (Cert.Moe.rowTile r)) ?_ ?_
    · have q : x0 (ix1 (Cert.Moe.rowTile r)) = BitVec.ofNat 32 (ex (Cert.Moe.rowTile r)).val := by
        rw [← hx]; exact BitVec.eq_of_toNat_eq (by rw [BitVec.toNat_ofNat, Nat.mod_eq_of_lt (BitVec.isLt _)])
      rw [← hg', gate_at, q]
      simp [Scalar.select, IntOp.cmpi, ha]
      show (((1#1 : BitVec 1).toNat : ℝ) : EReal) = 1
      simp
    · intro a hne
      have q : ¬ x0 (ix1 (Cert.Moe.rowTile r)) = BitVec.ofNat 32 a.val := by
        intro h
        have := hx (Cert.Moe.rowTile r)
        rw [h, BitVec.toNat_ofNat] at this
        exact hne (Fin.ext (by have := a.isLt; omega))
      rw [← hg', gate_at]
      simp [Scalar.select, IntOp.cmpi, ha]
      rw [beq_eq_false_iff_ne.mpr q]
      show (((0#1 : BitVec 1).toNat : ℝ) : EReal) = 0
      simp
  · rw [if_neg ha]
    refine Cert.Moe.no_gate g (fun e => Cert.Moe.ffn x2 x3 x4 x5 x6 e r d) fun a => ?_
    rw [← hg', gate_at]
    simp [Scalar.select, IntOp.cmpi, ha]

end Cert.ReferenceIdeal.Moe

end
-- ==== Proof.Moe.Value.lean ====
/- The equation: kernel and reference leave the same array, the routed feed-forward. -/
module

public import proofs.«01_k».proof.Proof.Moe.Frames
public import proofs.«01_k».proof.Proof.Moe.Array
public import proofs.«01_k».proof.Proof.Moe.Reference

@[expose] public section

set_option maxRecDepth 16384

noncomputable section

namespace Cert.Moe

open Idealize.ShloMosaic Idealize.SL.Sem Idealize.ShloMosaic.TcCoe

/-- The one device. -/
theorem device_zero (c : Dev KernelIdeal.nD) : c = 0 := Fin.ext (by have := c.isLt; have h : KernelIdeal.nD = 1 := rfl; omega)

/-- The routed feed-forward of the memory's arrays. -/
def target (m : (ℓ : Loc KernelIdeal.nD KernelIdeal.τ KernelIdeal.sig) → Buf (Elt Ideal) ℓ) (hr : KernelIdeal.Moe.InRange m)
    (c : Dev KernelIdeal.nD) : KernelIdeal.S37376x1024.Idx → EReal := fun i =>
  routed (KernelIdeal.Moe.rowsA (m := m) c) (KernelIdeal.Moe.normA (m := m) c) (KernelIdeal.Moe.upA (m := m) c)
    (KernelIdeal.Moe.gateA (m := m) c) (KernelIdeal.Moe.downA (m := m) c) (KernelIdeal.Moe.choice hr)
    (KernelIdeal.Moe.count m) (i 0) (i 1)

/-- The tables' words, read at the device at hand. -/
theorem expert_read (m : (ℓ : Loc KernelIdeal.nD KernelIdeal.τ KernelIdeal.sig) → Buf (Elt Ideal) ℓ) (c : Dev KernelIdeal.nD)
    (t : Fin 73) :
    ((show KernelIdeal.S73.Idx → BitVec 32 from m ((c : Thread KernelIdeal.nD KernelIdeal.τ).loc KernelIdeal.main_arg0)) (ix1 t)).toNat =
      (KernelIdeal.Moe.expert m t).toNat := by
  obtain rfl := device_zero c
  refine congrArg BitVec.toNat (congrArg (show KernelIdeal.S73.Idx → BitVec 32 from
    m ((0 : Dev KernelIdeal.nD), Proc.devRef .tc KernelIdeal.main_arg0)) (funext fun a => ?_))
  match a with
  | ⟨0, _⟩ => rfl

theorem count_read (m : (ℓ : Loc KernelIdeal.nD KernelIdeal.τ KernelIdeal.sig) → Buf (Elt Ideal) ℓ) (c : Dev KernelIdeal.nD) :
    (show KernelIdeal.S1.Idx → BitVec 32 from m ((c : Thread KernelIdeal.nD KernelIdeal.τ).loc KernelIdeal.main_arg1)) (ix1 0) =
      KernelIdeal.Moe.count m := by
  obtain rfl := device_zero c
  refine congrArg (show KernelIdeal.S1.Idx → BitVec 32 from
    m ((0 : Dev KernelIdeal.nD), Proc.devRef .tc KernelIdeal.main_arg1)) (funext fun a => ?_)
  match a with
  | ⟨0, _⟩ => rfl

theorem routed_congr {x x' : Mat 37376 1024} {w w' : Row 1024} {w1 w1' w3 w3' : Stack 8 1024 3584} {w2 w2' : Stack 8 3584 1024}
    (hx : x = x') (hw : w = w') (h1 : w1 = w1') (h3 : w3 = w3') (h2 : w2 = w2') (ex : Fin 73 → Fin 8) {n n' : BitVec 32}
    (hn : n = n') (r : Fin 37376) (d : Fin 1024) :
    routed x w w1 w3 w2 ex n r d = routed x' w' w1' w3' w2' ex n' r d := by
  subst hx hw h1 h3 h2 hn; rfl

/-- From memories that agree on the arguments, kernel and reference end with the same array. -/
theorem algebraic : algebraic_KernelIdeal_ReferenceIdeal := by
  intro m g m' g' hpre hargs
  have hr := ideal_inRange m hpre
  have hO := KernelIdeal.Moe.ok_of_range hr
  have hH := KernelIdeal.Moe.hyps_of_range hr hO
  refine ⟨fun c => target m hr c, ?_, ?_⟩
  · refine (θ_run KernelIdeal.defs _ _).mono (fun r h c => ⟨?_, h.2 c⟩)
      (θ_run_and (KernelIdeal.Gen.run_main m g hO hH) (KernelIdeal.Gen.unchanged m g hO hH))
    exact (Pipeline.FramePost.out_eq h.1 c 5).trans (KernelIdeal.Moe.array_eq hr hO hH c)
  · refine (θ_run ReferenceIdeal.defs _ _).mono (fun r h c => ⟨?_, (h c).2⟩) (ReferenceIdeal.Value.run (F := Ideal) m' g')
    refine (h c).1.trans ((ReferenceIdeal.Read.val_main_v143_eq _).trans ?_)
    obtain ⟨e0, e1, e2, e3, e4, e5, e6⟩ := hargs c
    funext i
    refine (congrArg _ (eq_ix2 (n0 := 37376) (n1 := 1024) i)).trans ?_
    refine (ReferenceIdeal.Moe.out_at _ _ _ _ _ _ _ (KernelIdeal.Moe.choice hr) (fun t => ?_) (i 0) (i 1)).trans ?_
    · exact (congrArg BitVec.toNat (congrFun e0 (ix1 t))).trans (expert_read m c t)
    · exact routed_congr e2 e3 e4 e5 e6 _ ((congrFun e1 (ix1 0)).trans (count_read m c)) (i 0) (i 1)

end Cert.Moe

end
-- ==== Proof.Dense.Value.lean ====
/- The dense feed-forward with its residual: the kernel accumulates over eleven blocks of hidden units what the reference contracts at once. -/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel2Ideal.Dense

open Cert.Kernel2Ideal Cert.Kernel2Ideal.Gen
open Idealize.ShloMosaic Idealize.SL.Sem Idealize.ShloMosaic.TcCoe
open Cert.Reference2Ideal.Read

variable (m : (ℓ : Loc nD τ sig) → Buf (Elt Ideal) ℓ)

/-- The feed-forward of every row added to the residual: the reference's array. -/
abbrev result (h : FVec Ideal S16640x1024 .bf16) (x : FVec Ideal S16640x1024 .f32) (w1 w3 : FVec Ideal S1024x2816 .f32)
    (w2 : FVec Ideal S2816x1024 .f32) : FVec Ideal S16640x1024 .f32 := Cert.Reference2Ideal.Read.val_main_v6 (F := Ideal) h x w1 w3 w2

/-- The windows' block indices. -/
theorem idx : ∀ t : Fin cfg0.N, win0_0.index t = ![t.val / 11, 0] ∧ win0_1.index t = ![t.val / 11, 0] ∧
    win0_2.index t = ![0, t.val % 11] ∧ win0_3.index t = ![0, t.val % 11] ∧ win0_4.index t = ![t.val % 11, 0] ∧
    win0_5.index t = ![0, 0] ∧ win0_6.index t = ![t.val / 11, 0] :=
  (by decide +kernel : ∀ t : Fin grid0.N, _)

/-- The accumulator starts at zero. -/
theorem hzero (j : S1280x1024.Idx) : k0_pay1 (F := Ideal) j = 0 := by
  pointwise [k0_pay1]

/-- The hidden unit gated by its sigmoid. -/
def unit (a b : EReal) : EReal := a * Ideal.logistic a * b

/-- One point adds its block of hidden units to the accumulator. -/
theorem hpay (x : Vec Ideal S1280x1024 .bf16) (a b : Vec Ideal S1024x256 .bf16) (acc : Vec Ideal S1280x1024 .f32)
    (w : Vec Ideal S256x1024 .bf16) (j : S1280x1024.Idx) :
    k0_pay2 x a b acc w j = acc j + ∑ k : Fin 256,
      unit (∑ q : Fin 1024, x (ix2 (j 0) q) * a (ix2 q k)) (∑ q : Fin 1024, x (ix2 (j 0) q) * b (ix2 q k)) * w (ix2 k (j 1)) := by
  pointwise [k0_pay2, unit]

theorem href (h : FVec Ideal S16640x1024 .bf16) (x : FVec Ideal S16640x1024 .f32) (w1 w3 : FVec Ideal S1024x2816 .f32)
    (w2 : FVec Ideal S2816x1024 .f32) (j : S16640x1024.Idx) :
    result h x w1 w3 w2 j = x j + ∑ k : Fin 2816,
      unit (∑ q : Fin 1024, h (ix2 (j 0) q) * w1 (ix2 q k)) (∑ q : Fin 1024, h (ix2 (j 0) q) * w3 (ix2 q k)) * w2 (ix2 k (j 1)) := by
  pointwise [result, unit, Ideal.logistic, val_main_v6, val_main_v5, val_main_v4, val_main_v3, val_main_v2, val_main_v1, val_main_v0,
    val_main_call0_v5, val_main_call0_v4, val_main_call0_v3, val_main_call0_v2, val_main_call0_v1, val_main_call0_v0,
    val_main_call0_cst, val_main_call0_cst_0]

/-- The last point of a row of blocks stores the residual plus the accumulator. -/
theorem last (c : Dev nD) (t : Fin cfg0.N) (h : t.val % 11 = 10) (y : S1280x1024.Idx) :
    (outsAt0 m c t.val t.isLt).1 y = (show FVec Ideal S1280x1024 .f32 from iblk m c 1 t) y + (outsAt0 m c t.val t.isLt).2 y := by
  rw [outsAt0_C m c t (by omega) h]
  frame_out
  pointwise [k0_pay3]

/-- The result array after the run. -/
theorem final (c : Dev nD) : (dats m 0 c).arrAt 6 (cfgs 0).N
    = result (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  have ht := (flush0_6 t).mp hf
  blk_simp
  rw [after0_6, href]
  refine (last m c t ht y).trans ?_
  rw [Pipeline.eq_sum_fin_of_reset_step_apply_of_flush (fun n h => (outsAt0 m c n h).2) 11 (fun _ => 0) _
    (fun t h j => by rw [outsAt0_A m c t h (by omega)]; frame_out; rw [hpay, hzero])
    (fun t h j => by
      by_cases h1 : t.val % 11 = 10
      · rw [outsAt0_C m c t h h1]; frame_out; rw [hpay, read_unread_whole]
      · rw [outsAt0_B m c t h h1]; frame_out; rw [hpay, read_unread_whole])
    t ht _, zero_add]
  refine congrArg₂ (fun a b : EReal => a + b) ?_ ?_
  · blk_ext [iblk, V, idx t]
  · refine Fin.sum_mul_add_congr fun s k hl => ?_
    unfold unit
    blk_point [iblk, V, idx t, idx ⟨_, Pipeline.run_point_lt_of_flush t ht s⟩]

end Cert.Kernel2Ideal.Dense

end
-- ==== Proof.Dense.Claims.lean ====
/- The dense feed-forward: its frames and the equation. -/
module

public import proofs.«01_k».proof.Defs
public import proofs.«01_k».proof.Proof.Gen.Kernel2.Frame
public import proofs.«01_k».proof.Proof.Gen.Kernel2Ideal.Value
public import proofs.«01_k».proof.Proof.Gen.Reference2Ideal.Read
public import proofs.«01_k».proof.Proof.Dense.Value
public import Idealize.ShloMosaic.Adequacy
public import Idealize.ShloMosaic.Init

@[expose] public section

set_option maxRecDepth 16384

noncomputable section

namespace Cert.Dense

open Idealize.ShloMosaic Idealize.SL.Sem Idealize.ShloMosaic.TcCoe

/-- The kernel terminates, its semaphores back at zero, its arguments unchanged. -/
theorem frame_kernel : quiescent_Kernel2 := fun m ρ _ => Kernel2.Gen.frame m ρ

theorem frame_ideal : quiescent_Kernel2Ideal := fun m ρ _ => Kernel2Ideal.Gen.frame m ρ

theorem frame_reference : quiescent_Reference2Ideal := fun m ρ _ =>
  (θ_run Reference2Ideal.defs _ _).mono (fun r h => ⟨fun c => (h c).2, sem_eq_zero_of_no_sems (by decide) r.2⟩)
    (Reference2Ideal.Value.run (F := Ideal) m ρ)

/-- From memories that agree on the arguments, kernel and reference end with the same result. -/
theorem algebraic : algebraic_Kernel2Ideal_Reference2Ideal := by
  intro m g m' g' _ hargs
  refine ⟨fun c => Kernel2Ideal.Dense.result (m ((c : Thread Kernel2Ideal.nD Kernel2Ideal.τ).loc Kernel2Ideal.main_arg0)) (m ((c : Thread Kernel2Ideal.nD Kernel2Ideal.τ).loc Kernel2Ideal.main_arg1)) (m ((c : Thread Kernel2Ideal.nD Kernel2Ideal.τ).loc Kernel2Ideal.main_arg2)) (m ((c : Thread Kernel2Ideal.nD Kernel2Ideal.τ).loc Kernel2Ideal.main_arg3)) (m ((c : Thread Kernel2Ideal.nD Kernel2Ideal.τ).loc Kernel2Ideal.main_arg4)), ?_, ?_⟩
  · exact (θ_run Kernel2Ideal.defs _ _).mono (fun r h c => ⟨(Kernel2Ideal.Value.post6 m r h c).trans (Kernel2Ideal.Dense.final m c),
      Kernel2Ideal.Value.kept_main_arg0 m r h c, Kernel2Ideal.Value.kept_main_arg1 m r h c, Kernel2Ideal.Value.kept_main_arg2 m r h c, Kernel2Ideal.Value.kept_main_arg3 m r h c, Kernel2Ideal.Value.kept_main_arg4 m r h c, Kernel2Ideal.Value.kept_main_arg5 m r h c⟩)
      (Kernel2Ideal.Gen.run_main m g)
  · refine (θ_run Reference2Ideal.defs _ _).mono (fun r h c => ?_) (Reference2Ideal.Value.run (F := Ideal) m' g')
    obtain ⟨e0, e1, e2, e3, e4, e5⟩ := hargs c
    refine ⟨?_, (h c).2⟩
    · refine (h c).1.trans ((Reference2Ideal.Read.val_main_v6_eq _ _ _ _ _).trans ?_)
      rw [e0, e1, e2, e3, e4]

end Cert.Dense

end
-- ==== Proof.Merge.Value.lean ====
/- The merge of the three gated branches: what each grid point stores is its block of the reference's two arrays. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel3Ideal.Merge

open Cert.Kernel3Ideal Cert.Kernel3Ideal.Gen
open Idealize.ShloMosaic Idealize.SL.Sem Idealize.ShloMosaic.TcCoe
open Cert.Reference3Ideal.Read

variable (m : (ℓ : Loc nD τ sig) → Buf (Elt Ideal) ℓ)

/-- The windows' block indices. -/
theorem idx : ∀ t : Fin cfg0.N, win0_0.index t = ![t.val, 0] ∧ win0_1.index t = ![t.val, 0] ∧
    win0_2.index t = ![t.val, 0] ∧ win0_3.index t = ![t.val, 1] ∧ win0_4.index t = ![t.val, 2] ∧
    win0_5.index t = ![t.val, 0] ∧ win0_6.index t = ![0, 0] ∧ win0_7.index t = ![0, 0] ∧ win0_8.index t = ![0, 0] ∧
    win0_9.index t = ![0, 0] ∧ win0_10.index t = ![0, 0] ∧ win0_11.index t = ![t.val, 0] ∧ win0_12.index t = ![t.val, 0] :=
  (by decide +kernel : ∀ t : Fin grid0.N, _)

/-- The residual plus the projected mixture of the branches: the reference's first array. -/
abbrev mixed (y : FVec Ideal S16640x512 .f32) (z : FVec Ideal S16640x512 .f32) (g : FVec Ideal S16640x3072 .bf16)
    (x : FVec Ideal S16640x1024 .f32) (wa wb : FVec Ideal S256x1024 .f32) (wc : FVec Ideal S512x1024 .f32)
    (wo : FVec Ideal S1024x1024 .f32) : FVec Ideal S16640x1024 .f32 :=
  Cert.Reference3Ideal.Read.val_main_v33 (F := Ideal) y z g x wa wb wc wo

/-- The first array's rows, normalised: the reference's second array. -/
abbrev normed (y : FVec Ideal S16640x512 .f32) (z : FVec Ideal S16640x512 .f32) (g : FVec Ideal S16640x3072 .bf16)
    (x : FVec Ideal S16640x1024 .f32) (wa wb : FVec Ideal S256x1024 .f32) (wc : FVec Ideal S512x1024 .f32)
    (wo : FVec Ideal S1024x1024 .f32) (n : FVec Ideal S1024 .f32) : FVec Ideal S16640x1024 .bf16 :=
  Cert.Reference3Ideal.Read.val_main_v47 (F := Ideal) y z g x wa wb wc wo n

/-- The first block stored, read at an index. -/
theorem point_x (c : Dev nD) (t : Fin cfg0.N) (y : S640x1024.Idx) :
    k0_pay1 (iblk m c 5 t)
      (k0_pay6 (iblk m c 0 t) (iblk m c 1 t) (iblk m c 2 t) (iblk m c 3 t) (iblk m c 4 t) (iblk m c 5 t) (iblk m c 6 t)
        (iblk m c 7 t) (iblk m c 8 t) (iblk m c 9 t) (iblk m c 10 t))
      (k0_pay7 (iblk m c 0 t) (iblk m c 1 t) (iblk m c 2 t) (iblk m c 3 t) (iblk m c 4 t) (iblk m c 5 t) (iblk m c 6 t)
        (iblk m c 7 t) (iblk m c 8 t) (iblk m c 9 t) (iblk m c 10 t))
      (k0_pay5 (iblk m c 0 t) (iblk m c 1 t) (iblk m c 2 t) (iblk m c 3 t) (iblk m c 4 t) (iblk m c 5 t) (iblk m c 6 t)
        (iblk m c 7 t) (iblk m c 8 t) (iblk m c 9 t) (iblk m c 10 t)) y
      = mixed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))
          (((cfg0.win 11).blk t).view.emb y) := by
  pointwise [k0_pay1, k0_pay6, k0_pay7, k0_pay5, k0_pay3, k0_pay4, mixed, Ideal.logistic, val_main_v33, val_main_v32, val_main_v31, val_main_v30, val_main_v29, val_main_v28, val_main_v27,
    val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1, val_main_cst_2, val_main_cst_3, val_main_cst_4]
  blk_point [iblk, V, idx t]

/-- The second block stored, read at an index. -/
theorem point_h (c : Dev nD) (t : Fin cfg0.N) (y : S640x1024.Idx) :
    k0_pay2 (iblk m c 5 t)
      (k0_pay6 (iblk m c 0 t) (iblk m c 1 t) (iblk m c 2 t) (iblk m c 3 t) (iblk m c 4 t) (iblk m c 5 t) (iblk m c 6 t)
        (iblk m c 7 t) (iblk m c 8 t) (iblk m c 9 t) (iblk m c 10 t))
      (k0_pay7 (iblk m c 0 t) (iblk m c 1 t) (iblk m c 2 t) (iblk m c 3 t) (iblk m c 4 t) (iblk m c 5 t) (iblk m c 6 t)
        (iblk m c 7 t) (iblk m c 8 t) (iblk m c 9 t) (iblk m c 10 t))
      (k0_pay5 (iblk m c 0 t) (iblk m c 1 t) (iblk m c 2 t) (iblk m c 3 t) (iblk m c 4 t) (iblk m c 5 t) (iblk m c 6 t)
        (iblk m c 7 t) (iblk m c 8 t) (iblk m c 9 t) (iblk m c 10 t)) (iblk m c 10 t) y
      = normed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
          (((cfg0.win 12).blk t).view.emb y) := by
  pointwise [k0_pay2, k0_pay1, k0_pay6, k0_pay7, k0_pay5, k0_pay3, k0_pay4, normed, Ideal.logistic, val_main_v47, val_main_v46, val_main_v45, val_main_v44, val_main_v43, val_main_v42, val_main_v41,
    val_main_v40, val_main_v39, val_main_v38, val_main_v37, val_main_v36, val_main_v35, val_main_v34, val_main_cst_5, val_main_cst_6,
    val_main_cst_7, val_main_v33, val_main_v32, val_main_v31, val_main_v30, val_main_v29, val_main_v28, val_main_v27,
    val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1, val_main_cst_2, val_main_cst_3, val_main_cst_4]
  blk_point [iblk, V, idx t]

/-- The first result array after the run. -/
theorem final_x (c : Dev nD) : (dats m 0 c).arrAt 11 (cfgs 0).N
    = mixed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 11 _ (by decide +kernel) fun t _ y => ?_
  blk_simp
  rw [after0_11]
  frame_out
  exact point_x m c t y

/-- The second result array after the run. -/
theorem final_h (c : Dev nD) : (dats m 0 c).arrAt 12 (cfgs 0).N
    = normed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))
        (m ((c : Thread nD τ).loc main_arg8)) := by
  refine (dats m 0 c).arrAt_eq_of_covers 12 _ (by decide +kernel) fun t _ y => ?_
  blk_simp
  rw [after0_12]
  frame_out
  exact point_h m c t y

end Cert.Kernel3Ideal.Merge

end
-- ==== Proof.Merge.Claims.lean ====
/- The merge of the branches: its frames and the equations of its two results. -/
module

public import proofs.«01_k».proof.Defs
public import proofs.«01_k».proof.Proof.Gen.Kernel3.Frame
public import proofs.«01_k».proof.Proof.Gen.Kernel3Ideal.Value
public import proofs.«01_k».proof.Proof.Gen.Reference3Ideal.Read
public import proofs.«01_k».proof.Proof.Merge.Value
public import Idealize.ShloMosaic.Adequacy
public import Idealize.ShloMosaic.Init

@[expose] public section

set_option maxRecDepth 16384

noncomputable section

namespace Cert.Merge

open Idealize.ShloMosaic Idealize.SL.Sem Idealize.ShloMosaic.TcCoe

/-- The kernel terminates, its semaphores back at zero, its arguments unchanged. -/
theorem frame_kernel : quiescent_Kernel3 := fun m ρ _ => Kernel3.Gen.frame m ρ

theorem frame_ideal : quiescent_Kernel3Ideal := fun m ρ _ => Kernel3Ideal.Gen.frame m ρ

theorem frame_reference : quiescent_Reference3Ideal := fun m ρ _ =>
  (θ_run Reference3Ideal.defs _ _).mono (fun r h => ⟨fun c => (h c).2.2, sem_eq_zero_of_no_sems (by decide) r.2⟩)
    (Reference3Ideal.Value.run (F := Ideal) m ρ)

/-- From memories that agree on the arguments, kernel and reference end with the same results. -/
theorem algebraic : algebraic_Kernel3Ideal_Reference3Ideal := by
  intro m g m' g' _ hargs
  refine ⟨fun c => Kernel3Ideal.Merge.mixed (m ((c : Thread Kernel3Ideal.nD Kernel3Ideal.τ).loc Kernel3Ideal.main_arg0)) (m ((c : Thread Kernel3Ideal.nD Kernel3Ideal.τ).loc Kernel3Ideal.main_arg1)) (m ((c : Thread Kernel3Ideal.nD Kernel3Ideal.τ).loc Kernel3Ideal.main_arg2)) (m ((c : Thread Kernel3Ideal.nD Kernel3Ideal.τ).loc Kernel3Ideal.main_arg3)) (m ((c : Thread Kernel3Ideal.nD Kernel3Ideal.τ).loc Kernel3Ideal.main_arg4)) (m ((c : Thread Kernel3Ideal.nD Kernel3Ideal.τ).loc Kernel3Ideal.main_arg5)) (m ((c : Thread Kernel3Ideal.nD Kernel3Ideal.τ).loc Kernel3Ideal.main_arg6)) (m ((c : Thread Kernel3Ideal.nD Kernel3Ideal.τ).loc Kernel3Ideal.main_arg7)), fun c => Kernel3Ideal.Merge.normed (m ((c : Thread Kernel3Ideal.nD Kernel3Ideal.τ).loc Kernel3Ideal.main_arg0)) (m ((c : Thread Kernel3Ideal.nD Kernel3Ideal.τ).loc Kernel3Ideal.main_arg1)) (m ((c : Thread Kernel3Ideal.nD Kernel3Ideal.τ).loc Kernel3Ideal.main_arg2)) (m ((c : Thread Kernel3Ideal.nD Kernel3Ideal.τ).loc Kernel3Ideal.main_arg3)) (m ((c : Thread Kernel3Ideal.nD Kernel3Ideal.τ).loc Kernel3Ideal.main_arg4)) (m ((c : Thread Kernel3Ideal.nD Kernel3Ideal.τ).loc Kernel3Ideal.main_arg5)) (m ((c : Thread Kernel3Ideal.nD Kernel3Ideal.τ).loc Kernel3Ideal.main_arg6)) (m ((c : Thread Kernel3Ideal.nD Kernel3Ideal.τ).loc Kernel3Ideal.main_arg7)) (m ((c : Thread Kernel3Ideal.nD Kernel3Ideal.τ).loc Kernel3Ideal.main_arg8)), ?_, ?_⟩
  · exact (θ_run Kernel3Ideal.defs _ _).mono (fun r h c => ⟨(Kernel3Ideal.Value.post11 m r h c).trans (Kernel3Ideal.Merge.final_x m c), (Kernel3Ideal.Value.post12 m r h c).trans (Kernel3Ideal.Merge.final_h m c),
      Kernel3Ideal.Value.kept_main_arg0 m r h c, Kernel3Ideal.Value.kept_main_arg1 m r h c, Kernel3Ideal.Value.kept_main_arg2 m r h c, Kernel3Ideal.Value.kept_main_arg3 m r h c, Kernel3Ideal.Value.kept_main_arg4 m r h c, Kernel3Ideal.Value.kept_main_arg5 m r h c, Kernel3Ideal.Value.kept_main_arg6 m r h c, Kernel3Ideal.Value.kept_main_arg7 m r h c, Kernel3Ideal.Value.kept_main_arg8 m r h c⟩)
      (Kernel3Ideal.Gen.run_main m g)
  · refine (θ_run Reference3Ideal.defs _ _).mono (fun r h c => ?_) (Reference3Ideal.Value.run (F := Ideal) m' g')
    obtain ⟨e0, e1, e2, e3, e4, e5, e6, e7, e8⟩ := hargs c
    refine ⟨?_, ?_, (h c).2.2⟩
    · refine (h c).1.trans ((Reference3Ideal.Read.val_main_v33_eq _ _ _ _ _ _ _ _).trans ?_)
      rw [e0, e1, e2, e3, e4, e5, e6, e7]
    · refine (h c).2.1.trans ((Reference3Ideal.Read.val_main_v47_eq _ _).trans ?_)
      rw [e0, e1, e2, e3, e4, e5, e6, e7, e8]

end Cert.Merge

end
-- ==== Proof.InProj.Features.lean ====
/- The columns of the input projection before the gates: what each grid point stores is its block of the reference's array. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel4Ideal.InProj

open Cert.Kernel4Ideal Cert.Kernel4Ideal.Gen
open Idealize.ShloMosaic Idealize.SL.Sem Idealize.ShloMosaic.TcCoe
open Cert.Reference4Ideal.Read

variable (m : (ℓ : Loc nD τ sig) → Buf (Elt Ideal) ℓ)

/-- The normalised rows projected on the columns before the gates: the reference's array. -/
abbrev features (x : FVec Ideal S16640x1024 .f32) (g : FVec Ideal S1024 .f32) (w : FVec Ideal S1024x5632 .f32) :
    FVec Ideal S16640x2560 .f32 := Cert.Reference4Ideal.Read.val_main_v14 (F := Ideal) x g w

/-- The windows' block indices. -/
theorem idx : ∀ t : Fin cfg0.N, win0_0.index t = ![t.val / 2, 0] ∧ win0_1.index t = ![0, 0] ∧
    win0_2.index t = ![0, t.val % 2] ∧ win0_3.index t = ![t.val / 2, t.val % 2] :=
  (by decide +kernel : ∀ t : Fin grid0.N, _)

/-- The stored block, read at an index, the normalised rows being those of a point `s` in the same row of blocks. -/
theorem point (c : Dev nD) (s t : Fin cfg0.N) (hs : s.val / 2 = t.val / 2) (y : S1280x1280.Idx) :
    k0_pay2 (k0_pay1 (iblk m c 0 s) (iblk m c 1 s)) (iblk m c 2 t) y
      = features (m ((c : Thread nD τ).loc main_arg0)) (m ((c : Thread nD τ).loc main_arg1)) (m ((c : Thread nD τ).loc main_arg2))
          (((cfg0.win 3).blk t).view.emb y) := by
  pointwise [k0_pay1, k0_pay2, features, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1]
  blk_point [iblk, V, idx t, idx s]

/-- The first point of a row of blocks leaves the normalised rows in the scratch. -/
theorem scratch (c : Dev nD) (t : Fin cfg0.N) (h : t.val % 2 = 0) :
    (outsAt0 m c t.val t.isLt).2 = k0_pay1 (iblk m c 0 t) (iblk m c 1 t) := by
  rw [outsAt0_A m c t h]
  frame_out

/-- What a point leaves in the output's block. -/
theorem left (c : Dev nD) (t : Fin cfg0.N) (y : S1280x1280.Idx) :
    (outsAt0 m c t.val t.isLt).1 y
      = features (m ((c : Thread nD τ).loc main_arg0)) (m ((c : Thread nD τ).loc main_arg1)) (m ((c : Thread nD τ).loc main_arg2))
          (((cfg0.win 3).blk t).view.emb y) := by
  by_cases h : t.val % 2 = 0
  · rw [outsAt0_A m c t h]
    frame_out
    exact point m c t t rfl y
  · have hlt : t.val - 1 < cfg0.N := by have := t.isLt; omega
    have hs := scratch m c ⟨t.val - 1, hlt⟩ (by show (t.val - 1) % 2 = 0; omega)
    rw [outsAt0_B m c t h]
    frame_out
    rw [hs, read_unread_whole]
    exact point m c ⟨t.val - 1, hlt⟩ t (by show (t.val - 1) / 2 = t.val / 2; omega) y

/-- The result array after the run. -/
theorem final (c : Dev nD) : (dats m 0 c).arrAt 3 (cfgs 0).N
    = features (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact left m c t y

end Cert.Kernel4Ideal.InProj

end
-- ==== Proof.InProj.Gates.lean ====
/- The gate columns of the input projection: what each grid point stores is its block of the reference's array. -/
module

public import proofs.«01_k».proof.Proof.Gen.Kernel5Ideal.Value
public import proofs.«01_k».proof.Proof.Gen.Reference5Ideal.Read
public import Idealize.ShloMosaic.Lib.Pipeline.ValueKit
public import Idealize.ShloMosaic.Lib.Claim

@[expose] public section

set_option maxRecDepth 16384

noncomputable section

namespace Cert.Kernel5Ideal.InProj

open Cert.Kernel5Ideal Cert.Kernel5Ideal.Gen
open Idealize.ShloMosaic Idealize.SL.Sem Idealize.ShloMosaic.TcCoe
open Cert.Reference5Ideal.Read

variable (m : (ℓ : Loc nD τ sig) → Buf (Elt Ideal) ℓ)

/-- The normalised row projected on the gate columns: the reference's array. -/
abbrev gates (x : FVec Ideal S16640x1024 .f32) (g : FVec Ideal S1024 .f32) (w : FVec Ideal S1024x5632 .f32) :
    FVec Ideal S16640x3072 .bf16 := Cert.Reference5Ideal.Read.val_main_v15 (F := Ideal) x g w

/-- The windows' block indices. -/
theorem idx : ∀ t : Fin cfg0.N, win0_0.index t = ![(grid0.coords t 0).val, 0] ∧ win0_1.index t = ![0, 0] ∧
    win0_2.index t = ![0, 0] ∧ win0_3.index t = ![(grid0.coords t 0).val, 0] :=
  (by decide +kernel : ∀ t : Fin grid0.N, _)

/-- The stored block, read at an index. -/
theorem point (c : Dev nD) (t : Fin cfg0.N) (y : S1280x3072.Idx) :
    k0_pay2 (k0_pay1 (iblk m c 0 t) (iblk m c 1 t)) (iblk m c 2 t) y
      = gates (m ((c : Thread nD τ).loc main_arg0)) (m ((c : Thread nD τ).loc main_arg1)) (m ((c : Thread nD τ).loc main_arg2))
          (((cfg0.win 3).blk t).view.emb y) := by
  pointwise [k0_pay1, k0_pay2, gates, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1]
  blk_point [iblk, V, idx t]

/-- The result array after the run. -/
theorem final (c : Dev nD) : (dats m 0 c).arrAt 3 (cfgs 0).N
    = gates (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, outsAt0]
  frame_out
  exact point m c t y

end Cert.Kernel5Ideal.InProj

end
-- ==== Proof.InProj.Claims.lean ====
/- The input projection, its two calls: their frames and equations. -/
module

public import proofs.«01_k».proof.Defs
public import proofs.«01_k».proof.Proof.Gen.Kernel4.Frame
public import proofs.«01_k».proof.Proof.Gen.Kernel4Ideal.Value
public import proofs.«01_k».proof.Proof.Gen.Reference4Ideal.Read
public import proofs.«01_k».proof.Proof.InProj.Features
public import proofs.«01_k».proof.Proof.Gen.Kernel5.Frame
public import proofs.«01_k».proof.Proof.Gen.Kernel5Ideal.Value
public import proofs.«01_k».proof.Proof.Gen.Reference5Ideal.Read
public import proofs.«01_k».proof.Proof.InProj.Gates
public import Idealize.ShloMosaic.Adequacy
public import Idealize.ShloMosaic.Init

@[expose] public section

set_option maxRecDepth 16384

noncomputable section

namespace Cert.InProj

open Idealize.ShloMosaic Idealize.SL.Sem Idealize.ShloMosaic.TcCoe

/-- The kernel terminates, its semaphores back at zero, its arguments unchanged. -/
theorem frame_kernel_features : quiescent_Kernel4 := fun m ρ _ => Kernel4.Gen.frame m ρ

theorem frame_ideal_features : quiescent_Kernel4Ideal := fun m ρ _ => Kernel4Ideal.Gen.frame m ρ

theorem frame_reference_features : quiescent_Reference4Ideal := fun m ρ _ =>
  (θ_run Reference4Ideal.defs _ _).mono (fun r h => ⟨fun c => (h c).2, sem_eq_zero_of_no_sems (by decide) r.2⟩)
    (Reference4Ideal.Value.run (F := Ideal) m ρ)

/-- From memories that agree on the arguments, kernel and reference end with the same result. -/
theorem algebraic_features : algebraic_Kernel4Ideal_Reference4Ideal := by
  intro m g m' g' _ hargs
  refine ⟨fun c => Kernel4Ideal.InProj.features (m ((c : Thread Kernel4Ideal.nD Kernel4Ideal.τ).loc Kernel4Ideal.main_arg0)) (m ((c : Thread Kernel4Ideal.nD Kernel4Ideal.τ).loc Kernel4Ideal.main_arg1)) (m ((c : Thread Kernel4Ideal.nD Kernel4Ideal.τ).loc Kernel4Ideal.main_arg2)), ?_, ?_⟩
  · exact (θ_run Kernel4Ideal.defs _ _).mono (fun r h c => ⟨(Kernel4Ideal.Value.post3 m r h c).trans (Kernel4Ideal.InProj.final m c),
      Kernel4Ideal.Value.kept_main_arg0 m r h c, Kernel4Ideal.Value.kept_main_arg1 m r h c, Kernel4Ideal.Value.kept_main_arg2 m r h c⟩)
      (Kernel4Ideal.Gen.run_main m g)
  · refine (θ_run Reference4Ideal.defs _ _).mono (fun r h c => ?_) (Reference4Ideal.Value.run (F := Ideal) m' g')
    obtain ⟨e0, e1, e2⟩ := hargs c
    refine ⟨?_, (h c).2⟩
    · refine (h c).1.trans ((Reference4Ideal.Read.val_main_v14_eq _ _ _).trans ?_)
      rw [e0, e1, e2]

/-- The kernel terminates, its semaphores back at zero, its arguments unchanged. -/
theorem frame_kernel_gates : quiescent_Kernel5 := fun m ρ _ => Kernel5.Gen.frame m ρ

theorem frame_ideal_gates : quiescent_Kernel5Ideal := fun m ρ _ => Kernel5Ideal.Gen.frame m ρ

theorem frame_reference_gates : quiescent_Reference5Ideal := fun m ρ _ =>
  (θ_run Reference5Ideal.defs _ _).mono (fun r h => ⟨fun c => (h c).2, sem_eq_zero_of_no_sems (by decide) r.2⟩)
    (Reference5Ideal.Value.run (F := Ideal) m ρ)

/-- From memories that agree on the arguments, kernel and reference end with the same result. -/
theorem algebraic_gates : algebraic_Kernel5Ideal_Reference5Ideal := by
  intro m g m' g' _ hargs
  refine ⟨fun c => Kernel5Ideal.InProj.gates (m ((c : Thread Kernel5Ideal.nD Kernel5Ideal.τ).loc Kernel5Ideal.main_arg0)) (m ((c : Thread Kernel5Ideal.nD Kernel5Ideal.τ).loc Kernel5Ideal.main_arg1)) (m ((c : Thread Kernel5Ideal.nD Kernel5Ideal.τ).loc Kernel5Ideal.main_arg2)), ?_, ?_⟩
  · exact (θ_run Kernel5Ideal.defs _ _).mono (fun r h c => ⟨(Kernel5Ideal.Value.post3 m r h c).trans (Kernel5Ideal.InProj.final m c),
      Kernel5Ideal.Value.kept_main_arg0 m r h c, Kernel5Ideal.Value.kept_main_arg1 m r h c, Kernel5Ideal.Value.kept_main_arg2 m r h c⟩)
      (Kernel5Ideal.Gen.run_main m g)
  · refine (θ_run Reference5Ideal.defs _ _).mono (fun r h c => ?_) (Reference5Ideal.Value.run (F := Ideal) m' g')
    obtain ⟨e0, e1, e2⟩ := hargs c
    refine ⟨?_, (h c).2⟩
    · refine (h c).1.trans ((Reference5Ideal.Read.val_main_v15_eq _ _ _).trans ?_)
      rw [e0, e1, e2]

end Cert.InProj

end
-- ==== Proof.Mixers.Operands.lean ====
/- The short convolution and the recurrence of the samples: what a grid point reads. -/
module

public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel6Ideal.Mixers

open Cert.Kernel6Ideal Cert.Kernel6Ideal.Gen
open Idealize.ShloMosaic Idealize.SL.Sem Idealize.ShloMosaic.TcCoe
open Cert.Reference6Ideal.Read

/-- Sixteen rows stored in two halves: the first eight are the history, the last eight the rows of the step. -/
theorem halves (w u : S8x256.Idx → Elt Ideal .f32) (z : S16x256.Idx) :
    View.canon [(⟨Rect.unit ![8, 0] ![8, 256] inb_S16x256_S8x256_8_0, u⟩ : View.Piece (Elt Ideal) S16x256 .f32),
        ⟨Rect.unit ![0, 0] ![8, 256] inb_S16x256_S8x256_0_0, w⟩] z
      = if h : (z 0).val < 8 then w (ix2 ⟨(z 0).val, h⟩ (z 1))
        else u (ix2 ⟨(z 0).val - 8, by have := (z 0).isLt; dsimp at this; omega⟩ (z 1)) := by
  canon_tiles x hx
  · rw [dif_neg (by omega)]
    refine congrArg u ?_
    blk_ext
  · rw [dif_pos (by omega)]
    refine congrArg w ?_
    blk_ext

/-- Eight rows read at offset `o` of the sixteen. -/
theorem history {sig : RefSig} {κ : Kind} {sp : Space} (v : View sig κ sp S16x256 .f32) (w u : S8x256.Idx → Elt Ideal .f32)
    (o : ℕ) (io : ∀ a, (![o, 0] : Fin 2 → ℕ) a + (![8, 256] : Fin 2 → ℕ) a ≤ S16x256.size a) (ho : o ≤ 8) :
    v.readCov [(⟨Rect.unit ![8, 0] ![8, 256] inb_S16x256_S8x256_8_0, u⟩ : View.Piece (Elt Ideal) S16x256 .f32),
        ⟨Rect.unit ![0, 0] ![8, 256] inb_S16x256_S8x256_0_0, w⟩] (Rect.unit (s := S16x256) ![o, 0] ![8, 256] io).toLoadRect
      = fun j : S8x256.Idx => if h : o + (j 0).val < 8 then w (ix2 ⟨o + (j 0).val, h⟩ (j 1))
        else u (ix2 ⟨o + (j 0).val - 8, by have := (j 0).isLt; dsimp at this; omega⟩ (j 1)) := by
  rw [View.readCov_eq_canon']
  funext j
  have h0 : (((Rect.unit (s := S16x256) ![o, 0] ![8, 256] io).toLoadRect.idx j) 0 : ℕ) = o + (j 0).val := by
    change o + 1 * (j 0).val = _
    omega
  have h1 : (((Rect.unit (s := S16x256) ![o, 0] ![8, 256] io).toLoadRect.idx j) 1 : ℕ) = (j 1).val := by
    change 0 + 1 * (j 1).val = _
    omega
  rw [halves]
  by_cases h : o + (j 0).val < 8
  · rw [dif_pos (by omega), dif_pos h]
    refine congrArg w ?_
    blk_ext
  · rw [dif_neg (by omega), dif_neg h]
    refine congrArg u ?_
    blk_ext

end Cert.Kernel6Ideal.Mixers

end
-- ==== Proof.Mixers.Math.lean ====
/- The recurrence `h ↦ a·h + b` over eight steps, step by step and by doubling, and the facts about its coefficients that
   make the two the same. -/
module

public import Idealize.ShloMosaic.Lib.Pipeline.ValueKit

@[expose] public section

noncomputable section

namespace Cert.Mixers

open Idealize.ShloMosaic

/-- The recurrence after step `n`, one step at a time. -/
def chain (a b : Fin 8 → EReal) (h : EReal) : (n : ℕ) → n < 8 → EReal
  | 0, hn => a ⟨0, hn⟩ * h + b ⟨0, hn⟩
  | n + 1, hn => a ⟨n + 1, hn⟩ * chain a b h n (by omega) + b ⟨n + 1, hn⟩

/-- One doubling of the offsets: a step later than `s` takes in what the step `s` before it holds. -/
def double (s : ℕ) (a b : Fin 8 → EReal) (t : Fin 8) : EReal :=
  if s ≤ t.val then a t * b ⟨(t.val + 8 - s) % 8, Nat.mod_lt _ (by omega)⟩ + b t else b t

/-- The coefficients after one doubling. -/
def coef (s : ℕ) (a : Fin 8 → EReal) (t : Fin 8) : EReal :=
  if s ≤ t.val then a t * a ⟨(t.val + 8 - s) % 8, Nat.mod_lt _ (by omega)⟩ else a t

/-- The recurrence by doubling, the starting state added at the end. -/
def ladder (a b : Fin 8 → EReal) (h : EReal) (t : Fin 8) : EReal :=
  coef 4 (coef 2 (coef 1 a)) t * h + double 4 (coef 2 (coef 1 a)) (double 2 (coef 1 a) (double 1 a b)) t

/-- A nonnegative real. -/
def Coef (a : EReal) : Prop := 0 ≤ a ∧ a ≠ ⊤

theorem Coef.mul {a b : EReal} (ha : Coef a) (hb : Coef b) : Coef (a * b) := by
  refine ⟨EReal.mul_nonneg ha.1 hb.1, ?_⟩
  have hna : a ≠ ⊥ := fun e => absurd ha.1 (by simp [e])
  have hnb : b ≠ ⊥ := fun e => absurd hb.1 (by simp [e])
  lift a to ℝ using ⟨ha.2, hna⟩
  lift b to ℝ using ⟨hb.2, hnb⟩
  rw [← EReal.coe_mul]
  exact EReal.coe_ne_top _

theorem Coef.dist {a : EReal} (ha : Coef a) (x y : EReal) : a * (x + y) = a * x + a * y :=
  EReal.left_distrib_of_nonneg_of_ne_top ha.1 ha.2 x y

theorem coef_coef (s : ℕ) {a : Fin 8 → EReal} (ha : ∀ i, Coef (a i)) (t : Fin 8) : Coef (coef s a t) := by
  unfold coef
  split
  · exact (ha _).mul (ha _)
  · exact ha _

/-- One doubling composes a step's affine map with that of the step `s` before it. -/
theorem doubled (s : ℕ) {a : Fin 8 → EReal} (ha : ∀ i, Coef (a i)) (b : Fin 8 → EReal) (x : EReal) (t : Fin 8) :
    coef s a t * x + double s a b t =
      if s ≤ t.val then a t * (a ⟨(t.val + 8 - s) % 8, Nat.mod_lt _ (by omega)⟩ * x
        + b ⟨(t.val + 8 - s) % 8, Nat.mod_lt _ (by omega)⟩) + b t else a t * x + b t := by
  unfold coef double
  split
  · rw [(ha t).dist, mul_assoc, add_assoc]
  · rfl

/-- With coefficients that are nonnegative reals, the recurrence by doubling is the recurrence step by step. -/
theorem ladder_eq_chain (a b : Fin 8 → EReal) (h : EReal) (ha : ∀ i, Coef (a i)) (t : Fin 8) :
    ladder a b h t = chain a b h t.val t.isLt := by
  have h1 := coef_coef 1 ha
  have h2 := coef_coef 2 h1
  unfold ladder
  simp only [doubled 4 h2, doubled 2 h1, doubled 1 ha]
  fin_cases t <;> simp [chain]

/-- The exponential of a nonpositive number is a nonnegative real. -/
theorem exp_nonneg (x : EReal) : 0 ≤ Ideal.exp x := by
  induction x using EReal.rec with
  | bot => simp
  | top => simp
  | coe r => rw [Ideal.exp_coe]; exact_mod_cast (Real.exp_pos r).le

theorem exp_ne_top (x : EReal) (hx : x ≠ ⊤) : Ideal.exp x ≠ ⊤ := by
  induction x using EReal.rec with
  | bot => simp
  | top => exact absurd rfl hx
  | coe r => rw [Ideal.exp_coe]; exact EReal.coe_ne_top _

/-- The sigmoid is nonnegative. -/
theorem logistic_nonneg (x : EReal) : 0 ≤ Ideal.logistic x := by
  induction x using EReal.rec with
  | bot => simp
  | top => simp
  | coe r => rw [Ideal.logistic_coe]; exact_mod_cast (inv_pos.2 (by positivity : 0 < 1 + Real.exp (-r))).le

/-- `log (1 + y)` of a nonnegative `y` is nonnegative. -/
theorem log1p_nonneg (y : EReal) (hy : 0 ≤ y) : 0 ≤ Ideal.log1p y := by
  induction y using EReal.rec with
  | bot => exact absurd hy (by simp)
  | top =>
    rw [Ideal.log1p, EReal.add_top_of_ne_bot (show (1 : EReal) ≠ ⊥ from EReal.coe_ne_bot 1), Ideal.log_top]
    exact le_top
  | coe r =>
    have hr : 0 ≤ r := by exact_mod_cast hy
    have e : (1 : EReal) + (r : EReal) = ((1 + r : ℝ) : EReal) := by push_cast; rfl
    rw [Ideal.log1p, e, Ideal.log_coe, if_neg (by linarith : ¬ 1 + r ≤ 0)]
    exact_mod_cast Real.log_nonneg (by linarith : 1 ≤ 1 + r)

/-- `log (1 + e^x)`, as `max x 0 + log (1 + e^(-|x|))`, is nonnegative. -/
theorem softplus_nonneg (x y : EReal) : 0 ≤ max x 0 + Ideal.log1p (Ideal.exp y) :=
  add_nonneg (le_max_right _ _) (log1p_nonneg _ (exp_nonneg _))

/-- The constant `-8`. -/
theorem minus_eight : Ideal.ofBits .f32 0xC1000000#32 ≤ 0 := by
  have : Ideal.ofBits .f32 0xC1000000#32 = ((-(8 : ℝ)) : EReal) := by
    simp [Ideal.ofBits, Ideal.ieee, -EReal.coe_mul, -EReal.coe_neg]; norm_num
  rw [this]
  exact EReal.coe_nonpos.mpr (by norm_num)

/-- The product of a nonpositive and two nonnegative numbers is not `⊤`. -/
theorem rate_ne_top (c r s : EReal) (hc : c ≤ 0) (hr : 0 ≤ r) (hs : 0 ≤ s) : c * r * s ≠ ⊤ := by
  have h8 : 0 ≤ -c := EReal.neg_nonneg.2 hc
  have : c * r * s = -((-c) * r * s) := by simp [EReal.neg_mul]
  rw [this]
  have h := EReal.mul_nonneg (EReal.mul_nonneg h8 hr) hs
  intro e
  have : -c * r * s = ⊥ := by rw [← neg_neg (-c * r * s), e]; rfl
  rw [this] at h
  exact absurd h (by simp)

/-- `-(y - 1) = 1 - y`. -/
theorem neg_sub_one (y : EReal) : -(y - 1) = 1 - y := by
  rw [EReal.neg_sub (Or.inr (by decide)) (Or.inr (by decide)), add_comm, sub_eq_add_neg]

end Cert.Mixers

end
-- ==== Proof.Mixers.States.lean ====
/- The short convolution and the recurrence of the samples: the rows read over the history, and the states stored. -/
module

public import proofs.«01_k».proof.Proof.Mixers.Operands
public import proofs.«01_k».proof.Proof.Mixers.Math

@[expose] public section

set_option maxRecDepth 16384

noncomputable section

namespace Cert.Kernel6Ideal.Mixers

open Cert.Kernel6Ideal Cert.Kernel6Ideal.Gen
open Idealize.ShloMosaic Idealize.SL.Sem Idealize.ShloMosaic.TcCoe
open Cert.Reference6Ideal.Read

variable (m : (ℓ : Loc nD τ sig) → Buf (Elt Ideal) ℓ)

/-- The windows' block indices. -/
theorem idx : ∀ t : Fin cfg0.N, win0_0.index t = ![2048 + t.val, 0] ∧ win0_1.index t = ![t.val, 0, 0] ∧
    win0_2.index t = ![t.val, 0, 0] ∧ win0_3.index t = ![t.val, 0, 0] ∧ win0_4.index t = ![0, 0] ∧
    win0_5.index t = ![0, 0] ∧ win0_6.index t = ![0, 0] ∧ win0_7.index t = ![0, 0] ∧ win0_8.index t = ![0, 0] ∧
    win0_9.index t = ![0, 0] ∧ win0_10.index t = ![0, 0] ∧ win0_11.index t = ![0, 0] ∧
    win0_12.index t = ![2048 + t.val, 0] ∧ win0_13.index t = ![t.val, 0, 0] ∧ win0_14.index t = ![t.val, 0, 0] ∧
    win0_15.index t = ![t.val, 0, 0] :=
  (by decide +kernel : ∀ t : Fin grid0.N, _)

/-- There are 32 points. -/
theorem point_lt (t : Fin cfg0.N) : t.val < 32 := lt_of_lt_of_eq t.isLt (by decide +kernel)

/-- The projection's rows of a point. -/
theorem feed (c : Dev nD) (t : Fin cfg0.N) (r : Fin 8) (l : Fin 1024) : X0_0 m c t (ix2 r l)
    = m ((c : Thread nD τ).loc main_arg0) (ix2 ⟨16384 + 8 * t.val + r.val, by have := point_lt t; omega⟩ ⟨l.val, by omega⟩) := by
  unfold X0_0 Pipeline.Window.fill
  rw [dif_pos (moved0_0 t _)]
  blk_point [iblk, V, idx t]

/-- The gated rows of a point. -/
theorem gated (c : Dev nD) (t : Fin cfg0.N) (j : S8x256.Idx) :
    k0_pay7 (F := Ideal) (View.ld (X0_0 m c t) (Rect.unit ![0, 256] ![8, 256] inb_S8x1024_S8x256_0_256))
      (View.ld (X0_0 m c t) (Rect.unit ![0, 512] ![8, 256] inb_S8x1024_S8x256_0_512)) j
      = val_main_v6 (F := Ideal) (m ((c : Thread nD τ).loc main_arg0)) (ix3 ⟨t.val, point_lt t⟩ (j 0) (j 1)) := by
  pointwise [k0_pay7, k0_pay6, feed, val_main_v6, val_main_v3, val_main_v4, val_main_v1, val_main_v0]
  blk_point []

/-- The short convolution's history. -/
theorem past_a (c : Dev nD) (t : Fin cfg0.N) (r : Fin 8) (l : Fin 256) : k0_pay3 (F := Ideal) (iblk m c 1 t) (ix2 r l)
    = if h : r.val < 6 then (0 : EReal)
      else m ((c : Thread nD τ).loc main_arg1) (ix3 ⟨t.val, point_lt t⟩ ⟨r.val - 6, by omega⟩ l) := by
  pointwise [k0_pay3]
  have e : (win0_1.blk t).view.emb (ix3 0 r l) = ix3 ⟨t.val, point_lt t⟩ r l := by blk_ext [idx t]
  blk_simp [iblk]
  rw [e]
  entry_read
  pointwise

/-- The rows the short convolution reads are the reference's joined rows. -/
theorem rows_a (c : Dev nD) (t : Fin cfg0.N) (o : ℕ)
    (io : ∀ a, (![o, 0] : Fin 2 → ℕ) a + (![8, 256] : Fin 2 → ℕ) a ≤ S16x256.size a) (ho : o ≤ 8) (h6 : 6 ≤ o) :
    (View.whole cc0_scratch0).readCov
        [(⟨Rect.unit ![8, 0] ![8, 256] inb_S16x256_S8x256_8_0,
            k0_pay7 (F := Ideal) (View.ld (X0_0 m c t) (Rect.unit ![0, 256] ![8, 256] inb_S8x1024_S8x256_0_256))
              (View.ld (X0_0 m c t) (Rect.unit ![0, 512] ![8, 256] inb_S8x1024_S8x256_0_512))⟩ : View.Piece (Elt Ideal) S16x256 .f32),
          ⟨Rect.unit ![0, 0] ![8, 256] inb_S16x256_S8x256_0_0, k0_pay3 (F := Ideal) (iblk m c 1 t)⟩]
        (Rect.unit (s := S16x256) ![o, 0] ![8, 256] io).toLoadRect
      = fun j : S8x256.Idx => val_main_v7 (F := Ideal) (m ((c : Thread nD τ).loc main_arg0)) (m ((c : Thread nD τ).loc main_arg1))
          (ix3 ⟨t.val, point_lt t⟩ ⟨o - 6 + (j 0).val, by have := (j 0).isLt; dsimp at this; omega⟩ (j 1)) := by
  rw [history _ _ _ o io ho]
  funext j
  idx_vars j
  pointwise [val_main_v7, gated]
  by_cases h : o + j0.val < 8
  · rw [dif_pos h, dif_pos (by omega)]
    refine (past_a m c t _ _).trans ?_
    rw [dif_neg (by dsimp only; omega)]
    blk_point []
  · rw [dif_neg h, dif_neg (by omega)]
    blk_point []

/-- The rows the recurrence is fed with. -/
theorem fed (c : Dev nD) (t : Fin cfg0.N) (j : S8x256.Idx) :
    k0_pay9 (F := Ideal) (View.ld (X0_0 m c t) (Rect.unit ![0, 768] ![8, 256] inb_S8x1024_S8x256_0_768)) j
      = val_main_v5 (F := Ideal) (m ((c : Thread nD τ).loc main_arg0)) (ix3 ⟨t.val, point_lt t⟩ (j 0) (j 1)) := by
  pointwise [k0_pay9, feed, val_main_v5, val_main_v1, val_main_v0]
  blk_point []

/-- Its history. -/
theorem past_b (c : Dev nD) (t : Fin cfg0.N) (r : Fin 8) (l : Fin 256) : k0_pay4 (F := Ideal) (iblk m c 2 t) (ix2 r l)
    = if h : r.val < 5 then (0 : EReal)
      else m ((c : Thread nD τ).loc main_arg2) (ix3 ⟨t.val, point_lt t⟩ ⟨r.val - 5, by omega⟩ l) := by
  pointwise [k0_pay4]
  have e : (win0_2.blk t).view.emb (ix3 0 r l) = ix3 ⟨t.val, point_lt t⟩ r l := by blk_ext [idx t]
  blk_simp [iblk]
  rw [e]
  entry_read
  pointwise

/-- The rows the second convolution reads are the reference's joined rows. -/
theorem rows_b (c : Dev nD) (t : Fin cfg0.N) (o : ℕ)
    (io : ∀ a, (![o, 0] : Fin 2 → ℕ) a + (![8, 256] : Fin 2 → ℕ) a ≤ S16x256.size a) (ho : o ≤ 8) (h5 : 5 ≤ o) :
    (View.whole cc0_scratch1).readCov
        [(⟨Rect.unit ![8, 0] ![8, 256] inb_S16x256_S8x256_8_0,
            k0_pay9 (F := Ideal) (View.ld (X0_0 m c t) (Rect.unit ![0, 768] ![8, 256] inb_S8x1024_S8x256_0_768))⟩ : View.Piece (Elt Ideal) S16x256 .f32),
          ⟨Rect.unit ![0, 0] ![8, 256] inb_S16x256_S8x256_0_0, k0_pay4 (F := Ideal) (iblk m c 2 t)⟩]
        (Rect.unit (s := S16x256) ![o, 0] ![8, 256] io).toLoadRect
      = fun j : S8x256.Idx => val_main_v31 (F := Ideal) (m ((c : Thread nD τ).loc main_arg0)) (m ((c : Thread nD τ).loc main_arg2))
          (ix3 ⟨t.val, point_lt t⟩ ⟨o - 5 + (j 0).val, by have := (j 0).isLt; dsimp at this; omega⟩ (j 1)) := by
  rw [history _ _ _ o io ho]
  funext j
  idx_vars j
  pointwise [val_main_v31, fed]
  by_cases h : o + j0.val < 8
  · rw [dif_pos h, dif_pos (by omega)]
    refine (past_b m c t _ _).trans ?_
    rw [dif_neg (by dsimp only; omega)]
    blk_point []
  · rw [dif_neg h, dif_neg (by omega)]
    blk_point []

/-- The first state stored, read at an index. -/
theorem point_sa (c : Dev nD) (t : Fin cfg0.N) (y : S1x8x256.Idx) (R : FVec Ideal S8x256 .f32)
    (hR : R = fun j : S8x256.Idx => val_main_v7 (F := Ideal) (m ((c : Thread nD τ).loc main_arg0)) (m ((c : Thread nD τ).loc main_arg1))
          (ix3 ⟨t.val, point_lt t⟩ ⟨8 - 6 + (j 0).val, by have := (j 0).isLt; dsimp at this; omega⟩ (j 1))) :
    k0_pay27 (F := Ideal) R y = val_main_v170 (F := Ideal) (m ((c : Thread nD τ).loc main_arg0)) (m ((c : Thread nD τ).loc main_arg1))
      (((cfg0.win 13).blk t).view.emb y) := by
  subst hR
  pointwise [k0_pay27, val_main_v170]
  blk_point [idx t]

/-- The second state stored, read at an index. -/
theorem point_sb (c : Dev nD) (t : Fin cfg0.N) (y : S1x8x256.Idx) (R : FVec Ideal S8x256 .f32)
    (hR : R = fun j : S8x256.Idx => val_main_v31 (F := Ideal) (m ((c : Thread nD τ).loc main_arg0)) (m ((c : Thread nD τ).loc main_arg2))
          (ix3 ⟨t.val, point_lt t⟩ ⟨8 - 5 + (j 0).val, by have := (j 0).isLt; dsimp at this; omega⟩ (j 1))) :
    k0_pay1 (F := Ideal) R y = val_main_v171 (F := Ideal) (m ((c : Thread nD τ).loc main_arg0)) (m ((c : Thread nD τ).loc main_arg2))
      (((cfg0.win 14).blk t).view.emb y) := by
  subst hR
  pointwise [k0_pay1, val_main_v171]
  blk_point [idx t]

/-- The first state after the run. -/
theorem final_sa (c : Dev nD) : (dats m 0 c).arrAt 13 (cfgs 0).N
    = val_main_v170 (F := Ideal) (m ((c : Thread nD τ).loc main_arg0)) (m ((c : Thread nD τ).loc main_arg1)) := by
  refine (dats m 0 c).arrAt_eq_of_covers 13 _ (by decide +kernel) fun t _ y => ?_
  blk_simp
  rw [after0_13]
  unfold outsAt0
  frame_out
  exact point_sa m c t y _ (rows_a m c t 8 _ (by omega) (by omega))

/-- The second state after the run. -/
theorem final_sb (c : Dev nD) : (dats m 0 c).arrAt 14 (cfgs 0).N
    = val_main_v171 (F := Ideal) (m ((c : Thread nD τ).loc main_arg0)) (m ((c : Thread nD τ).loc main_arg2)) := by
  refine (dats m 0 c).arrAt_eq_of_covers 14 _ (by decide +kernel) fun t _ y => ?_
  blk_simp
  rw [after0_14]
  unfold outsAt0
  frame_out
  exact point_sb m c t y _ (rows_b m c t 8 _ (by omega) (by omega))

end Cert.Kernel6Ideal.Mixers

end
-- ==== Proof.Mixers.Gates.lean ====
/- The short convolution and the recurrence of the samples: the convolutions and the gates. -/
module

public import proofs.«01_k».proof.Proof.Mixers.States

@[expose] public section

set_option maxRecDepth 16384

noncomputable section

namespace Cert.Kernel6Ideal.Mixers

open Cert.Kernel6Ideal Cert.Kernel6Ideal.Gen
open Idealize.ShloMosaic Idealize.SL.Sem Idealize.ShloMosaic.TcCoe
open Cert.Reference6Ideal.Read

variable (m : (ℓ : Loc nD τ sig) → Buf (Elt Ideal) ℓ)

/-- The rows the short convolution reads at offset `o`. -/
def joined_a (c : Dev nD) (t : Fin cfg0.N) (o : ℕ) (ho : o ≤ 8) (h6 : 6 ≤ o) : FVec Ideal S8x256 .f32 :=
  fun j : S8x256.Idx => val_main_v7 (F := Ideal) (m ((c : Thread nD τ).loc main_arg0)) (m ((c : Thread nD τ).loc main_arg1))
    (ix3 ⟨t.val, point_lt t⟩ ⟨o - 6 + (j 0).val, by have := (j 0).isLt; dsimp at this; omega⟩ (j 1))

/-- The rows the second convolution reads at offset `o`. -/
def joined_b (c : Dev nD) (t : Fin cfg0.N) (o : ℕ) (ho : o ≤ 8) (h5 : 5 ≤ o) : FVec Ideal S8x256 .f32 :=
  fun j : S8x256.Idx => val_main_v31 (F := Ideal) (m ((c : Thread nD τ).loc main_arg0)) (m ((c : Thread nD τ).loc main_arg2))
    (ix3 ⟨t.val, point_lt t⟩ ⟨o - 5 + (j 0).val, by have := (j 0).isLt; dsimp at this; omega⟩ (j 1))

/-- The gated short convolution. -/
theorem conv_a (c : Dev nD) (t : Fin cfg0.N) (j : S8x256.Idx) :
    k0_pay8 (F := Ideal) (View.ld (X0_0 m c t) (Rect.unit ![0, 0] ![8, 256] inb_S8x1024_S8x256_0_0))
      (View.ld (X0_0 m c t) (Rect.unit ![0, 256] ![8, 256] inb_S8x1024_S8x256_0_256))
      (View.ld (X0_0 m c t) (Rect.unit ![0, 512] ![8, 256] inb_S8x1024_S8x256_0_512))
      (joined_a m c t 6 (by omega) (by omega)) (View.ld (iblk m c 4 t) (Rect.unit ![0, 0] ![1, 256] inb_S3x256_S1x256_0_0))
      (joined_a m c t 7 (by omega) (by omega)) (View.ld (iblk m c 4 t) (Rect.unit ![1, 0] ![1, 256] inb_S3x256_S1x256_1_0))
      (View.ld (iblk m c 4 t) (Rect.unit ![2, 0] ![1, 256] inb_S3x256_S1x256_2_0)) j
      = val_main_v163 (F := Ideal) (m ((c : Thread nD τ).loc main_arg0)) (m ((c : Thread nD τ).loc main_arg1))
        (m ((c : Thread nD τ).loc main_arg4)) (ix3 ⟨t.val, point_lt t⟩ (j 0) (j 1)) := by
  idx_vars j
  pointwise [k0_pay8, k0_pay6, feed, joined_a, val_main_v163, val_main_v27, val_main_v26, val_main_v25, val_main_v24, val_main_v23,
    val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v4,
    val_main_v3, val_main_v2, val_main_v1, val_main_v0]
  blk_point [iblk, V, idx t]

/-- The second convolution. -/
theorem conv_b (c : Dev nD) (t : Fin cfg0.N) (j : S8x256.Idx) :
    k0_pay11 (F := Ideal) (View.ld (X0_0 m c t) (Rect.unit ![0, 768] ![8, 256] inb_S8x1024_S8x256_0_768))
      (joined_b m c t 5 (by omega) (by omega)) (View.ld (iblk m c 5 t) (Rect.unit ![0, 0] ![1, 256] inb_S4x256_S1x256_0_0))
      (joined_b m c t 6 (by omega) (by omega)) (View.ld (iblk m c 5 t) (Rect.unit ![1, 0] ![1, 256] inb_S4x256_S1x256_1_0))
      (joined_b m c t 7 (by omega) (by omega)) (View.ld (iblk m c 5 t) (Rect.unit ![2, 0] ![1, 256] inb_S4x256_S1x256_2_0))
      (View.ld (iblk m c 5 t) (Rect.unit ![3, 0] ![1, 256] inb_S4x256_S1x256_3_0)) (iblk m c 6 t) j
      = val_main_v61 (F := Ideal) (m ((c : Thread nD τ).loc main_arg0)) (m ((c : Thread nD τ).loc main_arg2))
        (m ((c : Thread nD τ).loc main_arg5)) (m ((c : Thread nD τ).loc main_arg6)) (ix3 ⟨t.val, point_lt t⟩ (j 0) (j 1)) := by
  idx_vars j
  pointwise [k0_pay11, k0_pay10, feed, joined_b, val_main_v61, val_main_v60, val_main_v59, val_main_v58, val_main_v57, val_main_v56,
    val_main_v55, val_main_v54, val_main_v53, val_main_v52, val_main_v51, val_main_v50, val_main_v49, val_main_v48, val_main_v47,
    val_main_v46, val_main_v45, val_main_v44, val_main_v43, val_main_v42, val_main_v41, val_main_v40, val_main_v39, val_main_v38,
    val_main_v37, val_main_v36, val_main_v35, val_main_v34, val_main_v33, val_main_v32, val_main_v31, val_main_v5, val_main_v1,
    val_main_v0]
  blk_point [iblk, V, idx t]

/-- The mask of the diagonal blocks times a value. -/
theorem masked (a b : ℕ) (ha : a < 4) (hb : b < 4) (w : EReal) :
    FloatOps.uitofp (F := Ideal) FTy.f32 (IntOp.cmpi CmpIPredicate.eq (IntOp.addi (BitVec.ofNat 32 a) 0#32) (BitVec.ofNat 32 b)) * w
      = if a = b then w else 0 := by
  have h : ∀ a b : Fin 4, IntOp.cmpi CmpIPredicate.eq (IntOp.addi (BitVec.ofNat 32 a.val) 0#32) (BitVec.ofNat 32 b.val)
      = if a.val = b.val then 1#1 else 0#1 := by decide
  rw [h ⟨a, ha⟩ ⟨b, hb⟩]
  dsimp only
  split
  · have e : FloatOps.uitofp (F := Ideal) FTy.f32 (1#1) = (1 : EReal) := by
      change (((1#1 : BitVec 1).toNat : ℝ) : EReal) = 1
      simp
    rw [e, one_mul]
  · have e : FloatOps.uitofp (F := Ideal) FTy.f32 (0#1) = (0 : EReal) := by
      change (((0#1 : BitVec 1).toNat : ℝ) : EReal) = 0
      simp
    rw [e, zero_mul]

/-- A row times a block-diagonal matrix sums over the head's lanes only. -/
theorem head_sum (X : Fin 256 → EReal) (w : Fin 4 → Fin 64 → Fin 64 → EReal) (q : Fin 256) :
    ∑ x : Fin 256, X x * (if x.val / 64 = q.val / 64 then w ⟨x.val / 64, by omega⟩ ⟨x.val % 64, by omega⟩ ⟨q.val % 64, by omega⟩ else 0)
      = ∑ x : Fin 64, w ⟨q.val / 64, by omega⟩ x ⟨q.val % 64, by omega⟩ * X ⟨q.val / 64 * 64 + x.val, by omega⟩ := by
  rw [← (finProdFinEquiv (m := 4) (n := 64)).sum_comp, Fintype.sum_prod_type,
    Finset.sum_eq_single (⟨q.val / 64, by omega⟩ : Fin 4)]
  · refine Finset.sum_congr rfl fun x _ => ?_
    have hx := x.isLt
    have hv : (finProdFinEquiv ((⟨q.val / 64, by omega⟩ : Fin 4), x)).val = x.val + 64 * (q.val / 64) := rfl
    rw [if_pos (by rw [hv]; omega), mul_comm]
    congr 2
    · exact Fin.ext (by dsimp only; omega)
    · exact Fin.ext (by dsimp only; omega)
    · exact Fin.ext (by rw [hv]; dsimp only; omega)
  · intro a _ ha
    refine Finset.sum_eq_zero fun x _ => ?_
    have hx := x.isLt
    have hv : (finProdFinEquiv (a, x)).val = x.val + 64 * a.val := rfl
    rw [if_neg (fun h => ha (Fin.ext (by rw [hv] at h; dsimp only; omega))), mul_zero]
  · exact fun h => absurd (Finset.mem_univ _) h

/-- The first block-diagonal matrix, at an index. -/
theorem blocks_r (c : Dev nD) (t : Fin cfg0.N) (p q : Fin 256) : iblk m c 7 t (ix2 p q)
    = if p.val / 64 = q.val / 64 then m ((c : Thread nD τ).loc main_arg7)
        (ix3 ⟨p.val / 64, by omega⟩ ⟨p.val % 64, by omega⟩ ⟨q.val % 64, by omega⟩) else (0 : EReal) := by
  have e : (win0_7.blk t).view.emb (ix2 p q) = ix2 p q := by blk_ext [idx t]
  blk_simp [iblk]
  rw [e]
  entry_read
  pointwise
  exact masked _ _ (by omega) (by omega) _

/-- The second block-diagonal matrix, at an index. -/
theorem blocks_i (c : Dev nD) (t : Fin cfg0.N) (p q : Fin 256) : iblk m c 9 t (ix2 p q)
    = if p.val / 64 = q.val / 64 then m ((c : Thread nD τ).loc main_arg9)
        (ix3 ⟨p.val / 64, by omega⟩ ⟨p.val % 64, by omega⟩ ⟨q.val % 64, by omega⟩) else (0 : EReal) := by
  have e : (win0_9.blk t).view.emb (ix2 p q) = ix2 p q := by blk_ext [idx t]
  blk_simp [iblk]
  rw [e]
  entry_read
  pointwise
  exact masked _ _ (by omega) (by omega) _

/-- The first bias, at an index. -/
theorem bias_r (c : Dev nD) (t : Fin cfg0.N) (q : Fin 256) : iblk m c 8 t (ix2 0 q)
    = m ((c : Thread nD τ).loc main_arg8) (ix2 ⟨q.val / 64, by omega⟩ ⟨q.val % 64, by omega⟩) := by
  have e : (win0_8.blk t).view.emb (ix2 0 q) = ix2 0 q := by blk_ext [idx t]
  blk_simp [iblk]
  rw [e]
  entry_read
  pointwise

/-- The second bias, at an index. -/
theorem bias_i (c : Dev nD) (t : Fin cfg0.N) (q : Fin 256) : iblk m c 10 t (ix2 0 q)
    = m ((c : Thread nD τ).loc main_arg10) (ix2 ⟨q.val / 64, by omega⟩ ⟨q.val % 64, by omega⟩) := by
  have e : (win0_10.blk t).view.emb (ix2 0 q) = ix2 0 q := by blk_ext [idx t]
  blk_simp [iblk]
  rw [e]
  entry_read
  pointwise

/-- The second convolution's rows as one value. -/
def convolved (c : Dev nD) (t : Fin cfg0.N) : FVec Ideal S8x256 .f32 :=
  fun j : S8x256.Idx => val_main_v61 (F := Ideal) (m ((c : Thread nD τ).loc main_arg0)) (m ((c : Thread nD τ).loc main_arg2))
        (m ((c : Thread nD τ).loc main_arg5)) (m ((c : Thread nD τ).loc main_arg6)) (ix3 ⟨t.val, point_lt t⟩ (j 0) (j 1))

/-- The recurrence's gate. -/
theorem gate_r (c : Dev nD) (t : Fin cfg0.N) (r : Fin 8) (q : Fin 256) :
    Ideal.logistic (∑ x : Fin 256, convolved m c t (ix2 r x) * iblk m c 7 t (ix2 x q) + iblk m c 8 t (ix2 0 q))
      = val_main_v74 (F := Ideal) (m ((c : Thread nD τ).loc main_arg0)) (m ((c : Thread nD τ).loc main_arg2))
        (m ((c : Thread nD τ).loc main_arg5)) (m ((c : Thread nD τ).loc main_arg6)) (m ((c : Thread nD τ).loc main_arg7))
        (m ((c : Thread nD τ).loc main_arg8)) (ix3 ⟨t.val, point_lt t⟩ r q) := by
  pointwise [convolved, val_main_v74, val_main_v73, val_main_v72, val_main_v71, val_main_v70, val_main_v69, val_main_v68, val_main_v67,
    val_main_v66, val_main_v65, val_main_v64, val_main_v63, val_main_v62, val_main_cst, val_main_cst_0, Ideal.logistic]
  rw [bias_r]
  refine congrArg (fun s => Ideal.div 1 (1 + Ideal.exp (-(s + _)))) ?_
  refine Eq.trans (Finset.sum_congr rfl fun x _ => congrArg _ (blocks_r m c t x q)) ?_
  exact head_sum (fun x => val_main_v61 (F := Ideal) (m ((c : Thread nD τ).loc main_arg0)) (m ((c : Thread nD τ).loc main_arg2))
        (m ((c : Thread nD τ).loc main_arg5)) (m ((c : Thread nD τ).loc main_arg6)) (ix3 ⟨t.val, point_lt t⟩ r x))
    (fun a b d => m ((c : Thread nD τ).loc main_arg7) (ix3 a b d)) q

/-- The input's gate. -/
theorem gate_i (c : Dev nD) (t : Fin cfg0.N) (r : Fin 8) (q : Fin 256) :
    Ideal.logistic (∑ x : Fin 256, convolved m c t (ix2 r x) * iblk m c 9 t (ix2 x q) + iblk m c 10 t (ix2 0 q))
      = val_main_v86 (F := Ideal) (m ((c : Thread nD τ).loc main_arg0)) (m ((c : Thread nD τ).loc main_arg2))
        (m ((c : Thread nD τ).loc main_arg5)) (m ((c : Thread nD τ).loc main_arg6)) (m ((c : Thread nD τ).loc main_arg9))
        (m ((c : Thread nD τ).loc main_arg10)) (ix3 ⟨t.val, point_lt t⟩ r q) := by
  pointwise [convolved, val_main_v86, val_main_v85, val_main_v84, val_main_v83, val_main_v82, val_main_v81, val_main_v80, val_main_v79,
    val_main_v78, val_main_v77, val_main_v76, val_main_v75, val_main_v62, val_main_cst_1, val_main_cst_2, Ideal.logistic]
  rw [bias_i]
  refine congrArg (fun s => Ideal.div 1 (1 + Ideal.exp (-(s + _)))) ?_
  refine Eq.trans (Finset.sum_congr rfl fun x _ => congrArg _ (blocks_i m c t x q)) ?_
  exact head_sum (fun x => val_main_v61 (F := Ideal) (m ((c : Thread nD τ).loc main_arg0)) (m ((c : Thread nD τ).loc main_arg2))
        (m ((c : Thread nD τ).loc main_arg5)) (m ((c : Thread nD τ).loc main_arg6)) (ix3 ⟨t.val, point_lt t⟩ r x))
    (fun a b d => m ((c : Thread nD τ).loc main_arg9) (ix3 a b d)) q

end Cert.Kernel6Ideal.Mixers

end
-- ==== Proof.Mixers.Scan.lean ====
/- The short convolution and the recurrence of the samples: the recurrence in the ladder's order, at an index. -/
module

public import proofs.«01_k».proof.Proof.Mixers.Gates
public import proofs.«01_k».proof.Proof.Mixers.Math

@[expose] public section

set_option maxRecDepth 16384

noncomputable section

namespace Cert.Kernel6Ideal.Mixers

open Cert.Kernel6Ideal Cert.Kernel6Ideal.Gen
open Idealize.ShloMosaic Idealize.SL.Sem Idealize.ShloMosaic.TcCoe
open Cert.Reference6Ideal.Read

variable (m : (ℓ : Loc nD τ sig) → Buf (Elt Ideal) ℓ)

/-- The decay's parameter, at an index. -/
theorem rate (c : Dev nD) (t : Fin cfg0.N) (q : Fin 256) : iblk m c 11 t (ix2 0 q)
    = m ((c : Thread nD τ).loc main_arg11) (ix1 q) := by
  have e : (win0_11.blk t).view.emb (ix2 0 q) = ix2 0 q := by blk_ext [idx t]
  blk_simp [iblk]
  rw [e]
  entry_read
  pointwise

/-- The gate of the recurrence's rows as one value. -/
def gated_r (c : Dev nD) (t : Fin cfg0.N) : FVec Ideal S8x256 .f32 :=
  fun j : S8x256.Idx => val_main_v74 (F := Ideal) (m ((c : Thread nD τ).loc main_arg0)) (m ((c : Thread nD τ).loc main_arg2))
        (m ((c : Thread nD τ).loc main_arg5)) (m ((c : Thread nD τ).loc main_arg6)) (m ((c : Thread nD τ).loc main_arg7))
        (m ((c : Thread nD τ).loc main_arg8)) (ix3 ⟨t.val, point_lt t⟩ (j 0) (j 1))

/-- The logarithm of the decay. -/
theorem decay_log (c : Dev nD) (t : Fin cfg0.N) (r : Fin 8) (l : Fin 256) :
    k0_pay14 (F := Ideal) (gated_r m c t) (iblk m c 11 t) (ix2 r l)
      = val_main_v93 (F := Ideal) (m ((c : Thread nD τ).loc main_arg0)) (m ((c : Thread nD τ).loc main_arg2))
        (m ((c : Thread nD τ).loc main_arg5)) (m ((c : Thread nD τ).loc main_arg6)) (m ((c : Thread nD τ).loc main_arg7))
        (m ((c : Thread nD τ).loc main_arg8)) (m ((c : Thread nD τ).loc main_arg11)) (ix3 ⟨t.val, point_lt t⟩ r l) := by
  pointwise [gated_r, k0_pay14, val_main_v93, val_main_v92, val_main_v91, val_main_v90, val_main_v89, val_main_v88, val_main_v87,
    val_main_cst_3, val_main_call0_v11, val_main_call0_v10, val_main_call0_v9, val_main_call0_v8, val_main_call0_v7,
    val_main_call0_v6, val_main_call0_v5, val_main_call0_v4, val_main_call0_v3, val_main_call0_v2, val_main_call0_v1,
    val_main_call0_v0, val_main_call0_cst]
  rw [if_neg (fun h => h rfl), rate]
  simp only [zero_sub]

/-- The decay is a nonnegative real. -/
theorem decay_coef (c : Dev nD) (t : Fin cfg0.N) (r : Fin 8) (l : Fin 256) :
    Cert.Mixers.Coef (val_main_v94 (F := Ideal) (m ((c : Thread nD τ).loc main_arg0)) (m ((c : Thread nD τ).loc main_arg2))
        (m ((c : Thread nD τ).loc main_arg5)) (m ((c : Thread nD τ).loc main_arg6)) (m ((c : Thread nD τ).loc main_arg7))
        (m ((c : Thread nD τ).loc main_arg8)) (m ((c : Thread nD τ).loc main_arg11)) (ix3 ⟨t.val, point_lt t⟩ r l)) := by
  have hg : (0 : EReal) ≤ gated_r m c t (ix2 r l) := (Cert.Mixers.logistic_nonneg _).trans_eq (gate_r m c t r l)
  pointwise [val_main_v94]
  refine (congrArg (fun z => Cert.Mixers.Coef (Ideal.exp z)) (decay_log m c t r l)).mp ?_
  pointwise [k0_pay14]
  exact ⟨Cert.Mixers.exp_nonneg _, Cert.Mixers.exp_ne_top _ (Cert.Mixers.rate_ne_top _ _ _ Cert.Mixers.minus_eight hg
    (Cert.Mixers.softplus_nonneg _ _))⟩

/-- The recurrence's input. -/
theorem input_at (c : Dev nD) (t : Fin cfg0.N) (r : Fin 8) (l : Fin 256) :
    Ideal.sqrt (1 - Ideal.exp (Ideal.ofBits .f32 0x40000000#32 * val_main_v93 (F := Ideal) (m ((c : Thread nD τ).loc main_arg0)) (m ((c : Thread nD τ).loc main_arg2))
        (m ((c : Thread nD τ).loc main_arg5)) (m ((c : Thread nD τ).loc main_arg6)) (m ((c : Thread nD τ).loc main_arg7))
        (m ((c : Thread nD τ).loc main_arg8)) (m ((c : Thread nD τ).loc main_arg11)) (ix3 ⟨t.val, point_lt t⟩ r l)))
      * (val_main_v86 (F := Ideal) (m ((c : Thread nD τ).loc main_arg0)) (m ((c : Thread nD τ).loc main_arg2))
        (m ((c : Thread nD τ).loc main_arg5)) (m ((c : Thread nD τ).loc main_arg6)) (m ((c : Thread nD τ).loc main_arg9))
        (m ((c : Thread nD τ).loc main_arg10)) (ix3 ⟨t.val, point_lt t⟩ r l) * convolved m c t (ix2 r l))
      = val_main_v105 (F := Ideal) (m ((c : Thread nD τ).loc main_arg0)) (m ((c : Thread nD τ).loc main_arg2))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) (ix3 ⟨t.val, point_lt t⟩ r l) := by
  pointwise [convolved, val_main_v105, val_main_v104, val_main_v103, val_main_call1_v2, val_main_call1_v1, val_main_call1_v0,
    val_main_cst_6, val_main_v102, val_main_v101, val_main_v100, val_main_c_5, val_main_v99, val_main_v98, val_main_v97,
    val_main_v96, val_main_v95, val_main_cst_4, val_main_v30, val_main_v29, val_main_v28, val_main_c]
  have h : ∀ r : Fin 8, IntOp.cmpi CmpIPredicate.eq (IntOp.addi (16384#32) (BitVec.ofNat 32 r.val)) 0#32 = 0#1 := by decide
  rw [h r, Cert.Mixers.neg_sub_one]
  rfl

/-- A choice by the row's number. -/
theorem from_row (n : Fin 8) (r : Fin 8) (x y : EReal) :
    Scalar.select (IntOp.cmpi CmpIPredicate.sge (BitVec.ofNat 32 r.val) (BitVec.ofNat 32 n.val)) x y = if n.val ≤ r.val then x else y := by
  have h : ∀ n r : Fin 8, IntOp.cmpi CmpIPredicate.sge (BitVec.ofNat 32 r.val) (BitVec.ofNat 32 n.val)
      = if n.val ≤ r.val then 1#1 else 0#1 := by decide
  rw [h n r]
  split <;> rfl

/-- The decay of the rows at a lane. -/
def decay (G : FVec Ideal S8x256 .f32) (L : Vec Ideal S1x256 .f32) (l : Fin 256) (r : Fin 8) : EReal :=
  Ideal.exp (k0_pay14 (F := Ideal) G L (ix2 r l))

/-- The input of the rows at a lane. -/
def input (X G D : FVec Ideal S8x256 .f32) (b L : Vec Ideal S1x256 .f32) (l : Fin 256) (r : Fin 8) : EReal :=
  Ideal.sqrt (1 - Ideal.exp (Ideal.ofBits .f32 0x40000000#32 * k0_pay14 (F := Ideal) G L (ix2 r l)))
    * (Ideal.logistic (D (ix2 r l) + b (ix2 0 l)) * X (ix2 r l))

theorem first_coef (G : FVec Ideal S8x256 .f32) (L : Vec Ideal S1x256 .f32) (r : Fin 8) (l : Fin 256) :
    k0_pay18 (F := Ideal) G L (ix2 r l) = Cert.Mixers.coef 1 (decay G L l) r := by
  pointwise [k0_pay18, k0_pay16, k0_pay15]
  exact from_row 1 r _ _

theorem first_double (X G D : FVec Ideal S8x256 .f32) (b L : Vec Ideal S1x256 .f32) (r : Fin 8) (l : Fin 256) :
    k0_pay17 (F := Ideal) X G D b L (ix2 r l) = Cert.Mixers.double 1 (decay G L l) (input X G D b L l) r := by
  pointwise [k0_pay17, k0_pay16, k0_pay15]
  exact from_row 1 r _ _

/-- The ladder. -/
theorem ladder_at (X G D : FVec Ideal S8x256 .f32) (b L H : Vec Ideal S1x256 .f32) (r : Fin 8) (l : Fin 256) :
    k0_pay22 (F := Ideal) (iota .tc S8x256 32 [0] iota_S8x256_d0_w32) (k0_pay17 X G D b L) (k0_pay18 G L) k0_pay19
      (k0_pay20 G L) (k0_pay21 X G D b L) H (ix2 r l)
      = Cert.Mixers.ladder (decay G L l) (input X G D b L l) (H (ix2 0 l)) r := by
  pointwise [k0_pay22, k0_pay19, k0_pay20, k0_pay21, first_coef, first_double]
  have h2 (k : ℕ) (hk : k < 8) (x y : EReal) : Scalar.select (IntOp.cmpi CmpIPredicate.sge (BitVec.ofNat 32 k) 2#32) x y
      = if 2 ≤ k then x else y := from_row 2 ⟨k, hk⟩ x y
  have h4 (k : ℕ) (hk : k < 8) (x y : EReal) : Scalar.select (IntOp.cmpi CmpIPredicate.sge (BitVec.ofNat 32 k) 4#32) x y
      = if 4 ≤ k then x else y := from_row 4 ⟨k, hk⟩ x y
  have hr := r.isLt
  have hm : (r.val + 8 - 4) % 8 < 8 := Nat.mod_lt _ (by omega)
  rw [h4 _ hr, h4 _ hr, h2 _ hr, h2 _ hr, h2 _ hm, h2 _ hm]
  rfl

end Cert.Kernel6Ideal.Mixers

end
-- ==== Proof.Mixers.Steps.lean ====
/- The short convolution and the recurrence of the samples: the reference's rows are the recurrence, one step at a time. -/
module

public import proofs.«01_k».proof.Proof.Mixers.Scan

@[expose] public section

set_option maxRecDepth 16384

noncomputable section

namespace Cert.Kernel6Ideal.Mixers

open Cert.Kernel6Ideal Cert.Kernel6Ideal.Gen
open Idealize.ShloMosaic Idealize.SL.Sem Idealize.ShloMosaic.TcCoe
open Cert.Reference6Ideal.Read

variable (m : (ℓ : Loc nD τ sig) → Buf (Elt Ideal) ℓ)

/-- The reference's rows at a lane are the recurrence from the state. -/
theorem steps (x0 : FVec Ideal S16640x2560 .f32) (x2 : FVec Ideal S32x3x256 .f32) (x3 : FVec Ideal S32x256 .f32)
    (x5 : FVec Ideal S4x256 .f32) (x6 : FVec Ideal S256 .f32) (x7 : FVec Ideal S4x64x64 .f32) (x8 : FVec Ideal S4x64 .f32)
    (x9 : FVec Ideal S4x64x64 .f32) (x10 : FVec Ideal S4x64 .f32) (x11 : FVec Ideal S256 .f32)
    (s : Fin 32) (r : Fin 8) (l : Fin 256) :
    val_main_v162 (F := Ideal) x0 x2 x3 x5 x6 x7 x8 x9 x10 x11 (ix3 s r l)
      = Cert.Mixers.chain (fun i => val_main_v94 (F := Ideal) x0 x2 x5 x6 x7 x8 x11 (ix3 s i l))
        (fun i => val_main_v105 (F := Ideal) x0 x2 x5 x6 x7 x8 x9 x10 x11 (ix3 s i l)) (x3 (ix2 s l)) r.val r.isLt := by
  pointwise [val_main_v162, val_main_v161, val_main_v160, val_main_v159, val_main_v158, val_main_v157, val_main_v156, val_main_v155,
    val_main_v154, val_main_v153, val_main_v152, val_main_v151, val_main_v150, val_main_v149, val_main_v148, val_main_v147,
    val_main_v146, val_main_v145, val_main_v144, val_main_v143, val_main_v142, val_main_v141, val_main_v140, val_main_v139,
    val_main_v138, val_main_v137, val_main_v136, val_main_v135, val_main_v134, val_main_v133, val_main_v132, val_main_v131,
    val_main_v130, val_main_v129, val_main_v128, val_main_v127, val_main_v126, val_main_v125, val_main_v124, val_main_v123,
    val_main_v122, val_main_v121, val_main_v120, val_main_v119, val_main_v118, val_main_v117, val_main_v116, val_main_v115,
    val_main_v114, val_main_v113, val_main_v112, val_main_v111, val_main_v110, val_main_v109, val_main_v108, val_main_v107,
    val_main_v106]
  obtain ⟨n, hn⟩ := r
  interval_cases n <;> rfl

end Cert.Kernel6Ideal.Mixers

end
-- ==== Proof.Mixers.Value.lean ====
/- The short convolution and the recurrence of the samples: what each grid point stores is its block of the reference's arrays. -/
module

public import proofs.«01_k».proof.Proof.Mixers.Steps

@[expose] public section

set_option maxRecDepth 16384

noncomputable section

namespace Cert.Kernel6Ideal.Mixers

open Cert.Kernel6Ideal Cert.Kernel6Ideal.Gen
open Idealize.ShloMosaic Idealize.SL.Sem Idealize.ShloMosaic.TcCoe
open Cert.Reference6Ideal.Read

variable (m : (ℓ : Loc nD τ sig) → Buf (Elt Ideal) ℓ)

/-- The rows after the second convolution. -/
theorem convolved_eq (c : Dev nD) (t : Fin cfg0.N) :
    k0_pay10 (F := Ideal) (View.ld (X0_0 m c t) (Rect.unit ![0, 768] ![8, 256] inb_S8x1024_S8x256_0_768))
      (joined_b m c t 5 (by omega) (by omega)) (View.ld (iblk m c 5 t) (Rect.unit ![0, 0] ![1, 256] inb_S4x256_S1x256_0_0))
      (joined_b m c t 6 (by omega) (by omega)) (View.ld (iblk m c 5 t) (Rect.unit ![1, 0] ![1, 256] inb_S4x256_S1x256_1_0))
      (joined_b m c t 7 (by omega) (by omega)) (View.ld (iblk m c 5 t) (Rect.unit ![2, 0] ![1, 256] inb_S4x256_S1x256_2_0))
      (View.ld (iblk m c 5 t) (Rect.unit ![3, 0] ![1, 256] inb_S4x256_S1x256_3_0)) (iblk m c 6 t)
      = convolved m c t :=
  funext fun j => conv_b m c t j

/-- The recurrence's gate. -/
theorem gated_eq (c : Dev nD) (t : Fin cfg0.N) :
    k0_pay12 (F := Ideal) (View.ld (X0_0 m c t) (Rect.unit ![0, 768] ![8, 256] inb_S8x1024_S8x256_0_768))
      (joined_b m c t 5 (by omega) (by omega)) (View.ld (iblk m c 5 t) (Rect.unit ![0, 0] ![1, 256] inb_S4x256_S1x256_0_0))
      (joined_b m c t 6 (by omega) (by omega)) (View.ld (iblk m c 5 t) (Rect.unit ![1, 0] ![1, 256] inb_S4x256_S1x256_1_0))
      (joined_b m c t 7 (by omega) (by omega)) (View.ld (iblk m c 5 t) (Rect.unit ![2, 0] ![1, 256] inb_S4x256_S1x256_2_0))
      (View.ld (iblk m c 5 t) (Rect.unit ![3, 0] ![1, 256] inb_S4x256_S1x256_3_0)) (iblk m c 6 t) (iblk m c 7 t) (iblk m c 8 t)
      = gated_r m c t := by
  funext j
  idx_vars j
  refine Eq.trans ?_ (gate_r m c t j0 j1)
  rw [← convolved_eq]
  pointwise [k0_pay12, k0_pay11]

/-- The product of the input's gate. -/
theorem product_i (c : Dev nD) (t : Fin cfg0.N) (r : Fin 8) (l : Fin 256) :
    k0_pay13 (F := Ideal) (View.ld (X0_0 m c t) (Rect.unit ![0, 768] ![8, 256] inb_S8x1024_S8x256_0_768))
      (joined_b m c t 5 (by omega) (by omega)) (View.ld (iblk m c 5 t) (Rect.unit ![0, 0] ![1, 256] inb_S4x256_S1x256_0_0))
      (joined_b m c t 6 (by omega) (by omega)) (View.ld (iblk m c 5 t) (Rect.unit ![1, 0] ![1, 256] inb_S4x256_S1x256_1_0))
      (joined_b m c t 7 (by omega) (by omega)) (View.ld (iblk m c 5 t) (Rect.unit ![2, 0] ![1, 256] inb_S4x256_S1x256_2_0))
      (View.ld (iblk m c 5 t) (Rect.unit ![3, 0] ![1, 256] inb_S4x256_S1x256_3_0)) (iblk m c 6 t) (iblk m c 9 t) (ix2 r l)
      = ∑ x : Fin 256, convolved m c t (ix2 r x) * iblk m c 9 t (ix2 x l) := by
  rw [← convolved_eq]
  pointwise [k0_pay13, k0_pay11]

/-- The recurrence's rows of a point. -/
theorem hidden (c : Dev nD) (t : Fin cfg0.N) (r : Fin 8) (l : Fin 256) (D : FVec Ideal S8x256 .f32) (H : Vec Ideal S1x256 .f32)
    (hD : ∀ r l, D (ix2 r l) = ∑ x : Fin 256, convolved m c t (ix2 r x) * iblk m c 9 t (ix2 x l))
    (hH : ∀ l, H (ix2 0 l) = m ((c : Thread nD τ).loc main_arg3) (ix2 ⟨t.val, point_lt t⟩ l)) :
    k0_pay22 (F := Ideal) (iota .tc S8x256 32 [0] iota_S8x256_d0_w32)
      (k0_pay17 (convolved m c t) (gated_r m c t) D (iblk m c 10 t) (iblk m c 11 t)) (k0_pay18 (gated_r m c t) (iblk m c 11 t)) k0_pay19
      (k0_pay20 (gated_r m c t) (iblk m c 11 t)) (k0_pay21 (convolved m c t) (gated_r m c t) D (iblk m c 10 t) (iblk m c 11 t)) H (ix2 r l)
      = val_main_v162 (F := Ideal) (m ((c : Thread nD τ).loc main_arg0)) (m ((c : Thread nD τ).loc main_arg2)) (m ((c : Thread nD τ).loc main_arg3))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) (ix3 ⟨t.val, point_lt t⟩ r l) := by
  have ea : decay (gated_r m c t) (iblk m c 11 t) l = fun i => val_main_v94 (F := Ideal) (m ((c : Thread nD τ).loc main_arg0))
      (m ((c : Thread nD τ).loc main_arg2)) (m ((c : Thread nD τ).loc main_arg5)) (m ((c : Thread nD τ).loc main_arg6))
      (m ((c : Thread nD τ).loc main_arg7)) (m ((c : Thread nD τ).loc main_arg8)) (m ((c : Thread nD τ).loc main_arg11))
      (ix3 ⟨t.val, point_lt t⟩ i l) :=
    funext fun i => by
      unfold decay
      rw [decay_log]
      pointwise [val_main_v94]
  have eb : input (convolved m c t) (gated_r m c t) D (iblk m c 10 t) (iblk m c 11 t) l
      = fun i => val_main_v105 (F := Ideal) (m ((c : Thread nD τ).loc main_arg0)) (m ((c : Thread nD τ).loc main_arg2))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) (ix3 ⟨t.val, point_lt t⟩ i l) :=
    funext fun i => by
      unfold input
      rw [decay_log, hD, gate_i]
      exact input_at m c t i l
  rw [ladder_at, Cert.Mixers.ladder_eq_chain, ea, eb, hH, steps]
  intro i
  rw [ea]
  exact decay_coef m c t i l

/-- The state the recurrence starts from. -/
theorem start (c : Dev nD) (t : Fin cfg0.N) (l : Fin 256) :
    (View.whole cc0_scratch2).readCov
      [(⟨Rect.unit ![0, 0] ![8, 256] inb_S8x256_S8x256_0_0, k0_pay5 (F := Ideal) (iblk m c 3 t)⟩ : View.Piece (Elt Ideal) S8x256 .f32)]
      (Rect.unit (s := S8x256) ![0, 0] ![1, 256] inb_S8x256_S1x256_0_0).toLoadRect (ix2 0 l)
      = m ((c : Thread nD τ).loc main_arg3) (ix2 ⟨t.val, point_lt t⟩ l) := by
  rw [View.readCov_eq_canon']
  have h0 : (((Rect.unit (s := S8x256) ![0, 0] ![1, 256] inb_S8x256_S1x256_0_0).toLoadRect.idx (ix2 0 l)) 0 : ℕ) = 0 := rfl
  have h1 : (((Rect.unit (s := S8x256) ![0, 0] ![1, 256] inb_S8x256_S1x256_0_0).toLoadRect.idx (ix2 0 l)) 1 : ℕ) = l.val := by
    change 0 + 1 * l.val = _
    omega
  have e0 := View.canon_unit_zero (S := S8x256) (Val := Elt Ideal) (e := .f32) (off := ![0, 0]) (by funext a; fin_cases a <;> rfl)
    inb_S8x256_S8x256_0_0 (k0_pay5 (F := Ideal) (iblk m c 3 t))
  refine (congrFun e0 _).trans ?_
  have e1 : (Rect.unit (s := S8x256) ![0, 0] ![1, 256] inb_S8x256_S1x256_0_0).toLoadRect.idx (ix2 0 l) = ix2 0 l := by blk_ext
  rw [e1]
  pointwise [k0_pay5]
  have e : (win0_3.blk t).view.emb (ix3 0 0 l) = ix3 ⟨t.val, point_lt t⟩ 0 l := by blk_ext [idx t]
  blk_simp [iblk]
  rw [e]
  entry_read
  pointwise

/-- The recurrence's rows of a point, from the rows read over the history. -/
theorem rows_h (c : Dev nD) (t : Fin cfg0.N) (r : Fin 8) (l : Fin 256) (R5 R6 R7 X G D : FVec Ideal S8x256 .f32) (H : Vec Ideal S1x256 .f32)
    (h5 : R5 = joined_b m c t 5 (by omega) (by omega)) (h6 : R6 = joined_b m c t 6 (by omega) (by omega))
    (h7 : R7 = joined_b m c t 7 (by omega) (by omega))
    (hX : X = k0_pay10 (F := Ideal) (View.ld (X0_0 m c t) (Rect.unit ![0, 768] ![8, 256] inb_S8x1024_S8x256_0_768)) R5
        (View.ld (iblk m c 5 t) (Rect.unit ![0, 0] ![1, 256] inb_S4x256_S1x256_0_0)) R6
        (View.ld (iblk m c 5 t) (Rect.unit ![1, 0] ![1, 256] inb_S4x256_S1x256_1_0)) R7
        (View.ld (iblk m c 5 t) (Rect.unit ![2, 0] ![1, 256] inb_S4x256_S1x256_2_0))
        (View.ld (iblk m c 5 t) (Rect.unit ![3, 0] ![1, 256] inb_S4x256_S1x256_3_0)) (iblk m c 6 t))
    (hG : G = k0_pay12 (F := Ideal) (View.ld (X0_0 m c t) (Rect.unit ![0, 768] ![8, 256] inb_S8x1024_S8x256_0_768)) R5
        (View.ld (iblk m c 5 t) (Rect.unit ![0, 0] ![1, 256] inb_S4x256_S1x256_0_0)) R6
        (View.ld (iblk m c 5 t) (Rect.unit ![1, 0] ![1, 256] inb_S4x256_S1x256_1_0)) R7
        (View.ld (iblk m c 5 t) (Rect.unit ![2, 0] ![1, 256] inb_S4x256_S1x256_2_0))
        (View.ld (iblk m c 5 t) (Rect.unit ![3, 0] ![1, 256] inb_S4x256_S1x256_3_0)) (iblk m c 6 t) (iblk m c 7 t) (iblk m c 8 t))
    (hD : D = k0_pay13 (F := Ideal) (View.ld (X0_0 m c t) (Rect.unit ![0, 768] ![8, 256] inb_S8x1024_S8x256_0_768)) R5
        (View.ld (iblk m c 5 t) (Rect.unit ![0, 0] ![1, 256] inb_S4x256_S1x256_0_0)) R6
        (View.ld (iblk m c 5 t) (Rect.unit ![1, 0] ![1, 256] inb_S4x256_S1x256_1_0)) R7
        (View.ld (iblk m c 5 t) (Rect.unit ![2, 0] ![1, 256] inb_S4x256_S1x256_2_0))
        (View.ld (iblk m c 5 t) (Rect.unit ![3, 0] ![1, 256] inb_S4x256_S1x256_3_0)) (iblk m c 6 t) (iblk m c 9 t))
    (hH : ∀ l, H (ix2 0 l) = m ((c : Thread nD τ).loc main_arg3) (ix2 ⟨t.val, point_lt t⟩ l)) :
    k0_pay22 (F := Ideal) (iota .tc S8x256 32 [0] iota_S8x256_d0_w32) (k0_pay17 X G D (iblk m c 10 t) (iblk m c 11 t))
      (k0_pay18 G (iblk m c 11 t)) k0_pay19 (k0_pay20 G (iblk m c 11 t)) (k0_pay21 X G D (iblk m c 10 t) (iblk m c 11 t)) H (ix2 r l)
      = val_main_v162 (F := Ideal) (m ((c : Thread nD τ).loc main_arg0)) (m ((c : Thread nD τ).loc main_arg2)) (m ((c : Thread nD τ).loc main_arg3))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) (ix3 ⟨t.val, point_lt t⟩ r l) := by
  subst h5 h6 h7
  rw [convolved_eq] at hX
  rw [gated_eq] at hG
  subst hX hG
  exact hidden m c t r l D H (fun r l => (congrFun hD _).trans (product_i m c t r l)) hH

/-- The last row of the recurrence, stored eight times, read at an index. -/
theorem point_h (c : Dev nD) (t : Fin cfg0.N) (y : S1x8x256.Idx) (I : IVec S8x256 32) (B A : FVec Ideal S8x256 .f32) (M : IVec S8x256 1)
    (A' B' : FVec Ideal S8x256 .f32) (H : Vec Ideal S1x256 .f32)
    (h : ∀ r l, k0_pay22 (F := Ideal) I B A M A' B' H (ix2 r l) = val_main_v162 (F := Ideal) (m ((c : Thread nD τ).loc main_arg0)) (m ((c : Thread nD τ).loc main_arg2)) (m ((c : Thread nD τ).loc main_arg3))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) (ix3 ⟨t.val, point_lt t⟩ r l)) :
    k0_pay2 (F := Ideal) (k0_pay23 (F := Ideal) I B A M A' B' H) y
      = val_main_v167 (F := Ideal) (m ((c : Thread nD τ).loc main_arg0)) (m ((c : Thread nD τ).loc main_arg2)) (m ((c : Thread nD τ).loc main_arg3))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) (((cfg0.win 15).blk t).view.emb y) := by
  pointwise [k0_pay2, k0_pay23, val_main_v167, val_main_v166]
  refine (h _ _).trans ?_
  blk_point [idx t]

/-- The recurrence's last row after the run. -/
theorem final_h (c : Dev nD) : (dats m 0 c).arrAt 15 (cfgs 0).N
    = val_main_v167 (F := Ideal) (m ((c : Thread nD τ).loc main_arg0)) (m ((c : Thread nD τ).loc main_arg2)) (m ((c : Thread nD τ).loc main_arg3))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) := by
  refine (dats m 0 c).arrAt_eq_of_covers 15 _ (by decide +kernel) fun t _ y => ?_
  blk_simp
  rw [after0_15]
  unfold outsAt0
  frame_out
  exact point_h m c t y _ _ _ _ _ _ _ fun r l => rows_h m c t r l _ _ _ _ _ _ _ (rows_b m c t 5 _ (by omega) (by omega))
    (rows_b m c t 6 _ (by omega) (by omega)) (rows_b m c t 7 _ (by omega) (by omega)) rfl rfl rfl (start m c t)

end Cert.Kernel6Ideal.Mixers

end
-- ==== Proof.Mixers.Rows.lean ====
/- The mixed rows of the samples, stored as two column halves below the rows of the prompt. -/
module

public import proofs.«01_k».proof.Proof.Mixers.Value

@[expose] public section

set_option maxRecDepth 16384

noncomputable section

namespace Cert.Kernel6Ideal.Mixers

open Cert.Kernel6Ideal Cert.Kernel6Ideal.Gen
open Idealize.ShloMosaic Idealize.SL.Sem Idealize.ShloMosaic.TcCoe
open Cert.Reference6Ideal.Read

variable (m : (ℓ : Loc nD τ sig) → Buf (Elt Ideal) ℓ)

/-- The mixed rows of the reference, at an index of the samples' part. -/
theorem mixed_at (x0 : FVec Ideal S16640x2560 .f32) (x1 : FVec Ideal S32x2x256 .f32) (x2 : FVec Ideal S32x3x256 .f32)
    (x3 : FVec Ideal S32x256 .f32) (x4 : FVec Ideal S3x256 .f32)
    (x5 : FVec Ideal S4x256 .f32) (x6 : FVec Ideal S256 .f32) (x7 : FVec Ideal S4x64x64 .f32) (x8 : FVec Ideal S4x64 .f32)
    (x9 : FVec Ideal S4x64x64 .f32) (x10 : FVec Ideal S4x64 .f32) (x11 : FVec Ideal S256 .f32) (x12 : FVec Ideal S16640x512 .f32)
    (s : Fin 32) (r : Fin 8) (l : Fin 512) (n : Fin 16640) (hn : n.val = 16384 + 8 * s.val + r.val) :
    val_main_v169 (F := Ideal) x0 x1 x2 x3 x4 x5 x6 x7 x8 x9 x10 x11 x12 (ix2 n l)
      = if h : l.val < 256 then val_main_v163 (F := Ideal) x0 x1 x4 (ix3 s r ⟨l.val, h⟩)
        else val_main_v162 (F := Ideal) x0 x2 x3 x5 x6 x7 x8 x9 x10 x11 (ix3 s r ⟨l.val - 256, by omega⟩) := by
  unfold val_main_v169
  generalize val_main_v168 (F := Ideal) x12 = p
  have i : idx_main_v165 (ix2 ⟨8 * s.val + r.val, by omega⟩ l) = ix3 s r l := by
    blk_ext
  refine (concatenate_pair_apply_right (0 : Fin S16640x512.rank) p (val_main_v165 (F := Ideal) x0 x1 x2 x3 x4 x5 x6 x7 x8 x9 x10 x11)
    _ (ix2 n l) rfl rfl (ix2 ⟨8 * s.val + r.val, by omega⟩ l)
    (fun b hb => ?_) ?_).trans ?_
  · match b with
    | ⟨0, _⟩ => exact absurd rfl hb
    | ⟨1, _⟩ => rfl
  · change 8 * s.val + r.val + 16384 = n.val
    omega
  · refine (val_main_v165_apply ..).trans ?_
    rw [i]
    pointwise [val_main_v164]

/-- The mixed rows of the reference, at an index of the prompt's part: the operand's. -/
theorem kept_at (x0 : FVec Ideal S16640x2560 .f32) (x1 : FVec Ideal S32x2x256 .f32) (x2 : FVec Ideal S32x3x256 .f32)
    (x3 : FVec Ideal S32x256 .f32) (x4 : FVec Ideal S3x256 .f32)
    (x5 : FVec Ideal S4x256 .f32) (x6 : FVec Ideal S256 .f32) (x7 : FVec Ideal S4x64x64 .f32) (x8 : FVec Ideal S4x64 .f32)
    (x9 : FVec Ideal S4x64x64 .f32) (x10 : FVec Ideal S4x64 .f32) (x11 : FVec Ideal S256 .f32) (x12 : FVec Ideal S16640x512 .f32)
    (n : Fin 16640) (l : Fin 512) (hn : n.val < 16384) :
    val_main_v169 (F := Ideal) x0 x1 x2 x3 x4 x5 x6 x7 x8 x9 x10 x11 x12 (ix2 n l) = x12 (ix2 n l) := by
  unfold val_main_v169
  generalize val_main_v165 (F := Ideal) x0 x1 x2 x3 x4 x5 x6 x7 x8 x9 x10 x11 = q
  refine (concatenate_pair_apply_left (0 : Fin S16640x512.rank) (val_main_v168 (F := Ideal) x12) q
    _ (ix2 n l) rfl (ix2 ⟨n.val, hn⟩ l) (fun b => ?_)).trans ?_
  · match b with
    | ⟨0, _⟩ => rfl
    | ⟨1, _⟩ => rfl
  · refine (val_main_v168_apply ..).trans (congrArg x12 ?_)
    blk_ext

/-- Eight rows stored in two column halves. -/
theorem tiles_y (w u : S8x256.Idx → Elt Ideal .f32) (z : S8x512.Idx) :
    View.canon [(⟨Rect.unit ![0, 256] ![8, 256] inb_S8x512_S8x256_0_256, u⟩ : View.Piece (Elt Ideal) S8x512 .f32),
        ⟨Rect.unit ![0, 0] ![8, 256] inb_S8x512_S8x256_0_0, w⟩] z
      = if h : (z 1).val < 256 then w (ix2 (z 0) ⟨(z 1).val, h⟩)
        else u (ix2 (z 0) ⟨(z 1).val - 256, by have := (z 1).isLt; dsimp at this; omega⟩) := by
  canon_tiles x hx
  · rw [dif_neg (by omega)]
    refine congrArg u ?_
    blk_ext
  · rw [dif_pos (by omega)]
    refine congrArg w ?_
    blk_ext

/-- The short convolution of a point, from the rows read over the history. -/
theorem at_a (c : Dev nD) (t : Fin cfg0.N) (j : S8x256.Idx) (R6 R7 : FVec Ideal S8x256 .f32)
    (h6 : R6 = joined_a m c t 6 (by omega) (by omega)) (h7 : R7 = joined_a m c t 7 (by omega) (by omega)) :
    k0_pay8 (F := Ideal) (View.ld (X0_0 m c t) (Rect.unit ![0, 0] ![8, 256] inb_S8x1024_S8x256_0_0))
      (View.ld (X0_0 m c t) (Rect.unit ![0, 256] ![8, 256] inb_S8x1024_S8x256_0_256))
      (View.ld (X0_0 m c t) (Rect.unit ![0, 512] ![8, 256] inb_S8x1024_S8x256_0_512))
      R6 (View.ld (iblk m c 4 t) (Rect.unit ![0, 0] ![1, 256] inb_S3x256_S1x256_0_0))
      R7 (View.ld (iblk m c 4 t) (Rect.unit ![1, 0] ![1, 256] inb_S3x256_S1x256_1_0))
      (View.ld (iblk m c 4 t) (Rect.unit ![2, 0] ![1, 256] inb_S3x256_S1x256_2_0)) j
      = val_main_v163 (F := Ideal) (m ((c : Thread nD τ).loc main_arg0)) (m ((c : Thread nD τ).loc main_arg1))
        (m ((c : Thread nD τ).loc main_arg4)) (ix3 ⟨t.val, point_lt t⟩ (j 0) (j 1)) := by
  subst h6 h7
  exact conv_a m c t j

/-- What a point stores is the samples' part of the mixed rows. -/
theorem point_y (c : Dev nD) (t : Fin cfg0.N) (y : S8x512.Idx) (A B : S8x256.Idx → Elt Ideal .f32)
    (hA : ∀ j : S8x256.Idx, A j = val_main_v163 (F := Ideal) (m ((c : Thread nD τ).loc main_arg0)) (m ((c : Thread nD τ).loc main_arg1))
        (m ((c : Thread nD τ).loc main_arg4)) (ix3 ⟨t.val, point_lt t⟩ (j 0) (j 1)))
    (hB : ∀ r l, B (ix2 r l) = val_main_v162 (F := Ideal) (m ((c : Thread nD τ).loc main_arg0)) (m ((c : Thread nD τ).loc main_arg2)) (m ((c : Thread nD τ).loc main_arg3))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) (ix3 ⟨t.val, point_lt t⟩ r l)) :
    (if h : (y 1).val < 256 then A (ix2 (y 0) ⟨(y 1).val, h⟩)
      else B (ix2 (y 0) ⟨(y 1).val - 256, by have := (y 1).isLt; dsimp at this; omega⟩))
      = val_main_v169 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) (((cfg0.win 12).blk t).view.emb y) := by
  have e : ((cfg0.win 12).blk t).view.emb y = ix2 ⟨16384 + 8 * t.val + (y 0).val, by
      have := point_lt t
      have := (y 0).isLt
      dsimp at this
      omega⟩ (y 1) := by blk_ext [idx t]
  rw [e]
  refine Eq.trans ?_ (mixed_at _ _ _ _ _ _ _ _ _ _ _ _ _ ⟨t.val, point_lt t⟩ (y 0) (y 1) _ rfl).symm
  by_cases h : (y 1).val < 256
  · rw [dif_pos h, dif_pos h]
    exact hA _
  · rw [dif_neg h, dif_neg h]
    exact hB _ _

/-- The mixed rows after the run: the samples' part is written, the prompt's part is the operand's. -/
theorem final_y (c : Dev nD) : (dats m 0 c).arrAt 12 (cfgs 0).N
    = fun i => if 16384 ≤ (i 0 : ℕ) then val_main_v169 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) i
      else V m c main_v36_0 i := by
  refine (dats m 0 c).arrAt_eq_of_coversWhere 12 _ (fun β => 2048 ≤ β 0) (by decide +kernel) (fun t hf y => ?_)
    (fun j => by blk_simp [Pipeline.Window.cell_apply]; omega)
  blk_simp
  rw [after0_12]
  unfold outsAt0
  frame_out
  rw [tiles_y]
  exact point_y m c t y _ _ (fun j => at_a m c t j _ _ (rows_a m c t 6 _ (by omega) (by omega)) (rows_a m c t 7 _ (by omega) (by omega)))
    fun r l => rows_h m c t r l _ _ _ _ _ _ _ (rows_b m c t 5 _ (by omega) (by omega))
      (rows_b m c t 6 _ (by omega) (by omega)) (rows_b m c t 7 _ (by omega) (by omega)) rfl rfl rfl (start m c t)

/-- The mixed rows after the run are the reference's. -/
theorem final_mixed (c : Dev nD) : (dats m 0 c).arrAt 12 (cfgs 0).N
    = val_main_v169 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) := by
  refine (final_y m c).trans (funext fun i => ?_)
  by_cases h : 16384 ≤ (i 0 : ℕ)
  · rw [if_pos h]
  · rw [if_neg h]
    have e : V m c main_v36_0 = m ((c : Thread nD τ).loc main_arg12) := by
      unfold V
      after_results
      try rfl
    rw [e]
    idx_vars i
    exact (kept_at _ _ _ _ _ _ _ _ _ _ _ _ _ _ _ (by omega)).symm

end Cert.Kernel6Ideal.Mixers

end
-- ==== Proof.Mixers.Claims.lean ====
/- The mixers of the samples: their frames and the equations of their four results. -/
module

public import proofs.«01_k».proof.Defs
public import proofs.«01_k».proof.Proof.Gen.Kernel6.Frame
public import proofs.«01_k».proof.Proof.Gen.Kernel6Ideal.Value
public import proofs.«01_k».proof.Proof.Gen.Reference6Ideal.Read
public import proofs.«01_k».proof.Proof.Mixers.Rows
public import Idealize.ShloMosaic.Adequacy
public import Idealize.ShloMosaic.Init

@[expose] public section

set_option maxRecDepth 16384

noncomputable section

namespace Cert.Mixers

open Idealize.ShloMosaic Idealize.SL.Sem Idealize.ShloMosaic.TcCoe

/-- The kernel terminates, its semaphores back at zero, its arguments unchanged. -/
theorem frame_kernel : quiescent_Kernel6 := fun m ρ _ => Kernel6.Gen.frame m ρ

theorem frame_ideal : quiescent_Kernel6Ideal := fun m ρ _ => Kernel6Ideal.Gen.frame m ρ

theorem frame_reference : quiescent_Reference6Ideal := fun m ρ _ =>
  (θ_run Reference6Ideal.defs _ _).mono (fun r h => ⟨fun c => (h c).2.2.2.2, sem_eq_zero_of_no_sems (by decide) r.2⟩)
    (Reference6Ideal.Value.run (F := Ideal) m ρ)

/-- The mixed rows, of the arguments. -/
def mixed (m : (ℓ : Loc Kernel6Ideal.nD Kernel6Ideal.τ Kernel6Ideal.sig) → Buf (Elt Ideal) ℓ) (c : Dev Kernel6Ideal.nD) :=
  Reference6Ideal.Read.val_main_v169 (F := Ideal) (m ((c : Thread Kernel6Ideal.nD Kernel6Ideal.τ).loc Kernel6Ideal.main_arg0)) (m ((c : Thread Kernel6Ideal.nD Kernel6Ideal.τ).loc Kernel6Ideal.main_arg1)) (m ((c : Thread Kernel6Ideal.nD Kernel6Ideal.τ).loc Kernel6Ideal.main_arg2))
    (m ((c : Thread Kernel6Ideal.nD Kernel6Ideal.τ).loc Kernel6Ideal.main_arg3)) (m ((c : Thread Kernel6Ideal.nD Kernel6Ideal.τ).loc Kernel6Ideal.main_arg4)) (m ((c : Thread Kernel6Ideal.nD Kernel6Ideal.τ).loc Kernel6Ideal.main_arg5))
    (m ((c : Thread Kernel6Ideal.nD Kernel6Ideal.τ).loc Kernel6Ideal.main_arg6)) (m ((c : Thread Kernel6Ideal.nD Kernel6Ideal.τ).loc Kernel6Ideal.main_arg7)) (m ((c : Thread Kernel6Ideal.nD Kernel6Ideal.τ).loc Kernel6Ideal.main_arg8))
    (m ((c : Thread Kernel6Ideal.nD Kernel6Ideal.τ).loc Kernel6Ideal.main_arg9)) (m ((c : Thread Kernel6Ideal.nD Kernel6Ideal.τ).loc Kernel6Ideal.main_arg10)) (m ((c : Thread Kernel6Ideal.nD Kernel6Ideal.τ).loc Kernel6Ideal.main_arg11))
    (m ((c : Thread Kernel6Ideal.nD Kernel6Ideal.τ).loc Kernel6Ideal.main_arg12))

/-- The rows the short convolution keeps. -/
def history_a (m : (ℓ : Loc Kernel6Ideal.nD Kernel6Ideal.τ Kernel6Ideal.sig) → Buf (Elt Ideal) ℓ) (c : Dev Kernel6Ideal.nD) :=
  Reference6Ideal.Read.val_main_v170 (F := Ideal) (m ((c : Thread Kernel6Ideal.nD Kernel6Ideal.τ).loc Kernel6Ideal.main_arg0)) (m ((c : Thread Kernel6Ideal.nD Kernel6Ideal.τ).loc Kernel6Ideal.main_arg1))

/-- The rows the second convolution keeps. -/
def history_b (m : (ℓ : Loc Kernel6Ideal.nD Kernel6Ideal.τ Kernel6Ideal.sig) → Buf (Elt Ideal) ℓ) (c : Dev Kernel6Ideal.nD) :=
  Reference6Ideal.Read.val_main_v171 (F := Ideal) (m ((c : Thread Kernel6Ideal.nD Kernel6Ideal.τ).loc Kernel6Ideal.main_arg0)) (m ((c : Thread Kernel6Ideal.nD Kernel6Ideal.τ).loc Kernel6Ideal.main_arg2))

/-- The last state of the recurrence. -/
def last (m : (ℓ : Loc Kernel6Ideal.nD Kernel6Ideal.τ Kernel6Ideal.sig) → Buf (Elt Ideal) ℓ) (c : Dev Kernel6Ideal.nD) :=
  Reference6Ideal.Read.val_main_v167 (F := Ideal) (m ((c : Thread Kernel6Ideal.nD Kernel6Ideal.τ).loc Kernel6Ideal.main_arg0)) (m ((c : Thread Kernel6Ideal.nD Kernel6Ideal.τ).loc Kernel6Ideal.main_arg2)) (m ((c : Thread Kernel6Ideal.nD Kernel6Ideal.τ).loc Kernel6Ideal.main_arg3))
    (m ((c : Thread Kernel6Ideal.nD Kernel6Ideal.τ).loc Kernel6Ideal.main_arg5)) (m ((c : Thread Kernel6Ideal.nD Kernel6Ideal.τ).loc Kernel6Ideal.main_arg6)) (m ((c : Thread Kernel6Ideal.nD Kernel6Ideal.τ).loc Kernel6Ideal.main_arg7))
    (m ((c : Thread Kernel6Ideal.nD Kernel6Ideal.τ).loc Kernel6Ideal.main_arg8)) (m ((c : Thread Kernel6Ideal.nD Kernel6Ideal.τ).loc Kernel6Ideal.main_arg9)) (m ((c : Thread Kernel6Ideal.nD Kernel6Ideal.τ).loc Kernel6Ideal.main_arg10))
    (m ((c : Thread Kernel6Ideal.nD Kernel6Ideal.τ).loc Kernel6Ideal.main_arg11))

/-- From memories that agree on the arguments, kernel and reference end with the same results. -/
theorem algebraic : algebraic_Kernel6Ideal_Reference6Ideal := by
  intro m g m' g' _ hargs
  refine ⟨mixed m, history_a m, history_b m, last m, ?_, ?_⟩
  · exact (θ_run Kernel6Ideal.defs _ _).mono (fun r h c => ⟨(Kernel6Ideal.Value.post12 m r h c).trans (Kernel6Ideal.Mixers.final_mixed m c),
      (Kernel6Ideal.Value.post13 m r h c).trans (Kernel6Ideal.Mixers.final_sa m c), (Kernel6Ideal.Value.post14 m r h c).trans (Kernel6Ideal.Mixers.final_sb m c),
      (Kernel6Ideal.Value.post15 m r h c).trans (Kernel6Ideal.Mixers.final_h m c),
      Kernel6Ideal.Value.kept_main_arg0 m r h c, Kernel6Ideal.Value.kept_main_arg1 m r h c, Kernel6Ideal.Value.kept_main_arg2 m r h c, Kernel6Ideal.Value.kept_main_arg3 m r h c, Kernel6Ideal.Value.kept_main_arg4 m r h c, Kernel6Ideal.Value.kept_main_arg5 m r h c, Kernel6Ideal.Value.kept_main_arg6 m r h c, Kernel6Ideal.Value.kept_main_arg7 m r h c, Kernel6Ideal.Value.kept_main_arg8 m r h c, Kernel6Ideal.Value.kept_main_arg9 m r h c, Kernel6Ideal.Value.kept_main_arg10 m r h c, Kernel6Ideal.Value.kept_main_arg11 m r h c, Kernel6Ideal.Value.kept_main_arg12 m r h c⟩)
      (Kernel6Ideal.Gen.run_main m g)
  · refine (θ_run Reference6Ideal.defs _ _).mono (fun r h c => ?_) (Reference6Ideal.Value.run (F := Ideal) m' g')
    obtain ⟨e0, e1, e2, e3, e4, e5, e6, e7, e8, e9, e10, e11, e12⟩ := hargs c
    refine ⟨?_, ?_, ?_, ?_, (h c).2.2.2.2⟩
    · refine (h c).1.trans ((Reference6Ideal.Read.val_main_v169_eq (StableHlo.launchContents m' c)).trans ?_)
      unfold mixed
      rw [← e0, ← e1, ← e2, ← e3, ← e4, ← e5, ← e6, ← e7, ← e8, ← e9, ← e10, ← e11, ← e12]
    · refine (h c).2.1.trans ((Reference6Ideal.Read.val_main_v170_eq (StableHlo.launchContents m' c)).trans ?_)
      unfold history_a
      rw [← e0, ← e1]
    · refine (h c).2.2.1.trans ((Reference6Ideal.Read.val_main_v171_eq (StableHlo.launchContents m' c)).trans ?_)
      unfold history_b
      rw [← e0, ← e2]
    · refine (h c).2.2.2.1.trans ((Reference6Ideal.Read.val_main_v167_eq (StableHlo.launchContents m' c)).trans ?_)
      unfold last
      rw [← e0, ← e2, ← e3, ← e5, ← e6, ← e7, ← e8, ← e9, ← e10, ← e11]

end Cert.Mixers

end
-- ==== Proof.Prompt.Doubling.lean ====
/- The recurrence `h ↦ a·h + b` over any number of steps, and its composition by doubling over a tile of 1024 rows. -/
module

public import proofs.«01_k».proof.Proof.Mixers.Math

@[expose] public section

noncomputable section

namespace Cert.Prompt

open Cert.Mixers

/-- The recurrence after `n` steps from step `lo`. -/
def after (a b : ℕ → EReal) (lo : ℕ) : ℕ → EReal → EReal
  | 0, x => x
  | n + 1, x => a (lo + n) * after a b lo n x + b (lo + n)

/-- Steps one after the other. -/
theorem after_add (a b : ℕ → EReal) (lo n k : ℕ) (x : EReal) :
    after a b lo (n + k) x = after a b (lo + n) k (after a b lo n x) := by
  induction k with
  | zero => rfl
  | succ k ih =>
    rw [← Nat.add_assoc]
    simp only [after]
    rw [ih, Nat.add_assoc]

/-- Steps counted from `lo`. -/
theorem after_shift (a b : ℕ → EReal) (lo n : ℕ) (x : EReal) :
    after (fun i => a (lo + i)) (fun i => b (lo + i)) 0 n x = after a b lo n x := by
  induction n with
  | zero => rfl
  | succ n ih =>
    simp only [after]
    rw [ih, Nat.zero_add]

/-- Row `t` holds the affine map of the last `s` steps up to `t`, or of all of them where there are fewer. -/
def Level (a b : ℕ → EReal) (s : ℕ) (A B : Fin 1024 → EReal) : Prop :=
  ∀ t : Fin 1024, Coef (A t) ∧ ∀ x, A t * x + B t = after a b (t.val + 1 - s) (t.val + 1 - (t.val + 1 - s)) x

/-- The steps themselves. -/
theorem Level.base {a b : ℕ → EReal} {A B : Fin 1024 → EReal} (hA : ∀ t : Fin 1024, A t = a t.val)
    (hB : ∀ t : Fin 1024, B t = b t.val) (hc : ∀ t, Coef (A t)) : Level a b 1 A B := by
  intro t
  refine ⟨hc t, fun x => ?_⟩
  have e : t.val + 1 - (t.val + 1 - 1) = 0 + 1 := by omega
  rw [e]
  simp only [after]
  rw [hA, hB]
  rfl

/-- A doubling: a row composes its map with that of the row `s` above. -/
theorem Level.double {a b : ℕ → EReal} {s : ℕ} {A B A' B' : Fin 1024 → EReal} (h : Level a b s A B) (h1 : 1 ≤ s) (h2 : s < 1024)
    (hA : ∀ t : Fin 1024, A' t = if s ≤ t.val then A t * A ⟨(t.val + 1024 - s) % 1024, Nat.mod_lt _ (by omega)⟩ else A t)
    (hB : ∀ t : Fin 1024, B' t = if s ≤ t.val then A t * B ⟨(t.val + 1024 - s) % 1024, Nat.mod_lt _ (by omega)⟩ + B t else B t) :
    Level a b (2 * s) A' B' := by
  intro t
  have ht := t.isLt
  rw [hA, hB]
  by_cases hs : s ≤ t.val
  · rw [if_pos hs, if_pos hs]
    obtain ⟨c1, m1⟩ := h t
    obtain ⟨c2, m2⟩ := h ⟨(t.val + 1024 - s) % 1024, Nat.mod_lt _ (by omega)⟩
    refine ⟨c1.mul c2, fun x => ?_⟩
    have e : ∀ p q : EReal, A t * p * x + (A t * q + B t) = A t * (p * x + q) + B t := fun p q => by
      rw [c1.dist, mul_assoc, add_assoc]
    rw [e, m2, m1]
    have v : (t.val + 1024 - s) % 1024 = t.val - s := by omega
    dsimp only
    rw [v]
    have g := after_add a b (t.val + 1 - 2 * s) (t.val - s + 1 - (t.val - s + 1 - s)) (t.val + 1 - (t.val + 1 - s)) x
    have e1 : t.val + 1 - 2 * s + (t.val - s + 1 - (t.val - s + 1 - s)) = t.val + 1 - s := by omega
    have e2 : t.val - s + 1 - (t.val - s + 1 - s) + (t.val + 1 - (t.val + 1 - s)) = t.val + 1 - (t.val + 1 - 2 * s) := by omega
    have e3 : t.val - s + 1 - s = t.val + 1 - 2 * s := by omega
    rw [e1, e2] at g
    rw [g, e3]
  · rw [if_neg hs, if_neg hs]
    have e1 : t.val + 1 - 2 * s = t.val + 1 - s := by omega
    rw [e1]
    exact h t

/-- At the last level a row holds all steps up to it. -/
theorem Level.all {a b : ℕ → EReal} {A B : Fin 1024 → EReal} (h : Level a b 1024 A B) (t : Fin 1024) (x : EReal) :
    A t * x + B t = after a b 0 (t.val + 1) x := by
  have ht := t.isLt
  have e : t.val + 1 - 1024 = 0 := by omega
  have := (h t).2 x
  rwa [e] at this

end Cert.Prompt

end
-- ==== Proof.Prompt.Loop.lean ====
/- The reference's loop over the prompt's positions: after `n` trips it holds the recurrence's first `n` states. -/
module

public import proofs.«01_k».proof.Proof.Gen.Reference7Ideal.Step
public import Idealize.ShloMosaic.Lib.Pipeline.ValueKit
public import Idealize.ShloMosaic.Lib.DynamicIndex
public import proofs.«01_k».proof.Proof.Prompt.Doubling

@[expose] public section

set_option maxRecDepth 16384

noncomputable section

namespace Cert.Prompt

open Cert.Reference7Ideal Cert.Reference7Ideal.Gen Cert.Reference7Ideal.Step
open Idealize.ShloMosaic Idealize.SL.Sem Idealize.ShloMosaic.TcCoe

/-- A lane of a sequence's rows, as a sequence of numbers. -/
def lane (X : FVec Ideal S4x4096x256 .f32) (s : Fin 4) (l : Fin 256) (n : ℕ) : EReal :=
  if h : n < 4096 then X (ix3 s ⟨n, h⟩ l) else 0

/-- The recurrence's state after `n` steps from zero. -/
def run (A B : FVec Ideal S4x4096x256 .f32) (s : Fin 4) (l : Fin 256) (n : ℕ) : EReal :=
  after (lane A s l) (lane B s l) 0 n 0

theorem run_succ (A B : FVec Ideal S4x4096x256 .f32) (s : Fin 4) (l : Fin 256) (n : ℕ) (h : n < 4096) :
    run A B s l (n + 1) = A (ix3 s ⟨n, h⟩ l) * run A B s l n + B (ix3 s ⟨n, h⟩ l) := by
  unfold run
  simp only [after, lane, Nat.zero_add, dif_pos h]

/-- The number of a trip, as a word. -/
theorem trip (n : ℕ) (h : n < 4096) : (BitVec.ofNat 32 n).toInt = (n : ℤ) := by
  rw [BitVec.toInt_ofNat', Int.bmod_eq_of_le] <;> omega

theorem not_neg (n : ℕ) (h : n < 4096) : IntOp.cmpi CmpIPredicate.slt (BitVec.ofNat 32 n) 0#32 = 0#1 := by
  change BitVec.ofBool (BitVec.slt (BitVec.ofNat 32 n) 0#32) = _
  unfold BitVec.slt
  rw [trip n h, BitVec.toInt_zero, decide_eq_false (by omega)]
  rfl

theorem same_row (n k : ℕ) (h : n < 4096) (hk : k < 4096) :
    IntOp.cmpi CmpIPredicate.eq (BitVec.ofNat 32 k) (BitVec.ofNat 32 n) = if k = n then 1#1 else 0#1 := by
  change BitVec.ofBool (BitVec.ofNat 32 k == BitVec.ofNat 32 n) = _
  by_cases e : k = n
  · subst e; simp
  · have : BitVec.ofNat 32 k ≠ BitVec.ofNat 32 n := fun q => e (by
      have := congrArg BitVec.toNat q
      simp only [BitVec.toNat_ofNat] at this
      omega)
    rw [if_neg e, beq_eq_false_iff_ne.2 this]
    rfl

/-- A row cut out at the trip's number. -/
theorem cut (X : FVec Ideal S4x4096x256 .f32) (start : Fin S4x4096x256.rank → ℤ) (n : ℕ) (h : n < 4096)
    (e : ∀ a, start a = ((![0, n, 0] : Fin 3 → ℕ) a : ℤ)) (s : Fin 4) (l : Fin 256) :
    Host.dynamicSlice S4x1x256 X start sliceFits_S4x4096x256_S4x1x256 (ix3 s 0 l) = X (ix3 s ⟨n, h⟩ l) := by
  obtain rfl : start = fun a => ((![0, n, 0] : Fin 3 → ℕ) a : ℤ) := funext e
  rw [Host.dynamicSlice_eq_extractStridedSlice S4x1x256 X _ ![0, n, 0] sliceFits_S4x4096x256_S4x1x256 ⟨rfl, fun a => by
    match a with
    | ⟨0, _⟩ => exact le_refl 4
    | ⟨1, _⟩ =>
      change n + 1 ≤ 4096
      omega
    | ⟨2, _⟩ => exact le_refl 256⟩ (fun a => rfl)]
  refine congrArg X (funext fun a => Fin.ext ?_)
  match a with
  | ⟨0, _⟩ =>
    change 0 + s.val = s.val
    omega
  | ⟨1, _⟩ => rfl
  | ⟨2, _⟩ =>
    change 0 + l.val = l.val
    omega

/-- The state of a trip. -/
theorem trip_h (n : ℕ) (h : n < 4096) (S : State Ideal) (s : Fin 4) (l : Fin 256) :
    (step n S).main_v85_4 (ix2 s l)
      = S.main_v85_0 (ix3 s ⟨n, h⟩ l) * S.main_v85_4 (ix2 s l) + S.main_v85_1 (ix3 s ⟨n, h⟩ l) := by
  have e0 : b10 n S (ix3 s 0 l) = S.main_v85_0 (ix3 s ⟨n, h⟩ l) := cut _ _ n h (fun a => by
    match a with
    | ⟨0, _⟩ => rfl
    | ⟨1, _⟩ =>
      change (b7 n S (Shape.Idx.first h_S_)).toInt = (n : ℤ)
      pointwise [b7, b3, b2, b6, b4, b5]
      rw [not_neg n h]
      exact trip n h
    | ⟨2, _⟩ => rfl) s l
  have e1 : b21 n S (ix3 s 0 l) = S.main_v85_1 (ix3 s ⟨n, h⟩ l) := cut _ _ n h (fun a => by
    match a with
    | ⟨0, _⟩ => rfl
    | ⟨1, _⟩ =>
      change (b18 n S (Shape.Idx.first h_S_)).toInt = (n : ℤ)
      pointwise [b18, b14, b13, b17, b15, b16]
      rw [not_neg n h]
      exact trip n h
    | ⟨2, _⟩ => rfl) s l
  rw [step_main_v85_4, ← e0, ← e1]
  generalize hp : b10 n S = p
  generalize hq : b21 n S = q
  unfold b23 b12 b11 b22
  rw [hp, hq]
  pointwise

/-- The states after a trip: the trip's own and those before. -/
theorem trip_steps (n : ℕ) (h : n < 4096) (S : State Ideal) (s : Fin 4) (k : Fin 4096) (l : Fin 256) :
    (step n S).main_v85_5 (ix3 s k l)
      = if k.val = n then (step n S).main_v85_4 (ix2 s l) else S.main_v85_5 (ix3 s k l) := by
  rw [step_main_v85_5, step_main_v85_4]
  generalize hp : b23 n S = p
  unfold b32 b31 b30 b29 b28 b27 b26 b25 b24
  rw [hp]
  pointwise
  change Scalar.select (IntOp.cmpi CmpIPredicate.eq (BitVec.ofNat 32 k.val) (BitVec.ofNat 32 n)) _ _ = _
  rw [same_row n k.val h k.isLt]
  split <;> rfl

/-- After `n` trips. -/
theorem looped (it : ℕ → State Ideal) (A B : FVec Ideal S4x4096x256 .f32)
    (h0 : (it 0).main_v85_0 = A) (h1 : (it 0).main_v85_1 = B) (hz : ∀ s l, (it 0).main_v85_4 (ix2 s l) = (0 : EReal))
    (hs : ∀ n, it (n + 1) = step n (it n)) (n : ℕ) (hn : n ≤ 4096) :
    (it n).main_v85_0 = A ∧ (it n).main_v85_1 = B ∧ (∀ s l, (it n).main_v85_4 (ix2 s l) = run A B s l n)
      ∧ ∀ s (k : Fin 4096) l, k.val < n → (it n).main_v85_5 (ix3 s k l) = run A B s l (k.val + 1) := by
  induction n with
  | zero => exact ⟨h0, h1, hz, fun s k l h => absurd h (Nat.not_lt_zero _)⟩
  | succ n ih =>
    obtain ⟨ha, hb, hh, hk⟩ := ih (by omega)
    have e : ∀ s l, (step n (it n)).main_v85_4 (ix2 s l) = run A B s l (n + 1) := fun s l => by
      rw [trip_h n (by omega), ha, hb, hh, run_succ A B s l n (by omega)]
    rw [hs]
    refine ⟨ha, hb, e, fun s k l h => ?_⟩
    rw [trip_steps n (by omega)]
    by_cases q : k.val = n
    · rw [if_pos q, e, q]
    · rw [if_neg q]
      exact hk s k l (by omega)

end Cert.Prompt

end
-- ==== Proof.Prompt.Results.lean ====
/- The results of the reference of the prompt's mixers, at an index. -/
module

public import proofs.«01_k».proof.Proof.Prompt.Loop

@[expose] public section

set_option maxRecDepth 16384

noncomputable section

namespace Cert.Prompt

open Cert.Reference7Ideal Cert.Reference7Ideal.Gen Cert.Reference7Ideal.Step
open Idealize.ShloMosaic Idealize.SL.Sem Idealize.ShloMosaic.TcCoe

/-- The rows of the first convolution below their history of zeros. -/
def padded (x0 : FVec Ideal S16640x2560 .f32) : FVec Ideal S4x4098x256 .f32 :=
  concatenate S4x4098x256 1 [⟨S4x2x256, (broadcastInDim S4x2x256 ![] bcast_S_S4x2x256 (constant S_ .f32 0x00000000#32))⟩, ⟨S4x4096x256, (mulf (extractStridedSlice S4x4096x256 ![0, 0, 256] (shapeCast _ (extractStridedSlice S16384x1024 ![0, 0] (x0) slices_S16640x2560_S16384x1024_0_0) shapeCasts_S16384x1024_S4x4096x1024) slices_S4x4096x1024_S4x4096x256_0_0_256) (extractStridedSlice S4x4096x256 ![0, 0, 512] (shapeCast _ (extractStridedSlice S16384x1024 ![0, 0] (x0) slices_S16640x2560_S16384x1024_0_0) shapeCasts_S16384x1024_S4x4096x1024) slices_S4x4096x1024_S4x4096x256_0_0_512))⟩] concatenates_S4x2x256_S4x4096x256_S4x4098x256_d1

/-- The gated short convolution. -/
def short (x0 : FVec Ideal S16640x2560 .f32) (x1 : FVec Ideal S3x256 .f32) : FVec Ideal S4x4096x256 .f32 :=
  mulf (extractStridedSlice S4x4096x256 ![0, 0, 0] (shapeCast _ (extractStridedSlice S16384x1024 ![0, 0] (x0) slices_S16640x2560_S16384x1024_0_0) shapeCasts_S16384x1024_S4x4096x1024) slices_S4x4096x1024_S4x4096x256_0_0_0) (addf (addf (mulf (extractStridedSlice S4x4096x256 ![0, 0, 0] (padded x0) slices_S4x4098x256_S4x4096x256_0_0_0) (broadcastInDim S4x4096x256 ![0, 1, 2] bcast_S1x1x256_S4x4096x256_0_1_2 (broadcastInDim S1x1x256 ![2] bcast_S256_S1x1x256_2 (shapeCast _ (extractStridedSlice S1x256 ![0, 0] (x1) slices_S3x256_S1x256_0_0) shapeCasts_S1x256_S256)))) (mulf (extractStridedSlice S4x4096x256 ![0, 1, 0] (padded x0) slices_S4x4098x256_S4x4096x256_0_1_0) (broadcastInDim S4x4096x256 ![0, 1, 2] bcast_S1x1x256_S4x4096x256_0_1_2 (broadcastInDim S1x1x256 ![2] bcast_S256_S1x1x256_2 (shapeCast _ (extractStridedSlice S1x256 ![1, 0] (x1) slices_S3x256_S1x256_1_0) shapeCasts_S1x256_S256))))) (mulf (extractStridedSlice S4x4096x256 ![0, 2, 0] (padded x0) slices_S4x4098x256_S4x4096x256_0_2_0) (broadcastInDim S4x4096x256 ![0, 1, 2] bcast_S1x1x256_S4x4096x256_0_1_2 (broadcastInDim S1x1x256 ![2] bcast_S256_S1x1x256_2 (shapeCast _ (extractStridedSlice S1x256 ![2, 0] (x1) slices_S3x256_S1x256_2_0) shapeCasts_S1x256_S256)))))

theorem rows_eq (S : State Ideal) (x0 : FVec Ideal S16640x2560 .f32) (x1 : FVec Ideal S3x256 .f32) :
    R_main_v121 S x0 x1 = concatenate S16640x512 0 [⟨S16384x512, (shapeCast _ (concatenate S4x4096x512 2
      [⟨S4x4096x256, short x0 x1⟩, ⟨S4x4096x256, S.main_v85_5⟩] concatenates_S4x4096x256_S4x4096x256_S4x4096x512_d2)
      shapeCasts_S4x4096x512_S16384x512)⟩, ⟨S256x512, (broadcastInDim S256x512 ![] bcast_S_S256x512 (constant S_ .f32 0x00000000#32))⟩]
      concatenates_S16384x512_S256x512_S16640x512_d0 := rfl

/-- The mixed rows, at a row of the prompt. -/
theorem rows_at (S : State Ideal) (x0 : FVec Ideal S16640x2560 .f32) (x1 : FVec Ideal S3x256 .f32) (s : Fin 4) (k : Fin 4096)
    (l : Fin 512) (n : Fin 16640) (hn : n.val = 4096 * s.val + k.val) :
    R_main_v121 S x0 x1 (ix2 n l) = if h : l.val < 256 then short x0 x1 (ix3 s k ⟨l.val, h⟩)
      else S.main_v85_5 (ix3 s k ⟨l.val - 256, by omega⟩) := by
  rw [rows_eq]
  generalize short x0 x1 = p
  generalize S.main_v85_5 = q
  have hk := k.isLt
  refine (concatenate_pair_apply_left (0 : Fin S16640x512.rank) (shapeCast S16384x512 (concatenate S4x4096x512 2
      [⟨S4x4096x256, p⟩, ⟨S4x4096x256, q⟩] concatenates_S4x4096x256_S4x4096x256_S4x4096x512_d2)
      shapeCasts_S4x4096x512_S16384x512) (broadcastInDim S256x512 ![] bcast_S_S256x512 (constant (F := Ideal) S_ .f32 0x00000000#32))
    _ (ix2 n l) rfl (ix2 ⟨4096 * s.val + k.val, by omega⟩ l) (fun b => ?_)).trans ?_
  · match b with
    | ⟨0, _⟩ => exact hn.symm
    | ⟨1, _⟩ => rfl
  · refine (shapeCast_apply _ shapeCasts_S4x4096x512_S16384x512 (ix2 ⟨4096 * s.val + k.val, by omega⟩ l) (ix3 s k l) ?_).trans ?_
    · rw [Shape.rowMajor_val_three, Shape.rowMajor_val_two]
      change (s.val * 4096 + k.val) * 512 + l.val = (4096 * s.val + k.val) * 512 + l.val
      omega
    · pointwise

/-- The mixed rows after the prompt are zeros. -/
theorem rows_after (S : State Ideal) (x0 : FVec Ideal S16640x2560 .f32) (x1 : FVec Ideal S3x256 .f32)
    (l : Fin 512) (n : Fin 16640) (hn : 16384 ≤ n.val) : R_main_v121 S x0 x1 (ix2 n l) = (0 : EReal) := by
  rw [rows_eq]
  generalize short x0 x1 = p
  generalize S.main_v85_5 = q
  refine (concatenate_pair_apply_right (0 : Fin S16640x512.rank) (shapeCast S16384x512 (concatenate S4x4096x512 2
      [⟨S4x4096x256, p⟩, ⟨S4x4096x256, q⟩] concatenates_S4x4096x256_S4x4096x256_S4x4096x512_d2)
      shapeCasts_S4x4096x512_S16384x512) (broadcastInDim S256x512 ![] bcast_S_S256x512 (constant (F := Ideal) S_ .f32 0x00000000#32))
    _ (ix2 n l) rfl rfl (ix2 ⟨n.val - 16384, by omega⟩ l) (fun b hb => ?_) ?_).trans ?_
  · match b with
    | ⟨0, _⟩ => exact absurd rfl hb
    | ⟨1, _⟩ => rfl
  · change n.val - 16384 + 16384 = n.val
    omega
  · pointwise

/-- The first history. -/
theorem kept_a (S : State Ideal) (x0 : FVec Ideal S16640x2560 .f32) (s : Fin 4) (q : Fin 8) (l : Fin 256) :
    R_main_v122 S x0 (ix3 s q l) = padded x0 (ix3 s ⟨4090 + q.val, by omega⟩ l) := by
  change extractStridedSlice S4x8x256 ![0, 4090, 0] (padded x0) slices_S4x4098x256_S4x8x256_0_4090_0 (ix3 s q l) = _
  generalize padded x0 = p
  pointwise

/-- The second history. -/
theorem kept_b (S : State Ideal) (x0 : FVec Ideal S16640x2560 .f32) (x2 : FVec Ideal S4x256 .f32) (x3 : FVec Ideal S256 .f32)
    (x4 : FVec Ideal S4x64x64 .f32) (x5 : FVec Ideal S4x64 .f32) (x6 : FVec Ideal S4x64x64 .f32) (x7 : FVec Ideal S4x64 .f32)
    (x8 : FVec Ideal S256 .f32) (s : Fin 4) (q : Fin 8) (l : Fin 256) :
    R_main_v123 S x0 (ix3 s q l) = A_main_v8 (F := Ideal) x0 x2 x3 x4 x5 x6 x7 x8 (ix3 s ⟨4091 + q.val, by omega⟩ l) := by
  change extractStridedSlice S4x8x256 ![0, 4091, 0] (A_main_v8 (F := Ideal) x0 x2 x3 x4 x5 x6 x7 x8)
    slices_S4x4099x256_S4x8x256_0_4091_0 (ix3 s q l) = _
  generalize A_main_v8 (F := Ideal) x0 x2 x3 x4 x5 x6 x7 x8 = p
  pointwise

/-- The last state, stored eight times. -/
theorem kept_h (S : State Ideal) (s : Fin 4) (q : Fin 8) (l : Fin 256) : R_main_v125 S (ix3 s q l) = S.main_v85_4 (ix2 s l) := by
  unfold R_main_v125
  pointwise

end Cert.Prompt

end
-- ==== Proof.Prompt.Tile.lean ====
/- The rows a tile of the prompt reads over the rows before it. -/
module

public import proofs.«01_k».proof.Proof.Gen.Kernel7Ideal.Value
public import proofs.«01_k».proof.Proof.Prompt.Results
public import Idealize.ShloMosaic.Lib.Pipeline.ValueKit

@[expose] public section

set_option maxRecDepth 16384

noncomputable section

namespace Cert.Kernel7Ideal.Prompt

open Cert.Kernel7Ideal Cert.Kernel7Ideal.Gen Cert.Prompt
open Idealize.ShloMosaic Idealize.SL.Sem Idealize.ShloMosaic.TcCoe
open Cert.Reference7Ideal.Step

variable (m : (ℓ : Loc nD τ sig) → Buf (Elt Ideal) ℓ)

/-- The windows' block indices. -/
theorem idx : ∀ t : Fin cfg0.N, win0_0.index t = ![t.val, 0] ∧ win0_1.index t = ![t.val / 4, 0, 0] ∧
    win0_2.index t = ![t.val / 4, 0, 0] ∧ win0_3.index t = ![t.val / 4, 0, 0] ∧ win0_4.index t = ![0, 0] ∧
    win0_5.index t = ![0, 0] ∧ win0_6.index t = ![0, 0] ∧ win0_7.index t = ![0, 0] ∧ win0_8.index t = ![0, 0] ∧
    win0_9.index t = ![0, 0] ∧ win0_10.index t = ![0, 0] ∧ win0_11.index t = ![0, 0] ∧ win0_12.index t = ![t.val, 0] ∧
    win0_13.index t = ![t.val / 4, 0, 0] ∧ win0_14.index t = ![t.val / 4, 0, 0] ∧ win0_15.index t = ![t.val / 4, 0, 0] :=
  (by decide +kernel : ∀ t : Fin grid0.N, _)

/-- There are 16 points. -/
theorem point_lt (t : Fin cfg0.N) : t.val < 16 := lt_of_lt_of_eq t.isLt (by decide +kernel)

/-- The projection's rows of a point. -/
theorem feed (c : Dev nD) (t : Fin cfg0.N) (r : Fin 1024) (l : Fin 1024) : X0_0 m c t (ix2 r l)
    = m ((c : Thread nD τ).loc main_arg0) (ix2 ⟨1024 * t.val + r.val, by have := point_lt t; omega⟩ ⟨l.val, by omega⟩) := by
  unfold X0_0 Pipeline.Window.fill
  rw [dif_pos (moved0_0 t _)]
  blk_point [iblk, V, idx t]

/-- The sequence of a point. -/
def sq (t : Fin cfg0.N) : Fin 4 := ⟨t.val / 4, by have := point_lt t; omega⟩

/-- The rows of the second convolution below their history of zeros. -/
def fed (c : Dev nD) : FVec Ideal Cert.Reference7Ideal.S4x4099x256 .f32 :=
  A_main_v8 (F := Ideal) (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8))

/-- The first buffer's rows of a point, from row `o - 8` of the tile on. -/
def joined_a (c : Dev nD) (t : Fin cfg0.N) (o : ℕ) (ho : o ≤ 8) (h6 : 6 ≤ o) : FVec Ideal S1024x256 .f32 :=
  fun j : S1024x256.Idx => padded (m ((c : Thread nD τ).loc main_arg0))
    (ix3 (sq t) ⟨1024 * (t.val % 4) + (o - 6) + (j 0).val, by have := (j 0).isLt; dsimp at this; omega⟩ (j 1))

/-- The second buffer's. -/
def joined_b (c : Dev nD) (t : Fin cfg0.N) (o : ℕ) (ho : o ≤ 8) (h5 : 5 ≤ o) : FVec Ideal S1024x256 .f32 :=
  fun j : S1024x256.Idx => fed m c
    (ix3 (sq t) ⟨1024 * (t.val % 4) + (o - 5) + (j 0).val, by have := (j 0).isLt; dsimp at this; omega⟩ (j 1))

/-- The gated rows of a point. -/
theorem own_a (c : Dev nD) (t : Fin cfg0.N) :
    k0_pay12 (F := Ideal) (View.ld (X0_0 m c t) (Rect.unit ![0, 256] ![1024, 256] inb_S1024x1024_S1024x256_0_256))
      (View.ld (X0_0 m c t) (Rect.unit ![0, 512] ![1024, 256] inb_S1024x1024_S1024x256_0_512))
      = joined_a m c t 8 (by omega) (by omega) := by
  funext j
  idx_vars j
  pointwise [k0_pay12, k0_pay11, feed, joined_a, padded]
  rw [dif_neg (by omega)]
  pointwise
  blk_point [sq]

/-- The rows the recurrence is fed with. -/
theorem own_b (c : Dev nD) (t : Fin cfg0.N) :
    k0_pay14 (F := Ideal) (View.ld (X0_0 m c t) (Rect.unit ![0, 768] ![1024, 256] inb_S1024x1024_S1024x256_0_768))
      = joined_b m c t 8 (by omega) (by omega) := by
  funext j
  idx_vars j
  pointwise [k0_pay14, feed, joined_b, fed, A_main_v8, A_main_v5, A_main_v1, A_main_v0]
  rw [dif_neg (by omega)]
  pointwise
  blk_point [sq]

/-- The rows before the first are zeros. -/
theorem none_a (c : Dev nD) (s : Fin 4) (k : Fin 4098) (l : Fin 256) (hk : k.val < 2) :
    padded (m ((c : Thread nD τ).loc main_arg0)) (ix3 s k l) = (0 : EReal) := by
  pointwise [padded]
  rw [dif_pos (by omega)]

theorem none_b (c : Dev nD) (s : Fin 4) (k : Fin 4099) (l : Fin 256) (hk : k.val < 3) : fed m c (ix3 s k l) = (0 : EReal) := by
  pointwise [fed, A_main_v8]
  rw [dif_pos (by omega)]
  pointwise [K_main_v7, K_main_cst]

end Cert.Kernel7Ideal.Prompt

end
-- ==== Proof.Prompt.Buffers.lean ====
/- The buffers of a tile: the rows of the tile stored below eight rows of history. -/
module

public import proofs.«01_k».proof.Proof.Gen.Kernel7Ideal.Frame
public import Idealize.ShloMosaic.Lib.Pipeline.ValueKit
public import Idealize.ShloMosaic.Lib.WritesUnit

@[expose] public section

set_option maxRecDepth 16384

noncomputable section

namespace Cert.Kernel7Ideal.Prompt

open Cert.Kernel7Ideal Cert.Kernel7Ideal.Gen
open Idealize.ShloMosaic Idealize.SL.Sem Idealize.ShloMosaic.TcCoe

/-- Rows stored in two parts: the first eight are the history. -/
theorem parts (w : S8x256.Idx → Elt Ideal .f32) (u : S1024x256.Idx → Elt Ideal .f32) (z : S1032x256.Idx) :
    View.canon [(⟨Rect.unit ![8, 0] ![1024, 256] inb_S1032x256_S1024x256_8_0, u⟩ : View.Piece (Elt Ideal) S1032x256 .f32),
        ⟨Rect.unit ![0, 0] ![8, 256] inb_S1032x256_S8x256_0_0, w⟩] z
      = if h : (z 0).val < 8 then w (ix2 ⟨(z 0).val, h⟩ (z 1))
        else u (ix2 ⟨(z 0).val - 8, by have := (z 0).isLt; dsimp at this; omega⟩ (z 1)) := by
  have hz : ∃ p ∈ ([(⟨Rect.unit ![8, 0] ![1024, 256] inb_S1032x256_S1024x256_8_0, u⟩ : View.Piece (Elt Ideal) S1032x256 .f32),
        ⟨Rect.unit ![0, 0] ![8, 256] inb_S1032x256_S8x256_0_0, w⟩] : List (View.Piece (Elt Ideal) S1032x256 .f32)), z ∈ p.1.set := by
    have h0 := (z 0).isLt
    have h1 := (z 1).isLt
    dsimp at h0 h1
    by_cases h : (z 0).val < 8
    · refine ⟨⟨Rect.unit ![0, 0] ![8, 256] inb_S1032x256_S8x256_0_0, w⟩, List.mem_cons_of_mem _ List.mem_cons_self,
        ?_⟩
      rw [Rect.mem_set_unit]
      intro a
      match a with
      | ⟨0, _⟩ => exact ⟨Nat.zero_le _, by change (z 0).val < 0 + 8; omega⟩
      | ⟨1, _⟩ => exact ⟨Nat.zero_le _, by change (z 1).val < 0 + 256; omega⟩
    · refine ⟨⟨Rect.unit ![8, 0] ![1024, 256] inb_S1032x256_S1024x256_8_0, u⟩, List.mem_cons_self, ?_⟩
      rw [Rect.mem_set_unit]
      intro a
      match a with
      | ⟨0, _⟩ => exact ⟨by change 8 ≤ (z 0).val; omega, by change (z 0).val < 8 + 1024; omega⟩
      | ⟨1, _⟩ => exact ⟨Nat.zero_le _, by change (z 1).val < 0 + 256; omega⟩
  canon_tiles x hx using hz
  · rw [dif_neg (by omega)]
    refine congrArg u ?_
    blk_ext
  · rw [dif_pos (by omega)]
    refine congrArg w ?_
    blk_ext

/-- Rows read at offset `o` of the two parts. -/
theorem fresh {sig : RefSig} {κ : Kind} {sp : Space} (v : View sig κ sp S1032x256 .f32) (w : S8x256.Idx → Elt Ideal .f32)
    (u : S1024x256.Idx → Elt Ideal .f32)
    (o : ℕ) (io : ∀ a, (![o, 0] : Fin 2 → ℕ) a + (![1024, 256] : Fin 2 → ℕ) a ≤ S1032x256.size a) (ho : o ≤ 8) :
    v.readCov [(⟨Rect.unit ![8, 0] ![1024, 256] inb_S1032x256_S1024x256_8_0, u⟩ : View.Piece (Elt Ideal) S1032x256 .f32),
        ⟨Rect.unit ![0, 0] ![8, 256] inb_S1032x256_S8x256_0_0, w⟩] (Rect.unit (s := S1032x256) ![o, 0] ![1024, 256] io).toLoadRect
      = fun j : S1024x256.Idx => if h : o + (j 0).val < 8 then w (ix2 ⟨o + (j 0).val, h⟩ (j 1))
        else u (ix2 ⟨o + (j 0).val - 8, by have := (j 0).isLt; dsimp at this; omega⟩ (j 1)) := by
  rw [View.readCov_eq_canon']
  funext j
  have h0 : (((Rect.unit (s := S1032x256) ![o, 0] ![1024, 256] io).toLoadRect.idx j) 0 : ℕ) = o + (j 0).val := by
    change o + 1 * (j 0).val = _
    omega
  have h1 : (((Rect.unit (s := S1032x256) ![o, 0] ![1024, 256] io).toLoadRect.idx j) 1 : ℕ) = (j 1).val := by
    change 0 + 1 * (j 1).val = _
    omega
  rw [parts]
  by_cases h : o + (j 0).val < 8
  · rw [dif_pos (by omega), dif_pos h]
    refine congrArg w ?_
    blk_ext
  · rw [dif_neg (by omega), dif_neg h]
    refine congrArg u ?_
    blk_ext

/-- Rows read at offset `o` of a buffer whose last 1024 rows are stored over what it held. -/
theorem carried (M : Memref sig .tc .vmem S1032x256 .f32) (hM : M.IsWhole) (X : S1032x256.Idx → Elt Ideal .f32)
    (u : S1024x256.Idx → Elt Ideal .f32)
    (o : ℕ) (io : ∀ a, (![o, 0] : Fin 2 → ℕ) a + (![1024, 256] : Fin 2 → ℕ) a ≤ S1032x256.size a) (ho : o ≤ 8) :
    View.ld (View.read (Elt Ideal) M.view (M.view.writes (Elt Ideal) (hM.unread X)
        [(⟨Rect.unit ![8, 0] ![1024, 256] inb_S1032x256_S1024x256_8_0, u⟩ : View.Piece (Elt Ideal) S1032x256 .f32)]))
        (Rect.unit (s := S1032x256) ![o, 0] ![1024, 256] io)
      = fun j : S1024x256.Idx => if h : o + (j 0).val < 8 then X (ix2 ⟨o + (j 0).val, by omega⟩ (j 1))
        else u (ix2 ⟨o + (j 0).val - 8, by have := (j 0).isLt; dsimp at this; omega⟩ (j 1)) := by
  funext j
  have hj := (j 0).isLt
  dsimp at hj
  have e : View.ld (View.read (Elt Ideal) M.view (M.view.writes (Elt Ideal) (hM.unread X)
        [(⟨Rect.unit ![8, 0] ![1024, 256] inb_S1032x256_S1024x256_8_0, u⟩ : View.Piece (Elt Ideal) S1032x256 .f32)]))
        (Rect.unit (s := S1032x256) ![o, 0] ![1024, 256] io) j
      = View.read (Elt Ideal) M.view (M.view.writes (Elt Ideal) (hM.unread X)
        [(⟨Rect.unit ![8, 0] ![1024, 256] inb_S1032x256_S1024x256_8_0, u⟩ : View.Piece (Elt Ideal) S1032x256 .f32)])
        (ix2 ⟨o + (j 0).val, by omega⟩ (j 1)) := by
    refine congrArg (View.read (Elt Ideal) M.view _) (funext fun a => Fin.ext ?_)
    match a with
    | ⟨0, _⟩ =>
      change o + 1 * (j 0).val = o + (j 0).val
      omega
    | ⟨1, _⟩ =>
      change 0 + 1 * (j 1).val = (j 1).val
      omega
  rw [e]
  by_cases h : o + (j 0).val < 8
  · rw [dif_pos h, View.read_writes_cons_unit_of_not_mem _ _ _ _ _ _ rfl 0 (Or.inl h), View.writes_nil, hM.read_unread]
  · rw [dif_neg h]
    refine View.read_writes_cons_unit_of_mem _ _ _ _ _ _ _ rfl fun a => ?_
    match a with
    | ⟨0, _⟩ =>
      change o + (j 0).val = 8 + (o + (j 0).val - 8)
      omega
    | ⟨1, _⟩ =>
      change (j 1).val = 0 + (j 1).val
      omega

/-- The last eight of the rows stored below the first eight. -/
theorem ends {sig : RefSig} {κ : Kind} {sp : Space} (v : View sig κ sp S1032x256 .f32) (u : S1024x256.Idx → Elt Ideal .f32)
    (L : List (View.Piece (Elt Ideal) S1032x256 .f32)) :
    v.readCov ((⟨Rect.unit ![8, 0] ![1024, 256] inb_S1032x256_S1024x256_8_0, u⟩ : View.Piece (Elt Ideal) S1032x256 .f32) :: L)
        (Rect.unit (s := S1032x256) ![1024, 0] ![8, 256] inb_S1032x256_S8x256_1024_0).toLoadRect
      = fun j : S8x256.Idx => u (ix2 ⟨1016 + (j 0).val, by have := (j 0).isLt; dsimp at this; omega⟩ (j 1)) := by
  rw [View.readCov_eq_canon']
  funext j
  have e : (Rect.unit (s := S1032x256) ![1024, 0] ![8, 256] inb_S1032x256_S8x256_1024_0).toLoadRect.idx j
      = (Rect.unit (s := S1032x256) ![8, 0] ![1024, 256] inb_S1032x256_S1024x256_8_0).emb
        (ix2 ⟨1016 + (j 0).val, by have := (j 0).isLt; dsimp at this; omega⟩ (j 1)) := by
    funext a
    apply Fin.ext
    match a with
    | ⟨0, _⟩ =>
      change 1024 + 1 * (j 0).val = 8 + 1 * (1016 + (j 0).val)
      omega
    | ⟨1, _⟩ => rfl
  rw [e]
  exact View.canon_cons_emb _ _ _ _

/-- The first eight rows after they were stored. -/
theorem first_rows (p : S8x256.Idx → Elt Ideal .f32) (L : List (View.Piece (Elt Ideal) S1032x256 .f32)) (q : Fin 8) (l : Fin 256) :
    View.canon ((⟨Rect.unit ![0, 0] ![8, 256] inb_S1032x256_S8x256_0_0, p⟩ : View.Piece (Elt Ideal) S1032x256 .f32) :: L)
      (ix2 ⟨q.val, by omega⟩ l) = p (ix2 q l) := by
  have e : (ix2 ⟨q.val, by omega⟩ l : S1032x256.Idx) = (Rect.unit (s := S1032x256) ![0, 0] ![8, 256] inb_S1032x256_S8x256_0_0).emb (ix2 q l) := by
    funext a
    apply Fin.ext
    match a with
    | ⟨0, _⟩ =>
      change q.val = 0 + 1 * q.val
      omega
    | ⟨1, _⟩ =>
      change l.val = 0 + 1 * l.val
      omega
  rw [e]
  exact View.canon_cons_emb _ _ _ _

end Cert.Kernel7Ideal.Prompt

end
-- ==== Proof.Prompt.History.lean ====
/- The histories a tile of the prompt finds: zeros at a sequence's first tile, the last rows of the tile before elsewhere. -/
module

public import proofs.«01_k».proof.Proof.Prompt.Tile
public import proofs.«01_k».proof.Proof.Prompt.Buffers

@[expose] public section

set_option maxRecDepth 16384

noncomputable section

namespace Cert.Kernel7Ideal.Prompt

open Cert.Kernel7Ideal Cert.Kernel7Ideal.Gen Cert.Prompt
open Idealize.ShloMosaic Idealize.SL.Sem Idealize.ShloMosaic.TcCoe
open Cert.Reference7Ideal.Step

variable (m : (ℓ : Loc nD τ sig) → Buf (Elt Ideal) ℓ)

theorem last_rows_a (x : FVec Ideal S8x256 .f32) (j : S8x256.Idx) : k0_pay2 (F := Ideal) x j = x j := by
  idx_vars j
  pointwise [k0_pay2]

/-- The first buffer keeps the point's last eight rows. -/
theorem left_a (c : Dev nD) (t : Fin cfg0.N) (q : Fin 8) (l : Fin 256) :
    (outsAt0 m c t.val t.isLt).2.2.2.2.1 (ix2 ⟨q.val, by omega⟩ l)
      = joined_a m c t 8 (by omega) (by omega) (ix2 ⟨1016 + q.val, by omega⟩ l) := by
  by_cases h : t.val % 4 = 0
  · rw [outsAt0_A m c t h]
    frame_out
    rw [first_rows, ends, last_rows_a]
    exact congrFun (own_a m c t) _
  · rw [outsAt0_B m c t h]
    frame_out
    rw [first_rows, ends, last_rows_a]
    exact congrFun (own_a m c t) _

theorem last_rows_b (x : FVec Ideal S8x256 .f32) (j : S8x256.Idx) : k0_pay3 (F := Ideal) x j = x j := by
  idx_vars j
  pointwise [k0_pay3]

/-- The second buffer keeps the point's last eight rows. -/
theorem left_b (c : Dev nD) (t : Fin cfg0.N) (q : Fin 8) (l : Fin 256) :
    (outsAt0 m c t.val t.isLt).2.2.2.2.2.1 (ix2 ⟨q.val, by omega⟩ l)
      = joined_b m c t 8 (by omega) (by omega) (ix2 ⟨1016 + q.val, by omega⟩ l) := by
  by_cases h : t.val % 4 = 0
  · rw [outsAt0_A m c t h]
    frame_out
    rw [first_rows, ends, last_rows_b]
    exact congrFun (own_b m c t) _
  · rw [outsAt0_B m c t h]
    frame_out
    rw [first_rows, ends, last_rows_b]
    exact congrFun (own_b m c t) _

/-- The histories of a sequence's first tile are zeros. -/
theorem zero_a (c : Dev nD) (t : Fin cfg0.N) (j : S8x256.Idx) : k0_pay8 (F := Ideal) (iblk m c 1 t) j = (0 : EReal) := by
  idx_vars j
  pointwise [k0_pay8]
  have e : (win0_1.blk t).view.emb (ix3 0 j0 j1) = ix3 (sq t) j0 j1 := by blk_ext [idx t, sq]
  blk_simp [iblk]
  rw [e]
  entry_read
  pointwise

theorem zero_b (c : Dev nD) (t : Fin cfg0.N) (j : S8x256.Idx) : k0_pay9 (F := Ideal) (iblk m c 2 t) j = (0 : EReal) := by
  idx_vars j
  pointwise [k0_pay9]
  have e : (win0_2.blk t).view.emb (ix3 0 j0 j1) = ix3 (sq t) j0 j1 := by blk_ext [idx t, sq]
  blk_simp [iblk]
  rw [e]
  entry_read
  pointwise

theorem zero_h (c : Dev nD) (t : Fin cfg0.N) (j : S8x256.Idx) : k0_pay10 (F := Ideal) (iblk m c 3 t) j = (0 : EReal) := by
  idx_vars j
  pointwise [k0_pay10]
  have e : (win0_3.blk t).view.emb (ix3 0 j0 j1) = ix3 (sq t) j0 j1 := by blk_ext [idx t, sq]
  blk_simp [iblk]
  rw [e]
  entry_read
  pointwise

/-- The rows read at offset `o` of the first buffer, at a sequence's first tile. -/
theorem first_a {sig : RefSig} {κ : Kind} {sp : Space} (v : View sig κ sp S1032x256 .f32) (c : Dev nD) (t : Fin cfg0.N) (o : ℕ)
    (io : ∀ a, (![o, 0] : Fin 2 → ℕ) a + (![1024, 256] : Fin 2 → ℕ) a ≤ S1032x256.size a) (ho : o ≤ 8) (h6 : 6 ≤ o)
    (ht : t.val % 4 = 0) :
    v.readCov [(⟨Rect.unit ![8, 0] ![1024, 256] inb_S1032x256_S1024x256_8_0,
          k0_pay12 (F := Ideal) (View.ld (X0_0 m c t) (Rect.unit ![0, 256] ![1024, 256] inb_S1024x1024_S1024x256_0_256))
            (View.ld (X0_0 m c t) (Rect.unit ![0, 512] ![1024, 256] inb_S1024x1024_S1024x256_0_512))⟩ : View.Piece (Elt Ideal) S1032x256 .f32),
        ⟨Rect.unit ![0, 0] ![8, 256] inb_S1032x256_S8x256_0_0, k0_pay8 (F := Ideal) (iblk m c 1 t)⟩]
        (Rect.unit (s := S1032x256) ![o, 0] ![1024, 256] io).toLoadRect
      = joined_a m c t o ho h6 := by
  rw [fresh v _ _ o io ho, own_a]
  funext j
  by_cases h : o + (j 0).val < 8
  · rw [dif_pos h, zero_a]
    exact (none_a m c _ _ _ (by dsimp only; omega)).symm
  · rw [dif_neg h]
    unfold joined_a
    refine congrArg (padded (m ((c : Thread nD τ).loc main_arg0))) ?_
    blk_ext

/-- The rows read at offset `o` of the first buffer, at a later tile. -/
theorem later_a (M : Memref sig .tc .vmem S1032x256 .f32) (hM : M.IsWhole) (c : Dev nD) (t : Fin cfg0.N) (o : ℕ)
    (io : ∀ a, (![o, 0] : Fin 2 → ℕ) a + (![1024, 256] : Fin 2 → ℕ) a ≤ S1032x256.size a) (ho : o ≤ 8) (h6 : 6 ≤ o)
    (ht : ¬ t.val % 4 = 0) :
    View.ld (View.read (Elt Ideal) M.view (M.view.writes (Elt Ideal)
        (hM.unread (outsAt0 m c (t.val - 1) (Nat.lt_of_le_of_lt (Nat.sub_le _ _) t.isLt)).2.2.2.2.1)
        [(⟨Rect.unit ![8, 0] ![1024, 256] inb_S1032x256_S1024x256_8_0,
          k0_pay12 (F := Ideal) (View.ld (X0_0 m c t) (Rect.unit ![0, 256] ![1024, 256] inb_S1024x1024_S1024x256_0_256))
            (View.ld (X0_0 m c t) (Rect.unit ![0, 512] ![1024, 256] inb_S1024x1024_S1024x256_0_512))⟩ : View.Piece (Elt Ideal) S1032x256 .f32)]))
        (Rect.unit (s := S1032x256) ![o, 0] ![1024, 256] io)
      = joined_a m c t o ho h6 := by
  rw [carried M hM _ _ o io ho, own_a]
  funext j
  by_cases h : o + (j 0).val < 8
  · rw [dif_pos h]
    refine (left_a m c ⟨t.val - 1, Nat.lt_of_le_of_lt (Nat.sub_le _ _) t.isLt⟩ ⟨o + (j 0).val, h⟩ (j 1)).trans ?_
    unfold joined_a
    refine congrArg (padded (m ((c : Thread nD τ).loc main_arg0))) ?_
    blk_ext [sq]
  · rw [dif_neg h]
    unfold joined_a
    refine congrArg (padded (m ((c : Thread nD τ).loc main_arg0))) ?_
    blk_ext

/-- The rows read at offset `o` of the second buffer, at a sequence's first tile. -/
theorem first_b {sig : RefSig} {κ : Kind} {sp : Space} (v : View sig κ sp S1032x256 .f32) (c : Dev nD) (t : Fin cfg0.N) (o : ℕ)
    (io : ∀ a, (![o, 0] : Fin 2 → ℕ) a + (![1024, 256] : Fin 2 → ℕ) a ≤ S1032x256.size a) (ho : o ≤ 8) (h5 : 5 ≤ o)
    (ht : t.val % 4 = 0) :
    v.readCov [(⟨Rect.unit ![8, 0] ![1024, 256] inb_S1032x256_S1024x256_8_0,
          k0_pay14 (F := Ideal) (View.ld (X0_0 m c t) (Rect.unit ![0, 768] ![1024, 256] inb_S1024x1024_S1024x256_0_768))⟩ : View.Piece (Elt Ideal) S1032x256 .f32),
        ⟨Rect.unit ![0, 0] ![8, 256] inb_S1032x256_S8x256_0_0, k0_pay9 (F := Ideal) (iblk m c 2 t)⟩]
        (Rect.unit (s := S1032x256) ![o, 0] ![1024, 256] io).toLoadRect
      = joined_b m c t o ho h5 := by
  rw [fresh v _ _ o io ho, own_b]
  funext j
  by_cases h : o + (j 0).val < 8
  · rw [dif_pos h, zero_b]
    exact (none_b m c _ _ _ (by dsimp only; omega)).symm
  · rw [dif_neg h]
    unfold joined_b
    refine congrArg (fed m c) ?_
    blk_ext

/-- The rows read at offset `o` of the second buffer, at a later tile. -/
theorem later_b (M : Memref sig .tc .vmem S1032x256 .f32) (hM : M.IsWhole) (c : Dev nD) (t : Fin cfg0.N) (o : ℕ)
    (io : ∀ a, (![o, 0] : Fin 2 → ℕ) a + (![1024, 256] : Fin 2 → ℕ) a ≤ S1032x256.size a) (ho : o ≤ 8) (h5 : 5 ≤ o)
    (ht : ¬ t.val % 4 = 0) :
    View.ld (View.read (Elt Ideal) M.view (M.view.writes (Elt Ideal)
        (hM.unread (outsAt0 m c (t.val - 1) (Nat.lt_of_le_of_lt (Nat.sub_le _ _) t.isLt)).2.2.2.2.2.1)
        [(⟨Rect.unit ![8, 0] ![1024, 256] inb_S1032x256_S1024x256_8_0,
          k0_pay14 (F := Ideal) (View.ld (X0_0 m c t) (Rect.unit ![0, 768] ![1024, 256] inb_S1024x1024_S1024x256_0_768))⟩ : View.Piece (Elt Ideal) S1032x256 .f32)]))
        (Rect.unit (s := S1032x256) ![o, 0] ![1024, 256] io)
      = joined_b m c t o ho h5 := by
  rw [carried M hM _ _ o io ho, own_b]
  funext j
  by_cases h : o + (j 0).val < 8
  · rw [dif_pos h]
    refine (left_b m c ⟨t.val - 1, Nat.lt_of_le_of_lt (Nat.sub_le _ _) t.isLt⟩ ⟨o + (j 0).val, h⟩ (j 1)).trans ?_
    unfold joined_b
    refine congrArg (fed m c) ?_
    blk_ext [sq]
  · rw [dif_neg h]
    unfold joined_b
    refine congrArg (fed m c) ?_
    blk_ext

end Cert.Kernel7Ideal.Prompt

end
-- ==== Proof.Prompt.Gates.lean ====
/- The convolutions and the gates of a tile of the prompt: the reference's, at the tile's rows. -/
module

public import proofs.«01_k».proof.Proof.Prompt.Tile
public import proofs.«01_k».proof.Proof.Mixers.Gates
public import proofs.«01_k».proof.Proof.Mixers.Math

@[expose] public section

set_option maxRecDepth 16384

noncomputable section

namespace Cert.Kernel7Ideal.Prompt

open Cert.Kernel7Ideal Cert.Kernel7Ideal.Gen Cert.Prompt
open Idealize.ShloMosaic Idealize.SL.Sem Idealize.ShloMosaic.TcCoe
open Cert.Reference7Ideal.Step

variable (m : (ℓ : Loc nD τ sig) → Buf (Elt Ideal) ℓ)

/-- The reference's rows after the second convolution. -/
def mixed (c : Dev nD) : FVec Ideal Cert.Reference7Ideal.S4x4096x256 .f32 :=
  A_main_v38 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The reference's gate of the recurrence. -/
def keep (c : Dev nD) : FVec Ideal Cert.Reference7Ideal.S4x4096x256 .f32 :=
  A_main_v51 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The reference's gate of the input. -/
def allow (c : Dev nD) : FVec Ideal Cert.Reference7Ideal.S4x4096x256 .f32 :=
  A_main_v63 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The reference's logarithm of the decay. -/
def fade (c : Dev nD) : FVec Ideal Cert.Reference7Ideal.S4x4096x256 .f32 :=
  A_main_v70 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The reference's decay. -/
def decays (c : Dev nD) : FVec Ideal Cert.Reference7Ideal.S4x4096x256 .f32 :=
  A_main_v71 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The reference's input of the recurrence. -/
def inputs (c : Dev nD) : FVec Ideal Cert.Reference7Ideal.S4x4096x256 .f32 :=
  A_main_v82 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- A tile's row in its sequence. -/
def pos (t : Fin cfg0.N) (r : Fin 1024) : Fin 4096 := ⟨1024 * (t.val % 4) + r.val, by omega⟩

/-- The gated rows of a point, before they are stored. -/
theorem gated_a (c : Dev nD) (t : Fin cfg0.N) :
    k0_pay11 (F := Ideal) (View.ld (X0_0 m c t) (Rect.unit ![0, 256] ![1024, 256] inb_S1024x1024_S1024x256_0_256))
      (View.ld (X0_0 m c t) (Rect.unit ![0, 512] ![1024, 256] inb_S1024x1024_S1024x256_0_512))
      = joined_a m c t 8 (by omega) (by omega) := by
  rw [← own_a]
  funext j
  idx_vars j
  pointwise [k0_pay12]

/-- The gated short convolution. -/
theorem conv_a (c : Dev nD) (t : Fin cfg0.N) (r : Fin 1024) (l : Fin 256) :
    k0_pay13 (F := Ideal) (View.ld (X0_0 m c t) (Rect.unit ![0, 0] ![1024, 256] inb_S1024x1024_S1024x256_0_0))
      (View.ld (X0_0 m c t) (Rect.unit ![0, 256] ![1024, 256] inb_S1024x1024_S1024x256_0_256))
      (View.ld (X0_0 m c t) (Rect.unit ![0, 512] ![1024, 256] inb_S1024x1024_S1024x256_0_512))
      (joined_a m c t 6 (by omega) (by omega)) (View.ld (iblk m c 4 t) (Rect.unit ![0, 0] ![1, 256] inb_S3x256_S1x256_0_0))
      (joined_a m c t 7 (by omega) (by omega)) (View.ld (iblk m c 4 t) (Rect.unit ![1, 0] ![1, 256] inb_S3x256_S1x256_1_0))
      (View.ld (iblk m c 4 t) (Rect.unit ![2, 0] ![1, 256] inb_S3x256_S1x256_2_0)) (ix2 r l)
      = short (m ((c : Thread nD τ).loc main_arg0)) (m ((c : Thread nD τ).loc main_arg1)) (ix3 (sq t) (pos t r) l) := by
  unfold k0_pay13
  rw [gated_a]
  unfold short joined_a
  generalize padded (m ((c : Thread nD τ).loc main_arg0)) = P
  pointwise [feed]
  blk_point [iblk, V, idx t, sq, pos]

/-- The second convolution. -/
theorem conv_b (c : Dev nD) (t : Fin cfg0.N) (j : S1024x256.Idx) :
    k0_pay15 (F := Ideal) (View.ld (X0_0 m c t) (Rect.unit ![0, 768] ![1024, 256] inb_S1024x1024_S1024x256_0_768))
      (joined_b m c t 5 (by omega) (by omega)) (View.ld (iblk m c 5 t) (Rect.unit ![0, 0] ![1, 256] inb_S4x256_S1x256_0_0))
      (joined_b m c t 6 (by omega) (by omega)) (View.ld (iblk m c 5 t) (Rect.unit ![1, 0] ![1, 256] inb_S4x256_S1x256_1_0))
      (joined_b m c t 7 (by omega) (by omega)) (View.ld (iblk m c 5 t) (Rect.unit ![2, 0] ![1, 256] inb_S4x256_S1x256_2_0))
      (View.ld (iblk m c 5 t) (Rect.unit ![3, 0] ![1, 256] inb_S4x256_S1x256_3_0)) (iblk m c 6 t) j
      = mixed m c (ix3 (sq t) (pos t (j 0)) (j 1)) := by
  have e : (View.ld (X0_0 m c t) (Rect.unit ![0, 768] ![1024, 256] inb_S1024x1024_S1024x256_0_768))
      = joined_b m c t 8 (by omega) (by omega) := by
    rw [← own_b]
    funext j
    idx_vars j
    pointwise [k0_pay14]
  rw [e]
  unfold joined_b mixed
  idx_vars j
  pointwise [k0_pay15, A_main_v38, A_main_v37, A_main_v36, A_main_v35, A_main_v34, A_main_v33, A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v9]
  have e8 : A_main_v8 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = fed m c := rfl
  rw [e8]
  generalize fed m c = P
  blk_point [iblk, V, idx t, sq, pos]

/-- The first block-diagonal matrix, at an index. -/
theorem blocks_r (c : Dev nD) (t : Fin cfg0.N) (p q : Fin 256) : iblk m c 7 t (ix2 p q)
    = if p.val / 64 = q.val / 64 then m ((c : Thread nD τ).loc main_arg4)
        (ix3 ⟨p.val / 64, by omega⟩ ⟨p.val % 64, by omega⟩ ⟨q.val % 64, by omega⟩) else (0 : EReal) := by
  have e : (win0_7.blk t).view.emb (ix2 p q) = ix2 p q := by blk_ext [idx t]
  blk_simp [iblk]
  rw [e]
  entry_read
  pointwise
  exact Cert.Kernel6Ideal.Mixers.masked _ _ (by omega) (by omega) _

/-- The first bias, at an index. -/
theorem bias_r (c : Dev nD) (t : Fin cfg0.N) (q : Fin 256) : iblk m c 8 t (ix2 0 q)
    = m ((c : Thread nD τ).loc main_arg5) (ix2 ⟨q.val / 64, by omega⟩ ⟨q.val % 64, by omega⟩) := by
  have e : (win0_8.blk t).view.emb (ix2 0 q) = ix2 0 q := by blk_ext [idx t]
  blk_simp [iblk]
  rw [e]
  entry_read
  pointwise

/-- The second block-diagonal matrix, at an index. -/
theorem blocks_i (c : Dev nD) (t : Fin cfg0.N) (p q : Fin 256) : iblk m c 9 t (ix2 p q)
    = if p.val / 64 = q.val / 64 then m ((c : Thread nD τ).loc main_arg6)
        (ix3 ⟨p.val / 64, by omega⟩ ⟨p.val % 64, by omega⟩ ⟨q.val % 64, by omega⟩) else (0 : EReal) := by
  have e : (win0_9.blk t).view.emb (ix2 p q) = ix2 p q := by blk_ext [idx t]
  blk_simp [iblk]
  rw [e]
  entry_read
  pointwise
  exact Cert.Kernel6Ideal.Mixers.masked _ _ (by omega) (by omega) _

/-- The second bias, at an index. -/
theorem bias_i (c : Dev nD) (t : Fin cfg0.N) (q : Fin 256) : iblk m c 10 t (ix2 0 q)
    = m ((c : Thread nD τ).loc main_arg7) (ix2 ⟨q.val / 64, by omega⟩ ⟨q.val % 64, by omega⟩) := by
  have e : (win0_10.blk t).view.emb (ix2 0 q) = ix2 0 q := by blk_ext [idx t]
  blk_simp [iblk]
  rw [e]
  entry_read
  pointwise

/-- The second convolution's rows as one value. -/
def convolved (c : Dev nD) (t : Fin cfg0.N) : FVec Ideal S1024x256 .f32 :=
  fun j : S1024x256.Idx => mixed m c (ix3 (sq t) (pos t (j 0)) (j 1))

/-- The recurrence's gate. -/
theorem gate_r (c : Dev nD) (t : Fin cfg0.N) (r : Fin 1024) (q : Fin 256) :
    Ideal.logistic (∑ x : Fin 256, convolved m c t (ix2 r x) * iblk m c 7 t (ix2 x q) + iblk m c 8 t (ix2 0 q))
      = keep m c (ix3 (sq t) (pos t r) q) := by
  pointwise [convolved, keep, A_main_v51, A_main_v50, A_main_v48, A_main_v46, A_main_v45, A_main_v44, A_main_v43, A_main_v42, A_main_v41, A_main_v40, A_main_v39, K_main_v47, K_main_v49, K_main_cst_0, K_main_cst_1, Ideal.logistic]
  rw [bias_r]
  refine congrArg (fun s => Ideal.div 1 (1 + Ideal.exp (-(s + _)))) ?_
  refine Eq.trans (Finset.sum_congr rfl fun x _ => congrArg _ (blocks_r m c t x q)) ?_
  exact Cert.Kernel6Ideal.Mixers.head_sum (fun x => mixed m c (ix3 (sq t) (pos t r) x))
    (fun a b d => m ((c : Thread nD τ).loc main_arg4) (ix3 a b d)) q

/-- The input's gate. -/
theorem gate_i (c : Dev nD) (t : Fin cfg0.N) (r : Fin 1024) (q : Fin 256) :
    Ideal.logistic (∑ x : Fin 256, convolved m c t (ix2 r x) * iblk m c 9 t (ix2 x q) + iblk m c 10 t (ix2 0 q))
      = allow m c (ix3 (sq t) (pos t r) q) := by
  pointwise [convolved, allow, A_main_v63, A_main_v62, A_main_v60, A_main_v58, A_main_v57, A_main_v56, A_main_v55, A_main_v54, A_main_v53, A_main_v52, A_main_v39, K_main_v59, K_main_v61, K_main_cst_2, K_main_cst_3, Ideal.logistic]
  rw [bias_i]
  refine congrArg (fun s => Ideal.div 1 (1 + Ideal.exp (-(s + _)))) ?_
  refine Eq.trans (Finset.sum_congr rfl fun x _ => congrArg _ (blocks_i m c t x q)) ?_
  exact Cert.Kernel6Ideal.Mixers.head_sum (fun x => mixed m c (ix3 (sq t) (pos t r) x))
    (fun a b d => m ((c : Thread nD τ).loc main_arg6) (ix3 a b d)) q

/-- The decay's parameter, at an index. -/
theorem rate (c : Dev nD) (t : Fin cfg0.N) (q : Fin 256) : iblk m c 11 t (ix2 0 q)
    = m ((c : Thread nD τ).loc main_arg8) (ix1 q) := by
  have e : (win0_11.blk t).view.emb (ix2 0 q) = ix2 0 q := by blk_ext [idx t]
  blk_simp [iblk]
  rw [e]
  entry_read
  pointwise

/-- The gate of the recurrence's rows as one value. -/
def gated_r (c : Dev nD) (t : Fin cfg0.N) : FVec Ideal S1024x256 .f32 :=
  fun j : S1024x256.Idx => keep m c (ix3 (sq t) (pos t (j 0)) (j 1))

/-- The logarithm of the decay. -/
theorem decay_log (c : Dev nD) (t : Fin cfg0.N) (r : Fin 1024) (l : Fin 256) :
    k0_pay19 (F := Ideal) (gated_r m c t) (iblk m c 11 t) (ix2 r l) = fade m c (ix3 (sq t) (pos t r) l) := by
  pointwise [gated_r, keep, fade, k0_pay19, A_main_v70, A_main_v69, A_main_v68, A_main_v67, A_main_v66, A_main_v65, K_main_v64, K_main_cst_4, A_main_call0_v11, A_main_call0_v10,
    A_main_call0_v9, A_main_call0_v8, A_main_call0_v7, A_main_call0_v6, A_main_call0_v4, A_main_call0_v3, A_main_call0_v1,
    K_main_call0_v0, K_main_call0_v2, K_main_call0_v5, K_main_call0_cst]
  rw [if_neg (fun h => h rfl), rate]
  simp only [zero_sub]

/-- The decay. -/
theorem decay_at (c : Dev nD) (t : Fin cfg0.N) (r : Fin 1024) (l : Fin 256) :
    k0_pay20 (F := Ideal) (gated_r m c t) (iblk m c 11 t) (ix2 r l) = decays m c (ix3 (sq t) (pos t r) l) := by
  pointwise [k0_pay20, decays, A_main_v71]
  rw [decay_log]
  rfl

/-- The decay is a nonnegative real. -/
theorem decay_coef (c : Dev nD) (t : Fin cfg0.N) (r : Fin 1024) (l : Fin 256) :
    Cert.Mixers.Coef (k0_pay20 (F := Ideal) (gated_r m c t) (iblk m c 11 t) (ix2 r l)) := by
  have hg : (0 : EReal) ≤ gated_r m c t (ix2 r l) := (Cert.Mixers.logistic_nonneg _).trans_eq (gate_r m c t r l)
  pointwise [k0_pay20, k0_pay19]
  exact ⟨Cert.Mixers.exp_nonneg _, Cert.Mixers.exp_ne_top _ (Cert.Mixers.rate_ne_top _ _ _ Cert.Mixers.minus_eight hg
    (Cert.Mixers.softplus_nonneg _ _))⟩

end Cert.Kernel7Ideal.Prompt

end
-- ==== Proof.Prompt.Ladder.lean ====
/- The prompt's recurrence over a tile: the doublings at an index. -/
module

public import proofs.«01_k».proof.Proof.Gen.Kernel7Ideal.Skeleton
public import Idealize.ShloMosaic.Lib.Pipeline.ValueKit
public import proofs.«01_k».proof.Proof.Prompt.Doubling

@[expose] public section

set_option maxRecDepth 16384

noncomputable section

namespace Cert.Kernel7Ideal.Prompt

open Cert.Kernel7Ideal Cert.Kernel7Ideal.Gen Cert.Prompt
open Idealize.ShloMosaic Idealize.SL.Sem Idealize.ShloMosaic.TcCoe

/-- A choice by the row's number. -/
theorem from_row (n r : ℕ) (hn : n < 1024) (hr : r < 1024) (x y : EReal) :
    Scalar.select (IntOp.cmpi CmpIPredicate.sge (BitVec.ofNat 32 r) (BitVec.ofNat 32 n)) x y = if n ≤ r then x else y := by
  have hi (k : ℕ) (hk : k < 1024) : (BitVec.ofNat 32 k).toInt = (k : ℤ) := by
    rw [BitVec.toInt_ofNat', Int.bmod_eq_of_le] <;> omega
  have h : IntOp.cmpi CmpIPredicate.sge (BitVec.ofNat 32 r) (BitVec.ofNat 32 n) = if n ≤ r then 1#1 else 0#1 := by
    change BitVec.ofBool (BitVec.sle (BitVec.ofNat 32 n) (BitVec.ofNat 32 r)) = _
    unfold BitVec.sle
    rw [hi n hn, hi r hr]
    by_cases hk : n ≤ r
    · simp [hk]
    · simp [hk]
  rw [h]
  split <;> rfl

/-- The rows' numbers. -/
abbrev rowNo : IVec S1024x256 32 := iota .tc S1024x256 32 [0] iota_S1024x256_d0_w32

/-- The coefficients after a doubling. -/
def rise (n : ℕ) (A : FVec Ideal S1024x256 .f32) : FVec Ideal S1024x256 .f32 :=
  select (cmpi .sge rowNo (broadcast S1024x256 (BitVec.ofNat 32 n)))
    (mulf A (dynamicRotate 0 (BitVec.ofNat 32 n) none A rotates_S1024x256_d0)) A

/-- The offsets after a doubling. -/
def lift (n : ℕ) (A B : FVec Ideal S1024x256 .f32) : FVec Ideal S1024x256 .f32 :=
  select (cmpi .sge rowNo (broadcast S1024x256 (BitVec.ofNat 32 n)))
    (addf (mulf A (dynamicRotate 0 (BitVec.ofNat 32 n) none B rotates_S1024x256_d0)) B) B

/-- A row `n` above, around the tile. -/
theorem turned (n : ℕ) (hn : n < 1024) (A : FVec Ideal S1024x256 .f32) (r : Fin 1024) (l : Fin 256) :
    dynamicRotate 0 (BitVec.ofNat 32 n) none A rotates_S1024x256_d0 (ix2 r l)
      = A (ix2 ⟨(r.val + 1024 - n) % 1024, Nat.mod_lt _ (by omega)⟩ l) := by
  have hv : (BitVec.ofNat 32 n).toNat = n := by rw [BitVec.toNat_ofNat]; omega
  unfold dynamicRotate
  refine congrArg A (funext fun b => ?_)
  apply Fin.ext
  match b with
  | ⟨0, _⟩ =>
    change (r.val + 1024 - ((BitVec.ofNat 32 n).toNat + 0) % 1024) % 1024 = (r.val + 1024 - n) % 1024
    rw [hv]
    omega
  | ⟨1, _⟩ => rfl

theorem rise_at (n : ℕ) (hn : n < 1024) (A : FVec Ideal S1024x256 .f32) (r : Fin 1024) (l : Fin 256) :
    rise n A (ix2 r l) = if n ≤ r.val then A (ix2 r l) * A (ix2 ⟨(r.val + 1024 - n) % 1024, Nat.mod_lt _ (by omega)⟩ l)
      else A (ix2 r l) := by
  rw [← turned n hn A r l, ← from_row n r.val hn r.isLt]
  generalize hR : dynamicRotate 0 (BitVec.ofNat 32 n) none A rotates_S1024x256_d0 = R
  unfold rise
  rw [hR]
  pointwise

theorem lift_at (n : ℕ) (hn : n < 1024) (A B : FVec Ideal S1024x256 .f32) (r : Fin 1024) (l : Fin 256) :
    lift n A B (ix2 r l) = if n ≤ r.val then A (ix2 r l) * B (ix2 ⟨(r.val + 1024 - n) % 1024, Nat.mod_lt _ (by omega)⟩ l)
      + B (ix2 r l) else B (ix2 r l) := by
  rw [← turned n hn B r l, ← from_row n r.val hn r.isLt]
  generalize hR : dynamicRotate 0 (BitVec.ofNat 32 n) none B rotates_S1024x256_d0 = R
  unfold lift
  rw [hR]
  pointwise

/-- One doubling of a lane. -/
theorem climb {a b : ℕ → EReal} {n : ℕ} {A B : FVec Ideal S1024x256 .f32} {l : Fin 256} (h1 : 1 ≤ n) (hn : n < 1024)
    (h : Level a b n (fun r => A (ix2 r l)) (fun r => B (ix2 r l))) :
    Level a b (2 * n) (fun r => rise n A (ix2 r l)) (fun r => lift n A B (ix2 r l)) :=
  h.double h1 hn (fun r => rise_at n hn A r l) (fun r => lift_at n hn A B r l)

/-- The last five doublings and the state the tile starts from. -/
theorem upper (A B : FVec Ideal S1024x256 .f32) (H : Vec Ideal S1x256 .f32) :
    k0_pay36 (F := Ideal) rowNo A (k0_pay33 rowNo) (dynamicRotate 0 32#32 none A rotates_S1024x256_d0) (lift 32 A B) H
      = addf (mulf (rise 512 (rise 256 (rise 128 (rise 64 (rise 32 A))))) (broadcastTo S1024x256 H broadcasts_S1x256_S1024x256))
        (lift 512 (rise 256 (rise 128 (rise 64 (rise 32 A)))) (lift 256 (rise 128 (rise 64 (rise 32 A)))
          (lift 128 (rise 64 (rise 32 A)) (lift 64 (rise 32 A) (lift 32 A B))))) := rfl

/-- The coefficients after the first five doublings. -/
theorem lower_a (A : FVec Ideal S1024x256 .f32) :
    k0_pay32 (F := Ideal) A rowNo k0_pay21 (dynamicRotate 0 1#32 none A rotates_S1024x256_d0)
      = rise 16 (rise 8 (rise 4 (rise 2 (rise 1 A)))) := rfl

/-- The offsets after the first six doublings. -/
theorem lower_b (A B : FVec Ideal S1024x256 .f32) :
    k0_pay35 (F := Ideal) A rowNo k0_pay21 (dynamicRotate 0 1#32 none A rotates_S1024x256_d0) (lift 1 A B)
      = lift 32 (rise 16 (rise 8 (rise 4 (rise 2 (rise 1 A))))) (lift 16 (rise 8 (rise 4 (rise 2 (rise 1 A))))
        (lift 8 (rise 4 (rise 2 (rise 1 A))) (lift 4 (rise 2 (rise 1 A)) (lift 2 (rise 1 A) (lift 1 A B))))) := rfl

/-- The rows of a tile are the recurrence's, from the state the tile starts from. -/
theorem scanned (a b : ℕ → EReal) (A B : FVec Ideal S1024x256 .f32) (H : Vec Ideal S1x256 .f32) (r : Fin 1024) (l : Fin 256)
    (hA : ∀ r : Fin 1024, A (ix2 r l) = a r.val) (hB : ∀ r : Fin 1024, B (ix2 r l) = b r.val)
    (hc : ∀ r : Fin 1024, Cert.Mixers.Coef (A (ix2 r l))) :
    k0_pay36 (F := Ideal) rowNo (k0_pay32 A rowNo k0_pay21 (dynamicRotate 0 1#32 none A rotates_S1024x256_d0)) (k0_pay33 rowNo)
      (k0_pay34 A rowNo k0_pay21 (dynamicRotate 0 1#32 none A rotates_S1024x256_d0))
      (k0_pay35 A rowNo k0_pay21 (dynamicRotate 0 1#32 none A rotates_S1024x256_d0) (lift 1 A B)) H (ix2 r l)
      = after a b 0 (r.val + 1) (H (ix2 0 l)) := by
  have h0 : Level a b 1 (fun r => A (ix2 r l)) (fun r => B (ix2 r l)) := Level.base hA hB hc
  have h := climb (by omega) (by omega) (climb (by omega) (by omega) (climb (by omega) (by omega) (climb (by omega) (by omega)
    (climb (by omega) (by omega) (climb (by omega) (by omega) (climb (by omega) (by omega) (climb (by omega) (by omega)
    (climb (by omega) (by omega) (climb (by omega) (by omega) h0)))))))))
  unfold k0_pay34
  rw [lower_b, lower_a, upper]
  refine Eq.trans ?_ (h.all r (H (ix2 0 l)))
  pointwise

end Cert.Kernel7Ideal.Prompt

end
-- ==== Proof.Prompt.Rows.lean ====
/- The recurrence's rows of a tile of the prompt, from the state the tile starts from. -/
module

public import proofs.«01_k».proof.Proof.Prompt.Gates
public import proofs.«01_k».proof.Proof.Prompt.Ladder
public import proofs.«01_k».proof.Proof.Prompt.Loop

@[expose] public section

set_option maxRecDepth 16384

noncomputable section

namespace Cert.Kernel7Ideal.Prompt

open Cert.Kernel7Ideal Cert.Kernel7Ideal.Gen Cert.Prompt
open Idealize.ShloMosaic Idealize.SL.Sem Idealize.ShloMosaic.TcCoe
open Cert.Reference7Ideal.Step

variable (m : (ℓ : Loc nD τ sig) → Buf (Elt Ideal) ℓ)

/-- The inner coordinate of a point: the tile's number in its sequence. -/
theorem tile_no : ∀ t : Fin cfg0.N, (grid0.coords t 1 : ℕ) = t.val % 4 := by decide +kernel

/-- A sequence's first position is the first row of its first tile. -/
theorem first_row (q r : ℕ) (hq : q < 4) (hr : r < 1024) :
    IntOp.andi (IntOp.cmpi CmpIPredicate.eq (BitVec.ofNat 32 r) 0#32) (IntOp.cmpi CmpIPredicate.eq (BitVec.ofNat 32 q) 0#32)
      = IntOp.cmpi CmpIPredicate.eq (BitVec.ofNat 32 (1024 * q + r)) 0#32 := by
  have h0 : (0#32 : BitVec 32) = BitVec.ofNat 32 0 := rfl
  rw [h0, same_row 0 r (by omega) (by omega), same_row 0 q (by omega) (by omega), same_row 0 (1024 * q + r) (by omega) (by omega)]
  by_cases a : r = 0
  · by_cases b : q = 0
    · rw [if_pos a, if_pos b, if_pos (by omega)]
      rfl
    · rw [if_pos a, if_neg b, if_neg (by omega)]
      rfl
  · by_cases b : q = 0
    · rw [if_neg a, if_pos b, if_neg (by omega)]
      rfl
    · rw [if_neg a, if_neg b, if_neg (by omega)]
      rfl

/-- The recurrence's input as the tile computes it. -/
def drive (q : BitVec 32) (X G D : FVec Ideal S1024x256 .f32) (b L : Vec Ideal S1x256 .f32) : FVec Ideal S1024x256 .f32 :=
  mulf (select (andi (cmpi .eq rowNo (broadcast S1024x256 0#32)) (broadcast S1024x256 (Scalar.cmpi .eq q 0#32)))
      (broadcast S1024x256 (Scalar.ofBits (F := Ideal) .f32 0x3F800000#32))
      (sqrt (subf (broadcast S1024x256 (Scalar.ofBits (F := Ideal) .f32 0x3F800000#32))
        (exp (mulf (broadcast S1024x256 (Scalar.ofBits (F := Ideal) .f32 0x40000000#32)) (k0_pay19 G L))))))
    (mulf (logistic (addf D (broadcastTo S1024x256 (shapeCast S1x256 b shapeCasts_S1x256_S1x256) broadcasts_S1x256_S1024x256))) X)

theorem driven (q : BitVec 32) (X G D : FVec Ideal S1024x256 .f32) (b L : Vec Ideal S1x256 .f32) :
    k0_pay23 (F := Ideal) q X G D b L = lift 1 (k0_pay20 G L) (drive q X G D b L) := rfl

/-- The recurrence's input is the reference's. -/
theorem input_at (c : Dev nD) (t : Fin cfg0.N) (D : FVec Ideal S1024x256 .f32)
    (hD : ∀ r l, D (ix2 r l) = ∑ x : Fin 256, convolved m c t (ix2 r x) * iblk m c 9 t (ix2 x l)) (r : Fin 1024) (l : Fin 256) :
    drive (BitVec.ofNat 32 (grid0.coords t 1 : ℕ)) (convolved m c t) (gated_r m c t) D (iblk m c 10 t) (iblk m c 11 t) (ix2 r l)
      = inputs m c (ix3 (sq t) (pos t r) l) := by
  have hr := r.isLt
  pointwise [drive]
  rw [decay_log, hD, gate_i, tile_no]
  change Scalar.select (IntOp.andi (IntOp.cmpi CmpIPredicate.eq (BitVec.ofNat 32 r.val) 0#32)
    (IntOp.cmpi CmpIPredicate.eq (BitVec.ofNat 32 (t.val % 4)) 0#32)) _ _ * _ = _
  rw [first_row _ _ (by omega) hr]
  pointwise [inputs, A_main_v82, A_main_v81, A_main_v80, A_main_v76, A_main_v75, A_main_v74, A_main_v73, K_main_v72, K_main_cst_5,
    K_main_call1_v0, K_main_call1_v1, K_main_call1_v2, K_main_cst_6, K_main_v79, K_main_v78, K_main_v77, K_main_c, K_main_v6]
  have one : id (constant (F := Ideal) Cert.Reference7Ideal.S_ .f32 0x3F800000#32) ix0 = (1 : EReal) := by
    unfold id
    pointwise
  rw [Cert.Mixers.neg_sub_one, one]
  rfl

/-- The rows after the second convolution. -/
theorem convolved_eq (c : Dev nD) (t : Fin cfg0.N) :
    k0_pay15 (F := Ideal) (View.ld (X0_0 m c t) (Rect.unit ![0, 768] ![1024, 256] inb_S1024x1024_S1024x256_0_768))
      (joined_b m c t 5 (by omega) (by omega)) (View.ld (iblk m c 5 t) (Rect.unit ![0, 0] ![1, 256] inb_S4x256_S1x256_0_0))
      (joined_b m c t 6 (by omega) (by omega)) (View.ld (iblk m c 5 t) (Rect.unit ![1, 0] ![1, 256] inb_S4x256_S1x256_1_0))
      (joined_b m c t 7 (by omega) (by omega)) (View.ld (iblk m c 5 t) (Rect.unit ![2, 0] ![1, 256] inb_S4x256_S1x256_2_0))
      (View.ld (iblk m c 5 t) (Rect.unit ![3, 0] ![1, 256] inb_S4x256_S1x256_3_0)) (iblk m c 6 t) = convolved m c t :=
  funext fun j => conv_b m c t j

/-- The recurrence's gate. -/
theorem gated_eq (c : Dev nD) (t : Fin cfg0.N) :
    k0_pay17 (F := Ideal) (View.ld (X0_0 m c t) (Rect.unit ![0, 768] ![1024, 256] inb_S1024x1024_S1024x256_0_768))
      (joined_b m c t 5 (by omega) (by omega)) (View.ld (iblk m c 5 t) (Rect.unit ![0, 0] ![1, 256] inb_S4x256_S1x256_0_0))
      (joined_b m c t 6 (by omega) (by omega)) (View.ld (iblk m c 5 t) (Rect.unit ![1, 0] ![1, 256] inb_S4x256_S1x256_1_0))
      (joined_b m c t 7 (by omega) (by omega)) (View.ld (iblk m c 5 t) (Rect.unit ![2, 0] ![1, 256] inb_S4x256_S1x256_2_0))
      (View.ld (iblk m c 5 t) (Rect.unit ![3, 0] ![1, 256] inb_S4x256_S1x256_3_0)) (iblk m c 6 t) (iblk m c 7 t) (iblk m c 8 t) = gated_r m c t := by
  funext j
  idx_vars j
  refine Eq.trans ?_ (gate_r m c t j0 j1)
  rw [← convolved_eq]
  pointwise [k0_pay17, k0_pay16]

/-- The product of the input's gate. -/
theorem product_i (c : Dev nD) (t : Fin cfg0.N) (r : Fin 1024) (l : Fin 256) :
    k0_pay18 (F := Ideal) (View.ld (X0_0 m c t) (Rect.unit ![0, 768] ![1024, 256] inb_S1024x1024_S1024x256_0_768))
      (joined_b m c t 5 (by omega) (by omega)) (View.ld (iblk m c 5 t) (Rect.unit ![0, 0] ![1, 256] inb_S4x256_S1x256_0_0))
      (joined_b m c t 6 (by omega) (by omega)) (View.ld (iblk m c 5 t) (Rect.unit ![1, 0] ![1, 256] inb_S4x256_S1x256_1_0))
      (joined_b m c t 7 (by omega) (by omega)) (View.ld (iblk m c 5 t) (Rect.unit ![2, 0] ![1, 256] inb_S4x256_S1x256_2_0))
      (View.ld (iblk m c 5 t) (Rect.unit ![3, 0] ![1, 256] inb_S4x256_S1x256_3_0)) (iblk m c 6 t) (iblk m c 9 t) (ix2 r l)
      = ∑ x : Fin 256, convolved m c t (ix2 r x) * iblk m c 9 t (ix2 x l) := by
  rw [← convolved_eq]
  pointwise [k0_pay18, k0_pay16]

/-- A lane from a tile's first row on. -/
theorem lane_at (A : FVec Ideal Cert.Reference7Ideal.S4x4096x256 .f32) (t : Fin cfg0.N) (l : Fin 256) (r : Fin 1024) :
    A (ix3 (sq t) (pos t r) l) = lane A (sq t) l (1024 * (t.val % 4) + r.val) := by
  unfold lane
  rw [dif_pos (by omega)]
  rfl

/-- The recurrence's rows of a point, from the state before it. -/
theorem hidden (c : Dev nD) (t : Fin cfg0.N) (r : Fin 1024) (l : Fin 256) (X G D : FVec Ideal S1024x256 .f32) (H : Vec Ideal S1x256 .f32)
    (hX : X = convolved m c t) (hG : G = gated_r m c t)
    (hD : ∀ r l, D (ix2 r l) = ∑ x : Fin 256, convolved m c t (ix2 r x) * iblk m c 9 t (ix2 x l))
    (hH : ∀ l, H (ix2 0 l) = run (decays m c) (inputs m c) (sq t) l (1024 * (t.val % 4))) :
    k0_pay36 (F := Ideal) rowNo (k0_pay32 (k0_pay20 G (iblk m c 11 t)) rowNo k0_pay21 (k0_pay22 G (iblk m c 11 t))) (k0_pay33 rowNo)
      (k0_pay34 (k0_pay20 G (iblk m c 11 t)) rowNo k0_pay21 (k0_pay22 G (iblk m c 11 t)))
      (k0_pay35 (k0_pay20 G (iblk m c 11 t)) rowNo k0_pay21 (k0_pay22 G (iblk m c 11 t))
        (k0_pay23 (BitVec.ofNat 32 (grid0.coords t 1 : ℕ)) X G D (iblk m c 10 t) (iblk m c 11 t))) H (ix2 r l)
      = run (decays m c) (inputs m c) (sq t) l (1024 * (t.val % 4) + (r.val + 1)) := by
  subst hX hG
  rw [driven]
  unfold k0_pay22
  refine (scanned (fun i => lane (decays m c) (sq t) l (1024 * (t.val % 4) + i)) (fun i => lane (inputs m c) (sq t) l (1024 * (t.val % 4) + i))
    _ _ H r l (fun r => ?_) (fun r => ?_) (fun r => decay_coef m c t r l)).trans ?_
  · exact (decay_at m c t r l).trans (lane_at (decays m c) t l r)
  · exact (input_at m c t D hD r l).trans (lane_at (inputs m c) t l r)
  · rw [hH, after_shift]
    unfold run
    rw [after_add _ _ 0 (1024 * (t.val % 4)) (r.val + 1), Nat.zero_add]

/-- The recurrence's rows of a point, from the rows read over the history and the state before it. -/
theorem rows_h (c : Dev nD) (t : Fin cfg0.N) (r : Fin 1024) (l : Fin 256) (R5 R6 R7 X G D : FVec Ideal S1024x256 .f32) (H : Vec Ideal S1x256 .f32)
    (h5 : R5 = joined_b m c t 5 (by omega) (by omega)) (h6 : R6 = joined_b m c t 6 (by omega) (by omega))
    (h7 : R7 = joined_b m c t 7 (by omega) (by omega))
    (hX : X = k0_pay15 (F := Ideal) (View.ld (X0_0 m c t) (Rect.unit ![0, 768] ![1024, 256] inb_S1024x1024_S1024x256_0_768))
      R5 (View.ld (iblk m c 5 t) (Rect.unit ![0, 0] ![1, 256] inb_S4x256_S1x256_0_0))
      R6 (View.ld (iblk m c 5 t) (Rect.unit ![1, 0] ![1, 256] inb_S4x256_S1x256_1_0))
      R7 (View.ld (iblk m c 5 t) (Rect.unit ![2, 0] ![1, 256] inb_S4x256_S1x256_2_0))
      (View.ld (iblk m c 5 t) (Rect.unit ![3, 0] ![1, 256] inb_S4x256_S1x256_3_0)) (iblk m c 6 t))
    (hG : G = k0_pay17 (F := Ideal) (View.ld (X0_0 m c t) (Rect.unit ![0, 768] ![1024, 256] inb_S1024x1024_S1024x256_0_768))
      R5 (View.ld (iblk m c 5 t) (Rect.unit ![0, 0] ![1, 256] inb_S4x256_S1x256_0_0))
      R6 (View.ld (iblk m c 5 t) (Rect.unit ![1, 0] ![1, 256] inb_S4x256_S1x256_1_0))
      R7 (View.ld (iblk m c 5 t) (Rect.unit ![2, 0] ![1, 256] inb_S4x256_S1x256_2_0))
      (View.ld (iblk m c 5 t) (Rect.unit ![3, 0] ![1, 256] inb_S4x256_S1x256_3_0)) (iblk m c 6 t) (iblk m c 7 t) (iblk m c 8 t))
    (hD : D = k0_pay18 (F := Ideal) (View.ld (X0_0 m c t) (Rect.unit ![0, 768] ![1024, 256] inb_S1024x1024_S1024x256_0_768))
      R5 (View.ld (iblk m c 5 t) (Rect.unit ![0, 0] ![1, 256] inb_S4x256_S1x256_0_0))
      R6 (View.ld (iblk m c 5 t) (Rect.unit ![1, 0] ![1, 256] inb_S4x256_S1x256_1_0))
      R7 (View.ld (iblk m c 5 t) (Rect.unit ![2, 0] ![1, 256] inb_S4x256_S1x256_2_0))
      (View.ld (iblk m c 5 t) (Rect.unit ![3, 0] ![1, 256] inb_S4x256_S1x256_3_0)) (iblk m c 6 t) (iblk m c 9 t))
    (hH : ∀ l, H (ix2 0 l) = run (decays m c) (inputs m c) (sq t) l (1024 * (t.val % 4))) :
    k0_pay36 (F := Ideal) rowNo (k0_pay32 (k0_pay20 G (iblk m c 11 t)) rowNo k0_pay21 (k0_pay22 G (iblk m c 11 t))) (k0_pay33 rowNo)
      (k0_pay34 (k0_pay20 G (iblk m c 11 t)) rowNo k0_pay21 (k0_pay22 G (iblk m c 11 t)))
      (k0_pay35 (k0_pay20 G (iblk m c 11 t)) rowNo k0_pay21 (k0_pay22 G (iblk m c 11 t))
        (k0_pay23 (BitVec.ofNat 32 (grid0.coords t 1 : ℕ)) X G D (iblk m c 10 t) (iblk m c 11 t))) H (ix2 r l)
      = run (decays m c) (inputs m c) (sq t) l (1024 * (t.val % 4) + (r.val + 1)) := by
  subst h5 h6 h7
  rw [convolved_eq] at hX
  rw [gated_eq] at hG
  exact hidden m c t r l X G D H hX hG (fun r l => (congrFun hD _).trans (product_i m c t r l)) hH

end Cert.Kernel7Ideal.Prompt

end
-- ==== Proof.Prompt.Carry.lean ====
/- The recurrence's state across the tiles of the prompt. -/
module

public import proofs.«01_k».proof.Proof.Prompt.History
public import proofs.«01_k».proof.Proof.Prompt.Rows

@[expose] public section

set_option maxRecDepth 16384

noncomputable section

namespace Cert.Kernel7Ideal.Prompt

open Cert.Kernel7Ideal Cert.Kernel7Ideal.Gen Cert.Prompt
open Idealize.ShloMosaic Idealize.SL.Sem Idealize.ShloMosaic.TcCoe
open Cert.Reference7Ideal.Step

variable (m : (ℓ : Loc nD τ sig) → Buf (Elt Ideal) ℓ)

/-- The state a sequence's first tile starts from. -/
theorem start_first {sig : RefSig} {κ : Kind} {sp : Space} (v : View sig κ sp S8x256 .f32) (c : Dev nD) (t : Fin cfg0.N)
    (ht : t.val % 4 = 0) (l : Fin 256) :
    v.readCov [(⟨Rect.unit ![0, 0] ![8, 256] inb_S8x256_S8x256_0_0, k0_pay10 (F := Ideal) (iblk m c 3 t)⟩ : View.Piece (Elt Ideal) S8x256 .f32)]
      (Rect.unit (s := S8x256) ![0, 0] ![1, 256] inb_S8x256_S1x256_0_0).toLoadRect (ix2 0 l)
      = run (decays m c) (inputs m c) (sq t) l (1024 * (t.val % 4)) := by
  rw [View.readCov_eq_canon']
  have e0 := View.canon_unit_zero (S := S8x256) (Val := Elt Ideal) (e := .f32) (off := ![0, 0]) (by funext a; fin_cases a <;> rfl)
    inb_S8x256_S8x256_0_0 (k0_pay10 (F := Ideal) (iblk m c 3 t))
  refine (congrFun e0 _).trans ((zero_h m c t _).trans ?_)
  rw [ht]
  rfl

/-- The state a later tile starts from is the one kept before it. -/
theorem start_later (M : Memref sig .tc .vmem S8x256 .f32) (hM : M.IsWhole) (X : S8x256.Idx → Elt Ideal .f32) (l : Fin 256) :
    View.ld (View.read (Elt Ideal) M.view (hM.unread X)) (Rect.unit (s := S8x256) ![0, 0] ![1, 256] inb_S8x256_S1x256_0_0) (ix2 0 l)
      = X (ix2 0 l) := by
  rw [hM.read_unread]
  unfold View.ld
  refine congrArg X (funext fun a => Fin.ext ?_)
  match a with
  | ⟨0, _⟩ => rfl
  | ⟨1, _⟩ =>
    change 0 + 1 * l.val = l.val
    omega

/-- The last row of a tile, kept eight times. -/
theorem last_row (X : FVec Ideal S1024x256 .f32) (q : Fin 8) (l : Fin 256) : k0_pay4 (F := Ideal) X (ix2 q l) = X (ix2 1023 l) := by
  pointwise [k0_pay4, k0_pay1]

/-- The state kept after a point. -/
theorem left_h (c : Dev nD) (n : ℕ) : ∀ (t : Fin cfg0.N), t.val = n → ∀ l : Fin 256,
    (outsAt0 m c t.val t.isLt).2.2.2.2.2.2 (ix2 0 l)
      = run (decays m c) (inputs m c) (sq t) l (1024 * (t.val % 4) + 1024) := by
  induction n using Nat.strong_induction_on with
  | _ n ih =>
  intro t hn l
  by_cases h : t.val % 4 = 0
  · rw [outsAt0_A m c t h]
    frame_out
    refine (last_row _ 0 l).trans ?_
    exact rows_h m c t ⟨1023, by omega⟩ l _ _ _ _ _ _ _ (first_b m _ c t 5 _ (by omega) (by omega) h) (first_b m _ c t 6 _ (by omega) (by omega) h)
      (first_b m _ c t 7 _ (by omega) (by omega) h) rfl rfl rfl (start_first m _ c t h)
  · rw [outsAt0_B m c t h]
    frame_out
    refine (last_row _ 0 l).trans ?_
    refine rows_h m c t ⟨1023, by omega⟩ l _ _ _ _ _ _ _ (later_b m scM0_1 (Memref.isWhole_whole _) c t 5 _ (by omega) (by omega) h) (later_b m scM0_1 (Memref.isWhole_whole _) c t 6 _ (by omega) (by omega) h)
      (later_b m scM0_1 (Memref.isWhole_whole _) c t 7 _ (by omega) (by omega) h) rfl rfl rfl fun l => ?_
    refine (start_later scM0_2 (Memref.isWhole_whole _) _ l).trans ((ih (t.val - 1) (by omega) ⟨t.val - 1, Nat.lt_of_le_of_lt (Nat.sub_le _ _) t.isLt⟩ rfl l).trans ?_)
    have e : sq ⟨t.val - 1, Nat.lt_of_le_of_lt (Nat.sub_le _ _) t.isLt⟩ = sq t := Fin.ext (by unfold sq; dsimp only; omega)
    rw [e]
    refine congrArg (run (decays m c) (inputs m c) (sq t) l) ?_
    dsimp only
    omega

end Cert.Kernel7Ideal.Prompt

end
-- ==== Proof.Prompt.Finals.lean ====
/- The four results of the prompt's mixers after the run are the reference's. -/
module

public import proofs.«01_k».proof.Proof.Prompt.Carry

@[expose] public section

set_option maxRecDepth 16384

noncomputable section

namespace Cert.Kernel7Ideal.Prompt

open Cert.Kernel7Ideal Cert.Kernel7Ideal.Gen Cert.Prompt
open Idealize.ShloMosaic Idealize.SL.Sem Idealize.ShloMosaic.TcCoe
open Cert.Reference7Ideal.Step

variable (m : (ℓ : Loc nD τ sig) → Buf (Elt Ideal) ℓ)

/-- The histories and the last state are written back at a sequence's last point. -/
theorem last_a : ∀ t : Fin cfg0.N, (cfg0.win 13).flush t = true → t.val % 4 = 3 :=
  (by decide +kernel : ∀ t : Fin grid0.N, _)

theorem last_b : ∀ t : Fin cfg0.N, (cfg0.win 14).flush t = true → t.val % 4 = 3 :=
  (by decide +kernel : ∀ t : Fin grid0.N, _)

theorem last_h : ∀ t : Fin cfg0.N, (cfg0.win 15).flush t = true → t.val % 4 = 3 :=
  (by decide +kernel : ∀ t : Fin grid0.N, _)

/-- The state a later tile starts from, as the recurrence's. -/
theorem start_B (c : Dev nD) (t : Fin cfg0.N) (h : ¬ t.val % 4 = 0) (l : Fin 256) :
    View.ld (View.read (Elt Ideal) (View.whole cc0_scratch2) ((Memref.isWhole_whole cc0_scratch2).unread
      (outsAt0 m c (t.val - 1) (Nat.lt_of_le_of_lt (Nat.sub_le _ _) t.isLt)).2.2.2.2.2.2))
      (Rect.unit (s := S8x256) ![0, 0] ![1, 256] inb_S8x256_S1x256_0_0) (ix2 0 l)
      = run (decays m c) (inputs m c) (sq t) l (1024 * (t.val % 4)) := by
  refine (start_later scM0_2 (Memref.isWhole_whole _) _ l).trans
    ((left_h m c (t.val - 1) ⟨t.val - 1, Nat.lt_of_le_of_lt (Nat.sub_le _ _) t.isLt⟩ rfl l).trans ?_)
  have e : sq ⟨t.val - 1, Nat.lt_of_le_of_lt (Nat.sub_le _ _) t.isLt⟩ = sq t := Fin.ext (by unfold sq; dsimp only; omega)
  rw [e]
  refine congrArg (run (decays m c) (inputs m c) (sq t) l) ?_
  dsimp only
  omega

/-- A tile's rows stored in two column halves. -/
theorem halves (w u : S1024x256.Idx → Elt Ideal .f32) (z : S1024x512.Idx) :
    View.canon [(⟨Rect.unit ![0, 256] ![1024, 256] inb_S1024x512_S1024x256_0_256, u⟩ : View.Piece (Elt Ideal) S1024x512 .f32),
        ⟨Rect.unit ![0, 0] ![1024, 256] inb_S1024x512_S1024x256_0_0, w⟩] z
      = if h : (z 1).val < 256 then w (ix2 (z 0) ⟨(z 1).val, h⟩)
        else u (ix2 (z 0) ⟨(z 1).val - 256, by have := (z 1).isLt; dsimp at this; omega⟩) := by
  canon_tiles x hx
  · rw [dif_neg (by omega)]
    refine congrArg u ?_
    blk_ext
  · rw [dif_pos (by omega)]
    refine congrArg w ?_
    blk_ext

/-- The short convolution of a point, from the rows read over the history. -/
theorem at_a (c : Dev nD) (t : Fin cfg0.N) (r : Fin 1024) (l : Fin 256) (R6 R7 : FVec Ideal S1024x256 .f32)
    (h6 : R6 = joined_a m c t 6 (by omega) (by omega)) (h7 : R7 = joined_a m c t 7 (by omega) (by omega)) :
    k0_pay13 (F := Ideal) (View.ld (X0_0 m c t) (Rect.unit ![0, 0] ![1024, 256] inb_S1024x1024_S1024x256_0_0))
      (View.ld (X0_0 m c t) (Rect.unit ![0, 256] ![1024, 256] inb_S1024x1024_S1024x256_0_256))
      (View.ld (X0_0 m c t) (Rect.unit ![0, 512] ![1024, 256] inb_S1024x1024_S1024x256_0_512))
      R6 (View.ld (iblk m c 4 t) (Rect.unit ![0, 0] ![1, 256] inb_S3x256_S1x256_0_0))
      R7 (View.ld (iblk m c 4 t) (Rect.unit ![1, 0] ![1, 256] inb_S3x256_S1x256_1_0))
      (View.ld (iblk m c 4 t) (Rect.unit ![2, 0] ![1, 256] inb_S3x256_S1x256_2_0)) (ix2 r l)
      = short (m ((c : Thread nD τ).loc main_arg0)) (m ((c : Thread nD τ).loc main_arg1)) (ix3 (sq t) (pos t r) l) := by
  subst h6 h7
  exact conv_a m c t r l

/-- What a point stores is its part of the mixed rows. -/
theorem point_y (c : Dev nD) (S : State Ideal)
    (hk : ∀ s (k : Fin 4096) l, S.main_v85_5 (ix3 s k l) = run (decays m c) (inputs m c) s l (k.val + 1)) (t : Fin cfg0.N) (y : S1024x512.Idx) (i : S16640x512.Idx)
    (h0 : (i 0 : ℕ) = 1024 * t.val + (y 0).val) (h1 : (i 1 : ℕ) = (y 1).val) (P Q : S1024x256.Idx → Elt Ideal .f32)
    (hP : ∀ r l, P (ix2 r l) = short (m ((c : Thread nD τ).loc main_arg0)) (m ((c : Thread nD τ).loc main_arg1)) (ix3 (sq t) (pos t r) l))
    (hQ : ∀ (r : Fin 1024) l, Q (ix2 r l) = run (decays m c) (inputs m c) (sq t) l (1024 * (t.val % 4) + (r.val + 1))) :
    (if h : (y 1).val < 256 then P (ix2 (y 0) ⟨(y 1).val, h⟩)
      else Q (ix2 (y 0) ⟨(y 1).val - 256, by have := (y 1).isLt; dsimp at this; omega⟩))
      = R_main_v121 S (m ((c : Thread nD τ).loc main_arg0)) (m ((c : Thread nD τ).loc main_arg1)) i := by
  have e : i = ix2 ⟨1024 * t.val + (y 0).val, by
      have := point_lt t
      have := (y 0).isLt
      dsimp at this
      omega⟩ (y 1) := by
    funext a
    apply Fin.ext
    match a with
    | ⟨0, _⟩ => exact h0
    | ⟨1, _⟩ => exact h1
  rw [e]
  refine Eq.trans ?_ (rows_at S (m ((c : Thread nD τ).loc main_arg0)) (m ((c : Thread nD τ).loc main_arg1)) (sq t) (pos t (y 0)) (y 1) _
    (by unfold sq pos; dsimp only; omega)).symm
  by_cases h : (y 1).val < 256
  · rw [dif_pos h, dif_pos h]
    exact hP _ _
  · rw [dif_neg h, dif_neg h, hk]
    exact hQ _ _

/-- The mixed rows after the run: the prompt's part is written, the rest is the operand's. -/
theorem final_y (c : Dev nD) (S : State Ideal)
    (hk : ∀ s (k : Fin 4096) l, S.main_v85_5 (ix3 s k l) = run (decays m c) (inputs m c) s l (k.val + 1)) : (dats m 0 c).arrAt 12 (cfgs 0).N
    = fun i => if (i 0 : ℕ) < 16384 then R_main_v121 S (m ((c : Thread nD τ).loc main_arg0)) (m ((c : Thread nD τ).loc main_arg1)) i else V m c main_v32_0 i := by
  refine (dats m 0 c).arrAt_eq_of_coversWhere 12 _ (fun β => β 0 < 16) (by decide +kernel) (fun t hf y => ?_)
    (fun j => by blk_simp [Pipeline.Window.cell_apply]; omega)
  blk_simp
  rw [after0_12]
  by_cases h : t.val % 4 = 0
  · rw [outsAt0_A m c t h]
    frame_out
    rw [halves]
    refine point_y m c S hk t _ _ ?_ ?_ _ _ (fun r l => at_a m c t r l _ _ (first_a m _ c t 6 _ (by omega) (by omega) h) (first_a m _ c t 7 _ (by omega) (by omega) h))
      fun r l => rows_h m c t r l _ _ _ _ _ _ _ (first_b m _ c t 5 _ (by omega) (by omega) h) (first_b m _ c t 6 _ (by omega) (by omega) h)
        (first_b m _ c t 7 _ (by omega) (by omega) h) rfl rfl rfl (start_first m _ c t h)
    · blk_simp [idx t]
      rw [Nat.mul_comm]
    · blk_simp [idx t]
  · rw [outsAt0_B m c t h]
    frame_out
    rw [halves]
    refine point_y m c S hk t _ _ ?_ ?_ _ _ (fun r l => at_a m c t r l _ _ (later_a m scM0_0 (Memref.isWhole_whole _) c t 6 _ (by omega) (by omega) h)
        (later_a m scM0_0 (Memref.isWhole_whole _) c t 7 _ (by omega) (by omega) h))
      fun r l => rows_h m c t r l _ _ _ _ _ _ _ (later_b m scM0_1 (Memref.isWhole_whole _) c t 5 _ (by omega) (by omega) h)
        (later_b m scM0_1 (Memref.isWhole_whole _) c t 6 _ (by omega) (by omega) h)
        (later_b m scM0_1 (Memref.isWhole_whole _) c t 7 _ (by omega) (by omega) h) rfl rfl rfl (start_B m c t h)
    · blk_simp [idx t]
      rw [Nat.mul_comm]
    · blk_simp [idx t]

/-- The mixed rows after the run are the reference's. -/
theorem final_rows (c : Dev nD) (S : State Ideal)
    (hk : ∀ s (k : Fin 4096) l, S.main_v85_5 (ix3 s k l) = run (decays m c) (inputs m c) s l (k.val + 1)) : (dats m 0 c).arrAt 12 (cfgs 0).N = R_main_v121 S (m ((c : Thread nD τ).loc main_arg0)) (m ((c : Thread nD τ).loc main_arg1)) := by
  refine (final_y m c S hk).trans (funext fun i => ?_)
  by_cases h : (i 0 : ℕ) < 16384
  · rw [if_pos h]
  · rw [if_neg h]
    idx_vars i
    refine Eq.trans ?_ (rows_after S _ _ _ _ (by omega)).symm
    entry_read
    pointwise

/-- The first history after the run. -/
theorem final_sa (c : Dev nD) (S : State Ideal) : (dats m 0 c).arrAt 13 (cfgs 0).N = R_main_v122 S (m ((c : Thread nD τ).loc main_arg0)) := by
  refine (dats m 0 c).arrAt_eq_of_covers 13 _ (by decide +kernel) fun t hf y => ?_
  blk_simp
  rw [after0_13, outsAt0_B m c t (by have := last_a t hf; omega)]
  frame_out
  rw [ends]
  have hv := last_a t hf
  idx_vars y
  have e : ((cfg0.win 13).blk t).view.emb (ix3 y0 y1 y2) = ix3 (sq t) y1 y2 := by blk_ext [idx t, sq]
  rw [e, kept_a]
  pointwise [k0_pay5]
  refine (congrFun (own_a m c t) _).trans ?_
  unfold joined_a
  refine congrArg (padded (m ((c : Thread nD τ).loc main_arg0))) ?_
  blk_ext

/-- The second history after the run. -/
theorem final_sb (c : Dev nD) (S : State Ideal) : (dats m 0 c).arrAt 14 (cfgs 0).N = R_main_v123 S (m ((c : Thread nD τ).loc main_arg0)) := by
  refine (dats m 0 c).arrAt_eq_of_covers 14 _ (by decide +kernel) fun t hf y => ?_
  blk_simp
  rw [after0_14, outsAt0_B m c t (by have := last_b t hf; omega)]
  frame_out
  rw [ends]
  have hv := last_b t hf
  idx_vars y
  have e : ((cfg0.win 14).blk t).view.emb (ix3 y0 y1 y2) = ix3 (sq t) y1 y2 := by blk_ext [idx t, sq]
  rw [e]
  refine Eq.trans ?_ (kept_b S (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (sq t) y1 y2).symm
  pointwise [k0_pay6]
  refine (congrFun (own_b m c t) _).trans ?_
  unfold joined_b
  refine congrArg (fed m c) ?_
  blk_ext

/-- The last row of a sequence, stored eight times. -/
theorem ending (X : FVec Ideal S1024x256 .f32) (q : Fin 8) (l : Fin 256) (p : Fin 1) : k0_pay7 (F := Ideal) X (ix3 p q l) = X (ix2 1023 l) := by
  pointwise [k0_pay7, k0_pay1]

/-- The recurrence's last state after the run. -/
theorem final_hl (c : Dev nD) (S : State Ideal)
    (hh : ∀ s l, S.main_v85_4 (ix2 s l) = run (decays m c) (inputs m c) s l 4096) : (dats m 0 c).arrAt 15 (cfgs 0).N = R_main_v125 S := by
  refine (dats m 0 c).arrAt_eq_of_covers 15 _ (by decide +kernel) fun t hf y => ?_
  have hv := last_h t hf
  have h : ¬ t.val % 4 = 0 := by omega
  blk_simp
  rw [after0_15, outsAt0_B m c t h]
  frame_out
  idx_vars y
  have e : ((cfg0.win 15).blk t).view.emb (ix3 y0 y1 y2) = ix3 (sq t) y1 y2 := by blk_ext [idx t, sq]
  rw [e, kept_h, hh]
  refine (ending _ y1 y2 y0).trans ((rows_h m c t ⟨1023, by omega⟩ y2 _ _ _ _ _ _ _ (later_b m scM0_1 (Memref.isWhole_whole _) c t 5 _ (by omega) (by omega) h)
    (later_b m scM0_1 (Memref.isWhole_whole _) c t 6 _ (by omega) (by omega) h)
    (later_b m scM0_1 (Memref.isWhole_whole _) c t 7 _ (by omega) (by omega) h) rfl rfl rfl (start_B m c t h)).trans ?_)
  refine congrArg (run (decays m c) (inputs m c) (sq t) y2) ?_
  dsimp only
  omega

end Cert.Kernel7Ideal.Prompt

end
-- ==== Proof.Prompt.Claims.lean ====
/- The mixers of the prompt: their frames and the equations of their four results. -/
module

public import proofs.«01_k».proof.Defs
public import proofs.«01_k».proof.Proof.Gen.Kernel7.Frame
public import proofs.«01_k».proof.Proof.Gen.Kernel7Ideal.Value
public import proofs.«01_k».proof.Proof.Gen.Reference7Ideal.Step
public import proofs.«01_k».proof.Proof.Gen.Reference7Ideal.StepRun
public import proofs.«01_k».proof.Proof.Prompt.Finals
public import Idealize.ShloMosaic.Adequacy
public import Idealize.ShloMosaic.Init

@[expose] public section

set_option maxRecDepth 16384

noncomputable section

namespace Cert.Prompt

open Idealize.ShloMosaic Idealize.SL.Sem Idealize.ShloMosaic.TcCoe
open Cert.Reference7Ideal.Step

/-- The kernel terminates, its semaphores back at zero, its arguments unchanged. -/
theorem frame_kernel : quiescent_Kernel7 := fun m ρ _ => Kernel7.Gen.frame m ρ

theorem frame_ideal : quiescent_Kernel7Ideal := fun m ρ _ => Kernel7Ideal.Gen.frame m ρ

/-- The reference's states from given arguments, one a trip. -/
def states (x : State Ideal) (n : ℕ) : State Ideal := Nat.rec x (fun n s => step n s) n

theorem frame_reference : quiescent_Reference7Ideal := fun m ρ _ =>
  (θ_run Reference7Ideal.defs _ _).mono (fun r h => ⟨fun c => (h c).2.2.2.2, sem_eq_zero_of_no_sems (by decide) r.2⟩)
    (Reference7Ideal.StepRun.run_iter (F := Ideal) m ρ (fun c => states (Reference7Ideal.StepRun.initState m c)) (fun _ => rfl) (fun _ _ => rfl))

/-- The reference's last state, of the kernel's arguments. -/
def finish (m : (ℓ : Loc Kernel7Ideal.nD Kernel7Ideal.τ Kernel7Ideal.sig) → Buf (Elt Ideal) ℓ) (c : Dev Kernel7Ideal.nD) : State Ideal :=
  states (init (m ((c : Thread Kernel7Ideal.nD Kernel7Ideal.τ).loc Kernel7Ideal.main_arg0)) (m ((c : Thread Kernel7Ideal.nD Kernel7Ideal.τ).loc Kernel7Ideal.main_arg2)) (m ((c : Thread Kernel7Ideal.nD Kernel7Ideal.τ).loc Kernel7Ideal.main_arg3)) (m ((c : Thread Kernel7Ideal.nD Kernel7Ideal.τ).loc Kernel7Ideal.main_arg4)) (m ((c : Thread Kernel7Ideal.nD Kernel7Ideal.τ).loc Kernel7Ideal.main_arg5)) (m ((c : Thread Kernel7Ideal.nD Kernel7Ideal.τ).loc Kernel7Ideal.main_arg6)) (m ((c : Thread Kernel7Ideal.nD Kernel7Ideal.τ).loc Kernel7Ideal.main_arg7)) (m ((c : Thread Kernel7Ideal.nD Kernel7Ideal.τ).loc Kernel7Ideal.main_arg8))) 4096

/-- The last state holds the recurrence's states. -/
theorem finish_at (m : (ℓ : Loc Kernel7Ideal.nD Kernel7Ideal.τ Kernel7Ideal.sig) → Buf (Elt Ideal) ℓ) (c : Dev Kernel7Ideal.nD) :
    (∀ s l, (finish m c).main_v85_4 (ix2 s l) = run (Kernel7Ideal.Prompt.decays m c) (Kernel7Ideal.Prompt.inputs m c) s l 4096)
      ∧ ∀ s (k : Fin 4096) l, (finish m c).main_v85_5 (ix3 s k l)
        = run (Kernel7Ideal.Prompt.decays m c) (Kernel7Ideal.Prompt.inputs m c) s l (k.val + 1) := by
  obtain ⟨-, -, hh, hk⟩ := looped (states (init (m ((c : Thread Kernel7Ideal.nD Kernel7Ideal.τ).loc Kernel7Ideal.main_arg0)) (m ((c : Thread Kernel7Ideal.nD Kernel7Ideal.τ).loc Kernel7Ideal.main_arg2)) (m ((c : Thread Kernel7Ideal.nD Kernel7Ideal.τ).loc Kernel7Ideal.main_arg3)) (m ((c : Thread Kernel7Ideal.nD Kernel7Ideal.τ).loc Kernel7Ideal.main_arg4)) (m ((c : Thread Kernel7Ideal.nD Kernel7Ideal.τ).loc Kernel7Ideal.main_arg5)) (m ((c : Thread Kernel7Ideal.nD Kernel7Ideal.τ).loc Kernel7Ideal.main_arg6)) (m ((c : Thread Kernel7Ideal.nD Kernel7Ideal.τ).loc Kernel7Ideal.main_arg7)) (m ((c : Thread Kernel7Ideal.nD Kernel7Ideal.τ).loc Kernel7Ideal.main_arg8)))) (Kernel7Ideal.Prompt.decays m c) (Kernel7Ideal.Prompt.inputs m c) rfl rfl
    (fun s l => by
      change K_main_v83 (F := Ideal) (ix2 s l) = 0
      pointwise [K_main_v83, K_main_cst_7]) (fun _ => rfl) 4096 (le_refl _)
  exact ⟨hh, fun s k l => hk s k l k.isLt⟩

/-- From memories that agree on the arguments, kernel and reference end with the same results. -/
theorem algebraic : algebraic_Kernel7Ideal_Reference7Ideal := by
  intro m g m' g' _ hargs
  refine ⟨fun c => R_main_v121 (finish m c) (m ((c : Thread Kernel7Ideal.nD Kernel7Ideal.τ).loc Kernel7Ideal.main_arg0)) (m ((c : Thread Kernel7Ideal.nD Kernel7Ideal.τ).loc Kernel7Ideal.main_arg1)),
    fun c => R_main_v122 (finish m c) (m ((c : Thread Kernel7Ideal.nD Kernel7Ideal.τ).loc Kernel7Ideal.main_arg0)),
    fun c => R_main_v123 (finish m c) (m ((c : Thread Kernel7Ideal.nD Kernel7Ideal.τ).loc Kernel7Ideal.main_arg0)), fun c => R_main_v125 (finish m c), ?_, ?_⟩
  · exact (θ_run Kernel7Ideal.defs _ _).mono (fun r h c => ⟨(Kernel7Ideal.Value.post12 m r h c).trans (Kernel7Ideal.Prompt.final_rows m c _ (finish_at m c).2),
      (Kernel7Ideal.Value.post13 m r h c).trans (Kernel7Ideal.Prompt.final_sa m c _), (Kernel7Ideal.Value.post14 m r h c).trans (Kernel7Ideal.Prompt.final_sb m c _),
      (Kernel7Ideal.Value.post15 m r h c).trans (Kernel7Ideal.Prompt.final_hl m c _ (finish_at m c).1),
      Kernel7Ideal.Value.kept_main_arg0 m r h c, Kernel7Ideal.Value.kept_main_arg1 m r h c, Kernel7Ideal.Value.kept_main_arg2 m r h c, Kernel7Ideal.Value.kept_main_arg3 m r h c, Kernel7Ideal.Value.kept_main_arg4 m r h c, Kernel7Ideal.Value.kept_main_arg5 m r h c, Kernel7Ideal.Value.kept_main_arg6 m r h c, Kernel7Ideal.Value.kept_main_arg7 m r h c, Kernel7Ideal.Value.kept_main_arg8 m r h c⟩)
      (Kernel7Ideal.Gen.run_main m g)
  · refine (θ_run Reference7Ideal.defs _ _).mono (fun r h c => ?_) (Reference7Ideal.StepRun.run_iter (F := Ideal) m' g'
      (fun c => states (Reference7Ideal.StepRun.initState m' c)) (fun _ => rfl) (fun _ _ => rfl))
    obtain ⟨e0, e1, e2, e3, e4, e5, e6, e7, e8⟩ := hargs c
    have e : states (Reference7Ideal.StepRun.initState m' c) 4096 = finish m c := by
      unfold Reference7Ideal.StepRun.initState finish
      rw [e0, e2, e3, e4, e5, e6, e7, e8]
    refine ⟨?_, ?_, ?_, ?_, (h c).2.2.2.2⟩
    · refine (h c).1.trans ?_
      rw [e, e0, e1]
    · refine (h c).2.1.trans ?_
      rw [e, e0]
    · refine (h c).2.2.1.trans ?_
      rw [e, e0]
    · refine (h c).2.2.2.1.trans ?_
      rw [e]

end Cert.Prompt

end
-- ==== Proof.Router.Math.lean ====
/- The largest of a row, its first place, and the counts of the rows before one: over 128 lanes as over 8. -/
module

public import Idealize.ShloMosaic.Lib.Pipeline.ValueKit
public import Idealize.ShloMosaic.Lib.Claim

@[expose] public section

noncomputable section

namespace Cert.Router

open Idealize.ShloMosaic

/-- The largest entry of a row. -/
def top {n : ℕ} (L : Fin n → EReal) : EReal := Finset.univ.fold max ⊥ L

/-- The first place at which a row takes the value `v`; `d` stands where it does not. -/
def place {n : ℕ} (d : BitVec 32) (v : EReal) (L : Fin n → EReal) : BitVec 32 :=
  Finset.univ.fold IntOp.minsi 2147483647#32 fun j => if L j = v then BitVec.ofNat 32 j.val else d

/-- A row without the entry at place `p`. -/
def rest {n : ℕ} (p : BitVec 32) (L : Fin n → EReal) : Fin n → EReal := fun j => if BitVec.ofNat 32 j.val = p then ⊥ else L j

/-- A row of 8 in 128 lanes, the others at −∞. -/
def wide (L : Fin 8 → EReal) : Fin 128 → EReal := fun l => if h : l.val < 8 then L ⟨l.val, h⟩ else ⊥

theorem top_eq_sup {n : ℕ} (L : Fin n → EReal) : top L = Finset.univ.sup L := rfl

/-- The largest is the same over 128 lanes. -/
theorem top_wide (L : Fin 8 → EReal) : top (wide L) = top L := by
  rw [top_eq_sup, top_eq_sup]
  refine le_antisymm (Finset.sup_le fun l _ => ?_) (Finset.sup_le fun j _ => ?_)
  · unfold wide
    split
    · exact Finset.le_sup (f := L) (Finset.mem_univ _)
    · exact bot_le
  · have e : L j = wide L ⟨j.val, by omega⟩ := by
      unfold wide
      rw [dif_pos j.isLt]
    rw [e]
    exact Finset.le_sup (f := wide L) (Finset.mem_univ _)

/-- Some entry is the largest. -/
theorem top_mem (L : Fin 8 → EReal) : ∃ j, L j = top L := by
  obtain ⟨j, _, h⟩ := Finset.exists_mem_eq_sup Finset.univ ⟨0, Finset.mem_univ _⟩ L
  exact ⟨j, h.symm⟩

theorem minsi_toInt (a b : BitVec 32) : (IntOp.minsi a b).toInt = min a.toInt b.toInt := by
  unfold IntOp.minsi
  split <;> rename_i h
  all_goals
    first
    | (have h' := BitVec.sle_iff_toInt_le.mp h; omega)
    | (have h' := BitVec.slt_iff_toInt_lt.mp h; omega)
    | (have h' : ¬ a.toInt ≤ b.toInt := fun q => h (BitVec.sle_iff_toInt_le.mpr q); omega)
    | (have h' : ¬ a.toInt < b.toInt := fun q => h (BitVec.slt_iff_toInt_lt.mpr q); omega)

theorem fold_toInt {n : ℕ} (b : BitVec 32) (f : Fin n → BitVec 32) :
    (Finset.univ.fold IntOp.minsi b f).toInt = Finset.univ.fold min b.toInt fun j => (f j).toInt := by
  refine (Finset.fold_hom (op := IntOp.minsi) (op' := min) (m := BitVec.toInt) ?_).symm
  exact fun a b => minsi_toInt a b

theorem ofNat_toInt (k : ℕ) (h : k < 128) : (BitVec.ofNat 32 k).toInt = k := by
  rw [BitVec.toInt_eq_toNat_of_lt (by rw [BitVec.toNat_ofNat]; omega), BitVec.toNat_ofNat, Nat.mod_eq_of_lt (by omega)]

/-- The place of an entry that occurs is one of the 8. -/
theorem place_eq {L : Fin 8 → EReal} {v : EReal} (hv : ∃ j, L j = v) : ∃ j : Fin 8, place 8#32 v L = BitVec.ofNat 32 j.val := by
  obtain ⟨j, hj⟩ := hv
  have e := fold_toInt 2147483647#32 fun j : Fin 8 => if L j = v then BitVec.ofNat 32 j.val else 8#32
  have hle : (place 8#32 v L).toInt ≤ j.val := by
    unfold place
    rw [e, Finset.fold_min_le]
    right
    refine ⟨j, Finset.mem_univ _, ?_⟩
    rw [if_pos hj, ofNat_toInt _ (by omega)]
  have hge : 0 ≤ (place 8#32 v L).toInt := by
    unfold place
    rw [e, Finset.le_fold_min]
    refine ⟨by decide, fun i _ => ?_⟩
    split
    · rw [ofNat_toInt _ (by omega)]
      omega
    · decide
  refine ⟨⟨(place 8#32 v L).toInt.toNat, by omega⟩, BitVec.eq_of_toInt_eq ?_⟩
  rw [ofNat_toInt _ (by simp only []; omega)]
  simp only []
  omega

/-- The place is the same over 128 lanes. -/
theorem place_wide {L : Fin 8 → EReal} {v : EReal} (hv : ∃ j, L j = v) : place 128#32 v (wide L) = place 8#32 v L := by
  obtain ⟨j, hj⟩ := hv
  have e := fold_toInt 2147483647#32 fun j : Fin 8 => if L j = v then BitVec.ofNat 32 j.val else 8#32
  have e' := fold_toInt 2147483647#32 fun j : Fin 128 => if wide L j = v then BitVec.ofNat 32 j.val else 128#32
  refine BitVec.eq_of_toInt_eq (le_antisymm ?_ ?_)
  · unfold place
    rw [e, Finset.le_fold_min]
    rw [e']
    refine ⟨by rw [Finset.fold_min_le]; exact Or.inl le_rfl, fun i _ => ?_⟩
    rw [Finset.fold_min_le]
    right
    by_cases hi : L i = v
    · refine ⟨⟨i.val, by omega⟩, Finset.mem_univ _, ?_⟩
      have q : wide L ⟨i.val, by omega⟩ = L i := by unfold wide; rw [dif_pos i.isLt]
      rw [q, if_pos hi, if_pos hi]
    · refine ⟨⟨j.val, by omega⟩, Finset.mem_univ _, ?_⟩
      have q : wide L ⟨j.val, by omega⟩ = L j := by unfold wide; rw [dif_pos j.isLt]
      rw [q, if_pos hj, if_neg hi, ofNat_toInt _ (by simp only []; omega), ofNat_toInt 8 (by omega)]
      simp only []
      omega
  · unfold place
    rw [e', Finset.le_fold_min]
    rw [e]
    refine ⟨by rw [Finset.fold_min_le]; exact Or.inl le_rfl, fun l _ => ?_⟩
    rw [Finset.fold_min_le]
    right
    by_cases hl : wide L l = v ∧ l.val < 8
    · refine ⟨⟨l.val, hl.2⟩, Finset.mem_univ _, ?_⟩
      have q : L ⟨l.val, hl.2⟩ = v := by have := hl.1; unfold wide at this; rwa [dif_pos hl.2] at this
      rw [if_pos q, if_pos hl.1]
    · refine ⟨j, Finset.mem_univ _, ?_⟩
      rw [if_pos hj, ofNat_toInt _ (by omega)]
      split
      · rename_i h
        have : ¬ l.val < 8 := fun q => hl ⟨h, q⟩
        rw [ofNat_toInt _ (by omega)]
        omega
      · have : (128#32 : BitVec 32).toInt = 128 := by decide
        omega

/-- Taking an entry out and widening commute. -/
theorem rest_wide (p : BitVec 32) (L : Fin 8 → EReal) : rest p (wide L) = wide (rest p L) := by
  funext l
  unfold rest wide
  by_cases h : l.val < 8
  · simp only [dif_pos h]
  · simp only [dif_neg h, ite_self]

/-- A lane beyond the 8 is no place of an entry. -/
theorem lane_ne {p : BitVec 32} (hp : ∃ j : Fin 8, p = BitVec.ofNat 32 j.val) (l : ℕ) (hl : l < 128) (h8 : 8 ≤ l) :
    BitVec.ofNat 32 l ≠ p := by
  obtain ⟨j, rfl⟩ := hp
  intro h
  have := congrArg BitVec.toInt h
  rw [ofNat_toInt _ hl, ofNat_toInt _ (by omega)] at this
  omega

/-- The mark of a lane: 1 at the two places, 0 elsewhere. -/
def mark (p q : BitVec 32) (l : ℕ) : EReal :=
  Scalar.select (IntOp.ori (IntOp.cmpi .eq (BitVec.ofNat 32 l) p) (IntOp.cmpi .eq (BitVec.ofNat 32 l) q)) 1 0

/-- What a row picks of its lanes at a place. -/
def pick (p : BitVec 32) (l : ℕ) (b : EReal) : EReal := Scalar.select (IntOp.cmpi .eq (BitVec.ofNat 32 l) p) b 0

theorem cmpi_ne {a b : BitVec 32} (h : a ≠ b) : IntOp.cmpi .eq a b = 0#1 := by
  have e : (a == b) = false := by simpa using h
  simp [IntOp.cmpi, e]

theorem mark_far {p q : BitVec 32} (hp : ∃ j : Fin 8, p = BitVec.ofNat 32 j.val) (hq : ∃ j : Fin 8, q = BitVec.ofNat 32 j.val)
    (l : ℕ) (hl : l < 128) (h8 : 8 ≤ l) : mark p q l = 0 := by
  unfold mark
  rw [cmpi_ne (lane_ne hp l hl h8), cmpi_ne (lane_ne hq l hl h8)]
  rfl

theorem pick_far {p : BitVec 32} (hp : ∃ j : Fin 8, p = BitVec.ofNat 32 j.val) (l : ℕ) (hl : l < 128) (h8 : 8 ≤ l) (b : EReal) :
    pick p l b = 0 := by
  unfold pick
  rw [cmpi_ne (lane_ne hp l hl h8)]
  rfl

/-- What is zero beyond the 8 has the same sum over 128 lanes. -/
theorem sum_lanes (f : Fin 128 → EReal) (hf : ∀ l : Fin 128, 8 ≤ l.val → f l = 0) :
    ∑ l : Fin 128, f l = ∑ j : Fin 8, f ⟨j.val, by omega⟩ := by
  have h := Fin.sum_univ_add (a := 8) (b := 120) (f := f)
  refine h.trans ?_
  rw [Finset.sum_eq_zero (s := (Finset.univ : Finset (Fin 120))) fun l _ => hf _ (by simp), add_zero]
  rfl

theorem select_eq (a b : BitVec 32) (u v : EReal) : Scalar.select (IntOp.cmpi .eq a b) u v = if a = b then u else v := by
  by_cases h : a = b
  · subst h
    simp [IntOp.cmpi, Scalar.select]
  · rw [cmpi_ne h, if_neg h]
    rfl

theorem cmpi_sgt (a b : ℕ) (ha : a < 2 ^ 31) (hb : b < 2 ^ 31) :
    IntOp.cmpi .sgt (BitVec.ofNat 32 a) (BitVec.ofNat 32 b) = if b < a then 1#1 else 0#1 := by
  have e (k : ℕ) (h : k < 2 ^ 31) : (BitVec.ofNat 32 k).toInt = k := by
    rw [BitVec.toInt_eq_toNat_of_lt (by rw [BitVec.toNat_ofNat]; omega), BitVec.toNat_ofNat, Nat.mod_eq_of_lt (by omega)]
  have q : (BitVec.ofNat 32 b).slt (BitVec.ofNat 32 a) = decide (b < a) := by
    rw [Bool.eq_iff_iff, BitVec.slt_iff_toInt_lt, e a ha, e b hb, decide_eq_true_iff]
    omega
  unfold IntOp.cmpi
  simp only [q]
  by_cases h : b < a <;> simp [h]

/-- The sum of the entries before a place, chosen by comparison. -/
theorem sum_before (n r : ℕ) (hr : r ≤ n) (hn : n < 2 ^ 31) (f : ℕ → EReal) :
    ∑ k : Fin n, Scalar.select (IntOp.cmpi .sgt (BitVec.ofNat 32 r) (BitVec.ofNat 32 k.val)) (f k.val) 0
      = ∑ k ∈ Finset.range r, f k := by
  have e : ∀ k : Fin n, Scalar.select (IntOp.cmpi .sgt (BitVec.ofNat 32 r) (BitVec.ofNat 32 k.val)) (f k.val) 0
      = if k.val < r then f k.val else 0 := by
    intro k
    rw [cmpi_sgt _ _ (by omega) (by omega)]
    by_cases h : k.val < r
    · rw [if_pos h, if_pos h]
      rfl
    · rw [if_neg h, if_neg h]
      rfl
  simp only [e]
  rw [Fin.sum_univ_eq_sum_range (fun k => if k < r then f k else 0) n,
    ← Finset.sum_subset (Finset.range_subset_range.mpr hr)]
  · exact Finset.sum_congr rfl fun k hk => if_pos (Finset.mem_range.mp hk)
  · exact fun k _ hk => if_neg fun h => hk (Finset.mem_range.mpr h)

end Cert.Router

end
-- ==== Proof.Router.Reference.lean ====
/- What the router's reference holds: the two places of each row, their weights, and the counts of the rows before. -/
module

public import proofs.«01_k».proof.Proof.Gen.Reference8Ideal.Read
public import proofs.«01_k».proof.Proof.Router.Math

@[expose] public section

set_option maxRecDepth 16384

noncomputable section

namespace Cert.Router

open Cert.Reference8Ideal Cert.Reference8Ideal.Gen
open Idealize.ShloMosaic Idealize.SL.Sem Idealize.ShloMosaic.TcCoe
open Cert.Reference8Ideal.Read

variable (x : FVec Ideal S16640x1024 .f32) (g : FVec Ideal S1024 .f32) (w : FVec Ideal S1024x8 .f32)

/-- A row's logits. -/
def row (r : Fin 16640) : Fin 8 → EReal := fun j => val_main_v13 (F := Ideal) x g w (ix2 r j)

/-- The place of a row's largest logit. -/
def one (r : Fin 16640) : BitVec 32 := place 8#32 (top (row x g w r)) (row x g w r)

/-- A row's logits without the largest. -/
def left (r : Fin 16640) : Fin 8 → EReal := rest (one x g w r) (row x g w r)

/-- The place of the largest of them. -/
def two (r : Fin 16640) : BitVec 32 := place 8#32 (top (left x g w r)) (left x g w r)

theorem one_eq (r : Fin 16640) : ∃ j : Fin 8, one x g w r = BitVec.ofNat 32 j.val := place_eq (top_mem _)

theorem two_eq (r : Fin 16640) : ∃ j : Fin 8, two x g w r = BitVec.ofNat 32 j.val := place_eq (top_mem _)

/-- The exponential of the second logit, relative to the first. -/
def second (r : Fin 16640) : EReal := Ideal.exp (top (left x g w r) - top (row x g w r))

/-- The marks of row `i`. -/
def marks (i l : ℕ) : EReal := if h : i < 16640 then mark (one x g w ⟨i, h⟩) (two x g w ⟨i, h⟩) l else 0

/-- The marks of the rows before `n`, counted lane by lane. -/
def acc (n l : ℕ) : EReal := ∑ i ∈ Finset.range n, marks x g w i l

theorem marks_far (i l : ℕ) (hl : l < 128) (h8 : 8 ≤ l) : marks x g w i l = 0 := by
  unfold marks
  split
  · exact mark_far (one_eq x g w _) (two_eq x g w _) l hl h8
  · rfl

theorem acc_far (n l : ℕ) (hl : l < 128) (h8 : 8 ≤ l) : acc x g w n l = 0 :=
  Finset.sum_eq_zero fun i _ => marks_far x g w i l hl h8

theorem neg_inf : Ideal.ofBits FTy.f32 4286578688#32 = (⊥ : EReal) := by
  simp [Ideal.ofBits, Ideal.ieee]

theorem ref_top (r : Fin 16640) : val_main_v16 (F := Ideal) x g w (ix2 r 0) = top (row x g w r) := by
  pointwise [val_main_v16, val_main_v15, val_main_cst_2]
  rw [neg_inf]
  rfl

theorem ref_one (r : Fin 16640) : val_main_v21 (F := Ideal) x g w (ix2 r 0) = one x g w r := by
  have h := ref_top x g w r
  generalize hz : val_main_v16 (F := Ideal) x g w = Z at h
  pointwise [val_main_v21, val_main_v20, val_main_v19, val_main_v18, val_main_v17, val_main_v14, val_main_c, val_main_call0_v0,
    val_main_call0_v1, val_main_c_3, hz]
  rw [h]
  rfl

theorem ref_left (r : Fin 16640) (j : Fin 8) : val_main_v24 (F := Ideal) x g w (ix2 r j) = left x g w r j := by
  have h := ref_one x g w r
  generalize hz : val_main_v21 (F := Ideal) x g w = Z at h
  pointwise [val_main_v24, val_main_v23, val_main_v22, val_main_v14, val_main_call1_v0, val_main_call1_v1, val_main_cst_4, hz]
  rw [h]
  unfold left rest
  rw [select_eq]
  refine if_congr Iff.rfl neg_inf rfl

theorem ref_next (r : Fin 16640) : val_main_v27 (F := Ideal) x g w (ix2 r 0) = top (left x g w r) := by
  have h := ref_left x g w r
  generalize hz : val_main_v24 (F := Ideal) x g w = Z at h
  pointwise [val_main_v27, val_main_v26, val_main_cst_5, hz]
  rw [neg_inf]
  simp only [h]
  rfl

theorem ref_two (r : Fin 16640) : val_main_v32 (F := Ideal) x g w (ix2 r 0) = two x g w r := by
  have h := ref_next x g w r
  have h' := ref_left x g w r
  generalize hz : val_main_v27 (F := Ideal) x g w = Z at h
  generalize hy : val_main_v24 (F := Ideal) x g w = Y at h'
  pointwise [val_main_v32, val_main_v31, val_main_v30, val_main_v29, val_main_v28, val_main_v25, val_main_c_6, val_main_call2_v0,
    val_main_call2_v1, val_main_c_7, hz, hy]
  simp only [h, h']
  rfl

theorem ref_marks (r : Fin 16640) (j : Fin 8) : val_main_v39 (F := Ideal) x g w (ix2 r j) = marks x g w r.val j.val := by
  have h := ref_one x g w r
  have h' := ref_two x g w r
  generalize hz : val_main_v21 (F := Ideal) x g w = Z at h
  generalize hy : val_main_v32 (F := Ideal) x g w = Y at h'
  unfold marks
  rw [dif_pos r.isLt]
  change val_main_v38 (F := Ideal) x g w (ix2 r j) = _
  pointwise [val_main_v38, val_main_v37, val_main_v34, val_main_v33, val_main_v25, val_main_v23, val_main_v22, val_main_v14,
    val_main_call3_v0, val_main_call3_v1, val_main_cst_8, val_main_cst_9, hz, hy]
  rw [h, h']
  rfl

theorem ref_acc (r : Fin 16640) (j : Fin 8) : val_main_v44 (F := Ideal) x g w (ix2 r j) = acc x g w r.val j.val := by
  have h := ref_marks x g w
  generalize hz : val_main_v39 (F := Ideal) x g w = Z at h
  pointwise [val_main_v44, val_main_v43, val_main_v42, val_main_v41, val_main_v40, val_main_call4_v0, val_main_call4_v1, val_main_cst_10,
    val_main_cst_11, hz]
  simp only [h]
  exact sum_before 16640 r.val (by omega) (by omega) fun k => marks x g w k j.val

theorem ref_rank_one (r : Fin 16640) : val_main_v47 (F := Ideal) x g w (ix2 r 0)
    = ∑ l : Fin 128, pick (one x g w r) l.val (acc x g w r.val l.val) := by
  have h := ref_one x g w r
  have h' := ref_acc x g w r
  rw [sum_lanes _ fun l hl => pick_far (one_eq x g w r) l.val l.isLt hl _]
  generalize hz : val_main_v21 (F := Ideal) x g w = Z at h
  generalize hy : val_main_v44 (F := Ideal) x g w = Y at h'
  pointwise [val_main_v47, val_main_v46, val_main_v45, val_main_v23, val_main_v22, val_main_v14, val_main_call5_v0, val_main_call5_v1, val_main_cst_12,
    val_main_cst_13, hz, hy]
  simp only [h, h']
  have e : (id (constant (F := Ideal) S_ FTy.f32 0#32) ix0 : EReal) = 0 := Ideal.ofBits_zero_f32
  rw [e]
  rfl

theorem ref_rank_two (r : Fin 16640) : val_main_v50 (F := Ideal) x g w (ix2 r 0)
    = ∑ l : Fin 128, pick (two x g w r) l.val (acc x g w r.val l.val) := by
  have h := ref_two x g w r
  have h' := ref_acc x g w r
  rw [sum_lanes _ fun l hl => pick_far (two_eq x g w r) l.val l.isLt hl _]
  generalize hz : val_main_v32 (F := Ideal) x g w = Z at h
  generalize hy : val_main_v44 (F := Ideal) x g w = Y at h'
  pointwise [val_main_v50, val_main_v49, val_main_v48, val_main_v34, val_main_v33, val_main_v25, val_main_call6_v0, val_main_call6_v1, val_main_cst_14,
    val_main_cst_15, hz, hy]
  simp only [h, h']
  have e : (id (constant (F := Ideal) S_ FTy.f32 0#32) ix0 : EReal) = 0 := Ideal.ofBits_zero_f32
  rw [e]
  rfl

theorem ref_counts (q : Fin 8) (l : Fin 128) : val_main_v82 (F := Ideal) x g w (ix2 q l) = acc x g w 16640 l.val := by
  have h := ref_marks x g w
  generalize hz : val_main_v39 (F := Ideal) x g w = Z at h
  pointwise [val_main_v82, val_main_v81, val_main_v80, val_main_call13_v0, val_main_c_27, val_main_cst_26, hz]
  simp only [h]
  by_cases hl : l.val < 8
  · rw [dif_pos hl]
    exact Fin.sum_univ_eq_sum_range (fun k => marks x g w k l.val) 16640
  · rw [dif_neg hl, acc_far x g w _ _ l.isLt (by omega)]
    simp [FloatOps.sitofp]

/-- The six columns of a row of the route, zero in the other lanes. -/
def columns (a b : EReal) (p q : BitVec 32) (u v : EReal) (l : Fin 128) : EReal :=
  Scalar.select (IntOp.cmpi .eq (BitVec.ofNat 32 l.val) 5#32) v
    (Scalar.select (IntOp.cmpi .eq (BitVec.ofNat 32 l.val) 4#32) u
      (Scalar.select (IntOp.cmpi .eq (BitVec.ofNat 32 l.val) 3#32) (FloatOps.sitofp (F := Ideal) FTy.f32 q)
        (Scalar.select (IntOp.cmpi .eq (BitVec.ofNat 32 l.val) 2#32) (FloatOps.sitofp (F := Ideal) FTy.f32 p)
          (Scalar.select (IntOp.cmpi .eq (BitVec.ofNat 32 l.val) 1#32) b
            (Scalar.select (IntOp.cmpi .eq (BitVec.ofNat 32 l.val) 0#32) a 0)))))

/-- The route of row `r`. -/
def routed (r : Fin 16640) (l : Fin 128) : EReal :=
  columns (Ideal.div 1 (1 + second x g w r)) (Ideal.div (second x g w r) (1 + second x g w r)) (one x g w r) (two x g w r)
    (∑ l : Fin 128, pick (one x g w r) l.val (acc x g w r.val l.val)) (∑ l : Fin 128, pick (two x g w r) l.val (acc x g w r.val l.val)) l

theorem ref_route (r : Fin 16640) (l : Fin 128) : val_main_v79 (F := Ideal) x g w (ix2 r l) = routed x g w r l := by
  have h1 := ref_one x g w r
  have h2 := ref_two x g w r
  have h3 := ref_rank_one x g w r
  have h4 := ref_rank_two x g w r
  have h5 := ref_top x g w r
  have h6 := ref_next x g w r
  generalize hz1 : val_main_v21 (F := Ideal) x g w = Z1 at h1
  generalize hz2 : val_main_v32 (F := Ideal) x g w = Z2 at h2
  generalize hz3 : val_main_v47 (F := Ideal) x g w = Z3 at h3
  generalize hz4 : val_main_v50 (F := Ideal) x g w = Z4 at h4
  generalize hz5 : val_main_v16 (F := Ideal) x g w = Z5 at h5
  generalize hz6 : val_main_v27 (F := Ideal) x g w = Z6 at h6
  pointwise [val_main_v79, val_main_v78, val_main_v77, val_main_v76, val_main_v75, val_main_v74, val_main_v73, val_main_v72, val_main_v71, val_main_v70,
    val_main_v69, val_main_v68, val_main_v67, val_main_v66, val_main_v65, val_main_v64, val_main_v63, val_main_v62, val_main_v61, val_main_v60, val_main_v59,
    val_main_v58, val_main_v57, val_main_v56, val_main_v55, val_main_v54, val_main_v53, val_main_v52, val_main_v51, val_main_v36, val_main_v35,
    val_main_call7_v0, val_main_call8_v0, val_main_call9_v0, val_main_call10_v0, val_main_call11_v0, val_main_call12_v0,
    val_main_cst_16, val_main_cst_17, val_main_cst_18, val_main_cst_19, val_main_c_20, val_main_c_21, val_main_c_22, val_main_c_23, val_main_c_24, val_main_c_25,
    hz1, hz2, hz3, hz4, hz5, hz6]
  rw [h1, h2, h3, h4, h5, h6]
  rfl

end Cert.Router

end
-- ==== Proof.Router.Point.lean ====
/- What a tile of the router computes of its rows: the two places and the marks. -/
module

public import proofs.«01_k».proof.Proof.Gen.Kernel8Ideal.Value
public import proofs.«01_k».proof.Proof.Router.Reference

@[expose] public section

set_option maxRecDepth 16384

noncomputable section

namespace Cert.Kernel8Ideal.Router

open Cert.Kernel8Ideal Cert.Kernel8Ideal.Gen Cert.Router
open Idealize.ShloMosaic Idealize.SL.Sem Idealize.ShloMosaic.TcCoe
open Cert.Reference8Ideal.Read

variable (m : (ℓ : Loc nD τ sig) → Buf (Elt Ideal) ℓ)

/-- The windows' block indices. -/
theorem idx : ∀ t : Fin cfg0.N, win0_0.index t = ![t.val, 0] ∧ win0_1.index t = ![0, 0] ∧
    win0_2.index t = ![0, 0] ∧ win0_3.index t = ![0, 0] ∧ win0_4.index t = ![t.val, 0] ∧ win0_5.index t = ![0, 0] :=
  (by decide +kernel : ∀ t : Fin grid0.N, _)

/-- There are 13 points. -/
theorem point_lt (t : Fin cfg0.N) : t.val < 13 := lt_of_lt_of_eq t.isLt (by decide +kernel)

/-- The row of the array that a point's row is. -/
def at_ (t : Fin cfg0.N) (r : Fin 1280) : Fin 16640 := ⟨1280 * t.val + r.val, by have := point_lt t; omega⟩

/-- The host's lines before the region, as one list. -/
theorem lines : ([hostOps0, hostOps0_1, hostOps0_2].flatten : List (HloOp τ sig (Elt Ideal))) = hostOps0 ++ (hostOps0_1 ++ hostOps0_2) := rfl

/-- The strictly lower triangle. -/
theorem tri (c : Dev nD) (t : Fin cfg0.N) (a b : Fin 256) : iblk m c 3 t (ix2 a b) = if b.val < a.val then (1 : EReal) else 0 := by
  have e : (win0_3.blk t).view.emb (ix2 a b) = ix2 a b := by blk_ext [idx t]
  blk_simp [iblk]
  rw [e]
  unfold V
  rw [lines]
  simp only [hostOps0, hostOps0_1, hostOps0_2, List.cons_append, List.nil_append]
  entry_read
  pointwise
  rw [cmpi_sgt _ _ (by omega) (by omega)]
  by_cases h : b.val < a.val
  · rw [if_pos h, if_pos h]
    simp [FloatOps.uitofp]
  · rw [if_neg h, if_neg h]
    simp [FloatOps.uitofp]

/-- The rows of a point. -/
theorem in_x (c : Dev nD) (t : Fin cfg0.N) (r : Fin 1280) (k : Fin 1024) :
    iblk m c 0 t (ix2 r k) = m ((c : Thread nD τ).loc main_arg0) (ix2 (at_ t r) k) := by
  have e : (win0_0.blk t).view.emb (ix2 r k) = ix2 (at_ t r) k := by unfold at_; blk_ext [idx t]
  blk_simp [iblk]
  rw [e]
  unfold V
  rw [lines]
  simp only [hostOps0, hostOps0_1, hostOps0_2, List.cons_append, List.nil_append]
  entry_read
  rfl

/-- The norm's scale. -/
theorem in_g (c : Dev nD) (t : Fin cfg0.N) (k : Fin 1024) :
    iblk m c 1 t (ix2 0 k) = m ((c : Thread nD τ).loc main_arg1) (ix1 k) := by
  have e : (win0_1.blk t).view.emb (ix2 0 k) = ix2 0 k := by blk_ext [idx t]
  blk_simp [iblk]
  rw [e]
  unfold V
  rw [lines]
  simp only [hostOps0, hostOps0_1, hostOps0_2, List.cons_append, List.nil_append]
  entry_read
  pointwise

theorem padded (W : FVec Ideal S1024x8 .f32) (z : FVec Ideal S_ .f32) (k : Fin 1024) (l : Fin 128) (h : l.val < 8) :
    pad S1024x128 ![0, 0] ![0, 120] ![0, 0] W z pads_S1024x8_S1024x128_000_01200 h_S_ (ix2 k l) = W (ix2 k ⟨l.val, h⟩) := by
  pointwise
  rw [dif_pos h]

/-- The router's weights, zeros beyond the 8 experts. -/
theorem in_w (c : Dev nD) (t : Fin cfg0.N) (k : Fin 1024) (l : Fin 128) (h : l.val < 8) :
    iblk m c 2 t (ix2 k l) = m ((c : Thread nD τ).loc main_arg2) (ix2 k ⟨l.val, h⟩) := by
  have e : (win0_2.blk t).view.emb (ix2 k l) = ix2 k l := by blk_ext [idx t]
  blk_simp [iblk]
  rw [e]
  unfold V
  rw [lines]
  simp only [hostOps0, hostOps0_1, hostOps0_2, List.cons_append, List.nil_append]
  entry_read
  exact padded (m ((c : Thread nD τ).loc main_arg2)) _ k l h

theorem cmpi_slt (l : ℕ) (hl : l < 128) : IntOp.cmpi .slt (BitVec.ofNat 32 l) 8#32 = if l < 8 then 1#1 else 0#1 := by
  have := cmpi_sgt 8 l (by omega) (by omega)
  exact this

/-- The masked logits of a point. -/
theorem logits (c : Dev nD) (t : Fin cfg0.N) (r : Fin 1280) (l : Fin 128) :
    k0_pay5 (F := Ideal) (iblk m c 0 t) (iblk m c 1 t) (iblk m c 2 t) (ix2 r l)
      = wide (row (m ((c : Thread nD τ).loc main_arg0)) (m ((c : Thread nD τ).loc main_arg1)) (m ((c : Thread nD τ).loc main_arg2)) (at_ t r)) l := by
  unfold wide row
  pointwise [k0_pay5, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1]
  rw [cmpi_slt l.val l.isLt]
  by_cases h : l.val < 8
  · rw [if_pos h, dif_pos h]
    simp only [in_x, in_g, in_w m c t _ l h]
    rfl
  · rw [if_neg h, dif_neg h]
    exact neg_inf

variable {R : Fin 1280 → Fin 8 → EReal} {a : Vec Ideal S1280x1024 .f32} {b : Vec Ideal S1x1024 .f32} {d : Vec Ideal S1024x128 .f32}

theorem pt_top (h : ∀ r l, k0_pay5 (F := Ideal) a b d (ix2 r l) = wide (R r) l) (r : Fin 1280) :
    k0_pay6 (F := Ideal) a b d (ix2 r 0) = top (R r) := by
  generalize hz : k0_pay5 (F := Ideal) a b d = Z at h
  pointwise [k0_pay6, hz]
  rw [neg_inf, ← top_wide]
  simp only [h]
  rfl

theorem pt_one (h : ∀ r l, k0_pay5 (F := Ideal) a b d (ix2 r l) = wide (R r) l) (r : Fin 1280) :
    k0_pay7 (F := Ideal) a b d (ix2 r 0) = place 8#32 (top (R r)) (R r) := by
  have h' := pt_top h r
  rw [← place_wide (top_mem _)]
  generalize hz : k0_pay5 (F := Ideal) a b d = Z at h
  generalize hy : k0_pay6 (F := Ideal) a b d = Y at h'
  pointwise [k0_pay7, hz, hy]
  simp only [h, h']
  rfl

/-- A row without its largest entry. -/
abbrev less (L : Fin 8 → EReal) : Fin 8 → EReal := rest (place 8#32 (top L) L) L

theorem pt_left (h : ∀ r l, k0_pay5 (F := Ideal) a b d (ix2 r l) = wide (R r) l) (r : Fin 1280) (l : Fin 128) :
    k0_pay8 (F := Ideal) a b d (ix2 r l) = wide (less (R r)) l := by
  have h' := pt_one h r
  rw [← rest_wide]
  generalize hz : k0_pay5 (F := Ideal) a b d = Z at h
  generalize hy : k0_pay7 (F := Ideal) a b d = Y at h'
  pointwise [k0_pay8, hz, hy]
  rw [h, h', select_eq]
  exact if_congr Iff.rfl neg_inf rfl

theorem pt_next (h : ∀ r l, k0_pay5 (F := Ideal) a b d (ix2 r l) = wide (R r) l) (r : Fin 1280) :
    k0_pay9 (F := Ideal) a b d (ix1 r) = top (less (R r)) := by
  have h' := pt_left h r
  generalize hy : k0_pay8 (F := Ideal) a b d = Y at h'
  pointwise [k0_pay9, hy]
  rw [neg_inf, ← top_wide]
  simp only [h']
  rfl

/-- The lanes' numbers. -/
abbrev lanes : IVec S1280x128 32 := iota .tc S1280x128 32 [1] iota_S1280x128_d1_w32

theorem pt_two (h : ∀ r l, k0_pay5 (F := Ideal) a b d (ix2 r l) = wide (R r) l) (r : Fin 1280) :
    k0_pay11 (F := Ideal) lanes (k0_pay8 (F := Ideal) a b d) (k0_pay9 (F := Ideal) a b d) (ix2 r 0)
      = place 8#32 (top (less (R r))) (less (R r)) := by
  have h' := pt_left h r
  have h'' := pt_next h r
  rw [← place_wide (top_mem _)]
  generalize k0_pay8 (F := Ideal) a b d = Z at h'
  generalize k0_pay9 (F := Ideal) a b d = Y at h''
  pointwise [k0_pay11, k0_pay10]
  simp only [h', h'']
  rfl

theorem pt_mark (h : ∀ r l, k0_pay5 (F := Ideal) a b d (ix2 r l) = wide (R r) l) (r : Fin 1280) (l : Fin 128) :
    k0_pay16 (F := Ideal) lanes (k0_pay7 (F := Ideal) a b d) (k0_pay8 (F := Ideal) a b d) (k0_pay9 (F := Ideal) a b d) (ix2 r l)
      = mark (place 8#32 (top (R r)) (R r)) (place 8#32 (top (less (R r))) (less (R r))) l.val := by
  have h' := pt_one h r
  have h'' := pt_two h r
  generalize hz : k0_pay11 (F := Ideal) lanes (k0_pay8 (F := Ideal) a b d) (k0_pay9 (F := Ideal) a b d) = Z at h''
  generalize k0_pay7 (F := Ideal) a b d = Y at h'
  pointwise [k0_pay16, k0_pay14, k0_pay15, hz]
  rw [h', h'']
  rfl

end Cert.Kernel8Ideal.Router

end
-- ==== Proof.Router.Counts.lean ====
/- The running counts of a tile of the router: five blocks of 256 rows, each over the counts of the rows before it. -/
module

public import proofs.«01_k».proof.Proof.Router.Point

@[expose] public section

set_option maxRecDepth 16384

noncomputable section

namespace Cert.Kernel8Ideal.Router

open Cert.Kernel8Ideal Cert.Kernel8Ideal.Gen Cert.Router
open Idealize.ShloMosaic Idealize.SL.Sem Idealize.ShloMosaic.TcCoe

/-- The sum of the first `n` of a sequence. -/
abbrev upto (f : ℕ → ℕ → EReal) (n l : ℕ) : EReal := ∑ i ∈ Finset.range n, f i l

/-- A block's rows added to the counts before it. -/
theorem add_block (f : ℕ → ℕ → EReal) (B l : ℕ) : upto f B l + ∑ r : Fin 256, f (B + r.val) l = upto f (B + 256) l := by
  rw [Fin.sum_univ_eq_sum_range (fun r => f (B + r) l) 256]
  exact (Finset.sum_range_add (fun i => f i l) B 256).symm

/-- A row's count: the triangle's product over its block, and the counts before the block. -/
theorem add_rows (f : ℕ → ℕ → EReal) (B l : ℕ) (r : Fin 256) :
    ∑ k : Fin 256, (if k.val < r.val then (1 : EReal) else 0) * f (B + k.val) l + upto f B l = upto f (B + r.val) l := by
  have e : ∀ k : Fin 256, (if k.val < r.val then (1 : EReal) else 0) * f (B + k.val) l = if k.val < r.val then f (B + k.val) l else 0 := by
    intro k
    split
    · rw [one_mul]
    · rw [zero_mul]
  simp only [e]
  rw [Fin.sum_univ_eq_sum_range (fun k => if k < r.val then f (B + k) l else 0) 256,
    ← Finset.sum_subset (Finset.range_subset_range.mpr (le_of_lt r.isLt)) fun k _ hk => if_neg fun h => hk (Finset.mem_range.mpr h),
    Finset.sum_congr rfl fun k hk => if_pos (Finset.mem_range.mp hk), add_comm]
  exact (Finset.sum_range_add (fun i => f i l) B r.val).symm

variable {f : ℕ → ℕ → EReal} {B : ℕ} {p : IVec S1280x1 32} {P : FVec Ideal S1280x128 .f32} {q : FVec Ideal S1280 .f32}
  {s : Vec Ideal S1x128 .f32} {U : Vec Ideal S256x256 .bf16}

theorem count_one (hM : ∀ r l, k0_pay16 (F := Ideal) lanes p P q (ix2 r l) = f (B + r.val) l.val)
    (hs : ∀ l : Fin 128, s (ix2 0 l) = upto f B l.val) (l : Fin 128) : k0_pay19 (F := Ideal) lanes p P q s (ix2 0 l) = upto f (B + 256) l.val := by
  rw [← add_block]
  generalize hz : k0_pay16 (F := Ideal) lanes p P q = Z at hM
  pointwise [k0_pay19, k0_pay17, hz]
  simp only [hM, hs]

theorem count_two (hM : ∀ r l, k0_pay16 (F := Ideal) lanes p P q (ix2 r l) = f (B + r.val) l.val)
    (hs : ∀ l : Fin 128, s (ix2 0 l) = upto f B l.val) (l : Fin 128) : k0_pay22 (F := Ideal) lanes p P q s (ix2 0 l) = upto f (B + 256 + 256) l.val := by
  rw [← add_block]
  have h := count_one hM hs l
  generalize hy : k0_pay19 (F := Ideal) lanes p P q s = Y at h
  generalize hz : k0_pay16 (F := Ideal) lanes p P q = Z at hM
  pointwise [k0_pay22, k0_pay20, hz, hy]
  simp only [hM, h]
  simp only [Nat.add_assoc, Nat.reduceAdd]

theorem third (hM : ∀ r l, k0_pay16 (F := Ideal) lanes p P q (ix2 r l) = f (B + r.val) l.val) (r : Fin 256) (l : Fin 128) :
    k0_pay23 (F := Ideal) lanes p P q (ix2 r l) = f (B + 256 + 256 + r.val) l.val := by
  generalize hz : k0_pay16 (F := Ideal) lanes p P q = Z at hM
  pointwise [k0_pay23, hz]
  rw [hM]
  congr 1
  dsimp only
  omega

variable {M : FVec Ideal S1280x128 .f32} {T : FVec Ideal S256x128 .f32} {v : FVec Ideal S1x128 .f32}

theorem count_three (hT : ∀ r l, T (ix2 r l) = f (B + 256 + 256 + r.val) l.val) (hv : ∀ l : Fin 128, v (ix2 0 l) = upto f (B + 256 + 256) l.val)
    (l : Fin 128) : k0_pay25 (F := Ideal) v T (ix2 0 l) = upto f (B + 256 + 256 + 256) l.val := by
  rw [← add_block]
  pointwise [k0_pay25]
  simp only [hT, hv]

theorem count_four (hM : ∀ r l, M (ix2 r l) = f (B + r.val) l.val) (hT : ∀ r l, T (ix2 r l) = f (B + 256 + 256 + r.val) l.val)
    (hv : ∀ l : Fin 128, v (ix2 0 l) = upto f (B + 256 + 256) l.val)
    (l : Fin 128) : k0_pay27 (F := Ideal) M v T (ix2 0 l) = upto f (B + 256 + 256 + 256 + 256) l.val := by
  rw [← add_block]
  have h := count_three hT hv l
  generalize hy : k0_pay25 (F := Ideal) v T = Y at h
  pointwise [k0_pay27, k0_pay26, hy]
  simp only [hM, h]
  simp only [Nat.add_assoc, Nat.reduceAdd]

theorem count_five (hM : ∀ r l, M (ix2 r l) = f (B + r.val) l.val) (hT : ∀ r l, T (ix2 r l) = f (B + 256 + 256 + r.val) l.val)
    (hv : ∀ l : Fin 128, v (ix2 0 l) = upto f (B + 256 + 256) l.val)
    (l : Fin 128) : k0_pay29 (F := Ideal) M v T (ix2 0 l) = upto f (B + 256 + 256 + 256 + 256 + 256) l.val := by
  rw [← add_block]
  have h := count_four hM hT hv l
  generalize hy : k0_pay27 (F := Ideal) M v T = Y at h
  pointwise [k0_pay29, k0_pay28, hy]
  simp only [hM, h]
  simp only [Nat.add_assoc, Nat.reduceAdd]

theorem before_one (hM : ∀ r l, k0_pay16 (F := Ideal) lanes p P q (ix2 r l) = f (B + r.val) l.val)
    (hs : ∀ l : Fin 128, s (ix2 0 l) = upto f B l.val) (hU : ∀ a b : Fin 256, U (ix2 a b) = if b.val < a.val then (1 : EReal) else 0)
    (r : Fin 256) (l : Fin 128) : k0_pay18 (F := Ideal) lanes p P q s U (ix2 r l) = upto f (B + r.val) l.val := by
  rw [← add_rows]
  generalize hz : k0_pay16 (F := Ideal) lanes p P q = Z at hM
  pointwise [k0_pay18, k0_pay17, hz]
  simp only [hM, hs, hU]

theorem before_two (hM : ∀ r l, k0_pay16 (F := Ideal) lanes p P q (ix2 r l) = f (B + r.val) l.val)
    (hs : ∀ l : Fin 128, s (ix2 0 l) = upto f B l.val) (hU : ∀ a b : Fin 256, U (ix2 a b) = if b.val < a.val then (1 : EReal) else 0)
    (r : Fin 256) (l : Fin 128) : k0_pay21 (F := Ideal) lanes p P q s U (ix2 r l) = upto f (B + 256 + r.val) l.val := by
  rw [← add_rows]
  have h := count_one hM hs l
  generalize hy : k0_pay19 (F := Ideal) lanes p P q s = Y at h
  generalize hz : k0_pay16 (F := Ideal) lanes p P q = Z at hM
  pointwise [k0_pay21, k0_pay20, hz, hy]
  simp only [hM, h, hU]
  simp only [Nat.add_assoc, Nat.reduceAdd]

theorem before_all (hM : ∀ r l, M (ix2 r l) = f (B + r.val) l.val) (hT : ∀ r l, T (ix2 r l) = f (B + 256 + 256 + r.val) l.val)
    (hv : ∀ l : Fin 128, v (ix2 0 l) = upto f (B + 256 + 256) l.val) {X Y : FVec Ideal S256x128 .f32}
    (hX : ∀ (r : Fin 256) (l : Fin 128), X (ix2 r l) = upto f (B + r.val) l.val)
    (hY : ∀ (r : Fin 256) (l : Fin 128), Y (ix2 r l) = upto f (B + 256 + r.val) l.val)
    (hU : ∀ a b : Fin 256, U (ix2 a b) = if b.val < a.val then (1 : EReal) else 0)
    (r : Fin 1280) (l : Fin 128) : k0_pay30 (F := Ideal) M X Y v T (k0_pay24 U) U U (ix2 r l) = upto f (B + r.val) l.val := by
  have h3 := count_three hT hv l
  have h4 := count_four hM hT hv l
  generalize hz : k0_pay25 (F := Ideal) v T = C3 at h3
  generalize hy : k0_pay27 (F := Ideal) M v T = C4 at h4
  pointwise [k0_pay30, k0_pay28, k0_pay26, k0_pay24, hz, hy]
  simp only [hM, hT, hv, hX, hY, hU, h3, h4]
  have e : ∀ n n' : ℕ, n = n' → upto f n l.val = upto f n' l.val := fun _ _ h => by rw [h]
  have g : ∀ (D : ℕ) (k : ℕ), k < 256 → ∑ x : Fin 256, (if x.val < k then (1 : EReal) else 0) * f (B + (D + x.val)) l.val + upto f (B + D) l.val = upto f (B + (D + k)) l.val := by
    intro D k hk
    have := add_rows f (B + D) l.val ⟨k, hk⟩
    simpa only [Nat.add_assoc] using this
  simp only [Nat.add_assoc, Nat.reduceAdd]
  by_cases h0 : r.val < 256
  · exact dif_pos h0
  refine (dif_neg h0).trans ?_
  by_cases h1 : r.val - 256 < 256
  · exact (dif_pos h1).trans (e _ _ (by omega))
  refine (dif_neg h1).trans ?_
  by_cases h2 : r.val - 256 - 256 < 256
  · exact (dif_pos h2).trans ((g 512 _ h2).trans (e _ _ (by omega)))
  refine (dif_neg h2).trans ?_
  by_cases h5 : r.val - 256 - 256 - 256 < 256
  · exact (dif_pos h5).trans ((g 768 _ h5).trans (e _ _ (by omega)))
  refine (dif_neg h5).trans ?_
  exact (g 1024 _ (by omega)).trans (e _ _ (by omega))

end Cert.Kernel8Ideal.Router

end
-- ==== Proof.Router.Value.lean ====
/- What a tile of the router stores: its rows of the route, and the counts of all rows up to its last. -/
module

public import proofs.«01_k».proof.Proof.Router.Counts

@[expose] public section

set_option maxRecDepth 16384

noncomputable section

namespace Cert.Kernel8Ideal.Router

open Cert.Kernel8Ideal Cert.Kernel8Ideal.Gen Cert.Router
open Idealize.ShloMosaic Idealize.SL.Sem Idealize.ShloMosaic.TcCoe

variable {x : FVec Ideal S16640x1024 .f32} {g : FVec Ideal S1024 .f32} {w : FVec Ideal S1024x8 .f32} {t : Fin cfg0.N}
  {a : Vec Ideal S1280x1024 .f32} {b : Vec Ideal S1x1024 .f32} {d : Vec Ideal S1024x128 .f32} {s : Vec Ideal S1x128 .f32}
  {U : Vec Ideal S256x256 .bf16}

/-- The marks of a point's rows. -/
abbrev ptMarks (a : Vec Ideal S1280x1024 .f32) (b : Vec Ideal S1x1024 .f32) (d : Vec Ideal S1024x128 .f32) : FVec Ideal S1280x128 .f32 :=
  k0_pay16 (F := Ideal) lanes (k0_pay7 (F := Ideal) a b d) (k0_pay8 (F := Ideal) a b d) (k0_pay9 (F := Ideal) a b d)

abbrev ptTwo (a : Vec Ideal S1280x1024 .f32) (b : Vec Ideal S1x1024 .f32) (d : Vec Ideal S1024x128 .f32) (s : Vec Ideal S1x128 .f32) :
    FVec Ideal S1x128 .f32 :=
  k0_pay22 (F := Ideal) lanes (k0_pay7 (F := Ideal) a b d) (k0_pay8 (F := Ideal) a b d) (k0_pay9 (F := Ideal) a b d) s

abbrev ptThird (a : Vec Ideal S1280x1024 .f32) (b : Vec Ideal S1x1024 .f32) (d : Vec Ideal S1024x128 .f32) : FVec Ideal S256x128 .f32 :=
  k0_pay23 (F := Ideal) lanes (k0_pay7 (F := Ideal) a b d) (k0_pay8 (F := Ideal) a b d) (k0_pay9 (F := Ideal) a b d)

/-- The counts after a point's rows. -/
abbrev ptKept (a : Vec Ideal S1280x1024 .f32) (b : Vec Ideal S1x1024 .f32) (d : Vec Ideal S1024x128 .f32) (s : Vec Ideal S1x128 .f32) :
    FVec Ideal S1x128 .f32 := k0_pay29 (F := Ideal) (ptMarks a b d) (ptTwo a b d s) (ptThird a b d)

abbrev ptB1 (a : Vec Ideal S1280x1024 .f32) (b : Vec Ideal S1x1024 .f32) (d : Vec Ideal S1024x128 .f32) (s : Vec Ideal S1x128 .f32)
    (U : Vec Ideal S256x256 .bf16) : FVec Ideal S256x128 .f32 :=
  k0_pay18 (F := Ideal) lanes (k0_pay7 (F := Ideal) a b d) (k0_pay8 (F := Ideal) a b d) (k0_pay9 (F := Ideal) a b d) s U

abbrev ptB2 (a : Vec Ideal S1280x1024 .f32) (b : Vec Ideal S1x1024 .f32) (d : Vec Ideal S1024x128 .f32) (s : Vec Ideal S1x128 .f32)
    (U : Vec Ideal S256x256 .bf16) : FVec Ideal S256x128 .f32 :=
  k0_pay21 (F := Ideal) lanes (k0_pay7 (F := Ideal) a b d) (k0_pay8 (F := Ideal) a b d) (k0_pay9 (F := Ideal) a b d) s U

/-- The counts before each of a point's rows. -/
abbrev ptBefore (a : Vec Ideal S1280x1024 .f32) (b : Vec Ideal S1x1024 .f32) (d : Vec Ideal S1024x128 .f32) (s : Vec Ideal S1x128 .f32)
    (U : Vec Ideal S256x256 .bf16) : FVec Ideal S1280x128 .f32 :=
  k0_pay30 (F := Ideal) (ptMarks a b d) (ptB1 a b d s U) (ptB2 a b d s U) (ptTwo a b d s) (ptThird a b d) (k0_pay24 (F := Ideal) U) U U

/-- The ranks of a point's rows at their first and second places. -/
abbrev ptRank1 (a : Vec Ideal S1280x1024 .f32) (b : Vec Ideal S1x1024 .f32) (d : Vec Ideal S1024x128 .f32) (s : Vec Ideal S1x128 .f32)
    (U : Vec Ideal S256x256 .bf16) : FVec Ideal S1280x1 .f32 :=
  k0_pay31 (F := Ideal) (k0_pay14 lanes (k0_pay7 (F := Ideal) a b d)) (ptMarks a b d) (ptB1 a b d s U) (ptB2 a b d s U) (ptTwo a b d s) (ptThird a b d)
    (k0_pay24 (F := Ideal) U) U U

abbrev ptRank2 (a : Vec Ideal S1280x1024 .f32) (b : Vec Ideal S1x1024 .f32) (d : Vec Ideal S1024x128 .f32) (s : Vec Ideal S1x128 .f32)
    (U : Vec Ideal S256x256 .bf16) : FVec Ideal S1280x1 .f32 :=
  k0_pay32 (F := Ideal) (k0_pay15 lanes (k0_pay8 (F := Ideal) a b d) (k0_pay9 (F := Ideal) a b d)) (ptMarks a b d) (ptB1 a b d s U) (ptB2 a b d s U)
    (ptTwo a b d s) (ptThird a b d) (k0_pay24 (F := Ideal) U) U U

/-- A point's rows of the route. -/
abbrev ptRoute (a : Vec Ideal S1280x1024 .f32) (b : Vec Ideal S1x1024 .f32) (d : Vec Ideal S1024x128 .f32) (s : Vec Ideal S1x128 .f32)
    (U : Vec Ideal S256x256 .bf16) : FVec Ideal S1280x128 .f32 :=
  k0_pay1 (F := Ideal) lanes (ptRank1 a b d s U) (ptRank2 a b d s U)
    (k0_pay33 (k0_pay13 (k0_pay6 (F := Ideal) a b d) (k0_pay9 (F := Ideal) a b d)))
    (k0_pay34 (k0_pay12 (k0_pay6 (F := Ideal) a b d) (k0_pay9 (F := Ideal) a b d)) (k0_pay13 (k0_pay6 (F := Ideal) a b d) (k0_pay9 (F := Ideal) a b d)))
    (k0_pay35 (k0_pay7 (F := Ideal) a b d))
    (k0_pay36 (k0_pay11 (F := Ideal) lanes (k0_pay8 (F := Ideal) a b d) (k0_pay9 (F := Ideal) a b d))) (k0_pay37 (F := Ideal)) k0_pay38

theorem marks_at (h : ∀ r l, k0_pay5 (F := Ideal) a b d (ix2 r l) = wide (row x g w (at_ t r)) l) (r : Fin 1280) (l : Fin 128) :
    ptMarks a b d (ix2 r l) = marks x g w (1280 * t.val + r.val) l.val := by
  refine (pt_mark h r l).trans ?_
  unfold marks
  have := point_lt t
  rw [dif_pos (by omega : 1280 * t.val + r.val < 16640)]
  rfl

theorem kept_at (h : ∀ r l, k0_pay5 (F := Ideal) a b d (ix2 r l) = wide (row x g w (at_ t r)) l)
    (hs : ∀ l : Fin 128, s (ix2 0 l) = acc x g w (1280 * t.val) l.val) (l : Fin 128) :
    ptKept a b d s (ix2 0 l) = acc x g w (1280 * t.val + 1280) l.val :=
  count_five (f := marks x g w) (marks_at h) (third (f := marks x g w) (marks_at h)) (count_two (f := marks x g w) (marks_at h) hs) l

theorem before_at (h : ∀ r l, k0_pay5 (F := Ideal) a b d (ix2 r l) = wide (row x g w (at_ t r)) l)
    (hs : ∀ l : Fin 128, s (ix2 0 l) = acc x g w (1280 * t.val) l.val) (hU : ∀ a b : Fin 256, U (ix2 a b) = if b.val < a.val then (1 : EReal) else 0)
    (r : Fin 1280) (l : Fin 128) : ptBefore a b d s U (ix2 r l) = acc x g w (at_ t r).val l.val :=
  before_all (f := marks x g w) (marks_at h) (third (f := marks x g w) (marks_at h)) (count_two (f := marks x g w) (marks_at h) hs)
    (before_one (f := marks x g w) (marks_at h) hs hU) (before_two (f := marks x g w) (marks_at h) hs hU) hU r l

theorem rank_one_at (h : ∀ r l, k0_pay5 (F := Ideal) a b d (ix2 r l) = wide (row x g w (at_ t r)) l)
    (hs : ∀ l : Fin 128, s (ix2 0 l) = acc x g w (1280 * t.val) l.val) (hU : ∀ a b : Fin 256, U (ix2 a b) = if b.val < a.val then (1 : EReal) else 0)
    (r : Fin 1280) : ptRank1 a b d s U (ix2 r 0) = ∑ l : Fin 128, pick (one x g w (at_ t r)) l.val (acc x g w (at_ t r).val l.val) := by
  have h1 := pt_one h r
  have h2 := before_at h hs hU r
  generalize hz : ptBefore a b d s U = Z at h2
  generalize hy : k0_pay7 (F := Ideal) a b d = Y at h1
  pointwise [k0_pay31, k0_pay14, hz, hy]
  rw [h1]
  simp only [h2]
  rfl

theorem rank_two_at (h : ∀ r l, k0_pay5 (F := Ideal) a b d (ix2 r l) = wide (row x g w (at_ t r)) l)
    (hs : ∀ l : Fin 128, s (ix2 0 l) = acc x g w (1280 * t.val) l.val) (hU : ∀ a b : Fin 256, U (ix2 a b) = if b.val < a.val then (1 : EReal) else 0)
    (r : Fin 1280) : ptRank2 a b d s U (ix2 r 0) = ∑ l : Fin 128, pick (two x g w (at_ t r)) l.val (acc x g w (at_ t r).val l.val) := by
  have h1 := pt_two h r
  have h2 := before_at h hs hU r
  generalize hz : ptBefore a b d s U = Z at h2
  generalize hy : k0_pay11 (F := Ideal) lanes (k0_pay8 (F := Ideal) a b d) (k0_pay9 (F := Ideal) a b d) = Y at h1
  pointwise [k0_pay32, k0_pay15, hz, hy]
  rw [h1]
  simp only [h2]
  rfl

theorem route_at (h : ∀ r l, k0_pay5 (F := Ideal) a b d (ix2 r l) = wide (row x g w (at_ t r)) l)
    (hs : ∀ l : Fin 128, s (ix2 0 l) = acc x g w (1280 * t.val) l.val) (hU : ∀ a b : Fin 256, U (ix2 a b) = if b.val < a.val then (1 : EReal) else 0)
    (r : Fin 1280) (l : Fin 128) : ptRoute a b d s U (ix2 r l) = routed x g w (at_ t r) l := by
  have h1 := pt_one h r
  have h2 := pt_two h r
  have h3 := rank_one_at h hs hU r
  have h4 := rank_two_at h hs hU r
  have h5 := pt_top h r
  have h6 := pt_next h r
  unfold ptRoute
  generalize ptRank1 a b d s U = Z3 at h3
  generalize ptRank2 a b d s U = Z4 at h4
  generalize k0_pay11 (F := Ideal) lanes (k0_pay8 (F := Ideal) a b d) (k0_pay9 (F := Ideal) a b d) = Z2 at h2
  generalize k0_pay7 (F := Ideal) a b d = Z1 at h1
  generalize k0_pay6 (F := Ideal) a b d = Z5 at h5
  generalize k0_pay9 (F := Ideal) a b d = Z6 at h6
  pointwise [k0_pay1, k0_pay33, k0_pay34, k0_pay35, k0_pay36, k0_pay37, k0_pay38, k0_pay12, k0_pay13, k0_pay10]
  rw [h1, h2, h3, h4, h5, h6]
  rfl

end Cert.Kernel8Ideal.Router

end
-- ==== Proof.Router.Finals.lean ====
/- The router's route and counts after the run are the reference's. -/
module

public import proofs.«01_k».proof.Proof.Router.Value

@[expose] public section

set_option maxRecDepth 16384

noncomputable section

namespace Cert.Kernel8Ideal.Router

open Cert.Kernel8Ideal Cert.Kernel8Ideal.Gen Cert.Router
open Idealize.ShloMosaic Idealize.SL.Sem Idealize.ShloMosaic.TcCoe
open Cert.Reference8Ideal.Read

variable (m : (ℓ : Loc nD τ sig) → Buf (Elt Ideal) ℓ)

/-- The marks of the rows before `n`, of the run's operands. -/
abbrev accs (c : Dev nD) (n l : ℕ) : EReal :=
  acc (m ((c : Thread nD τ).loc main_arg0)) (m ((c : Thread nD τ).loc main_arg1)) (m ((c : Thread nD τ).loc main_arg2)) n l

/-- The counts the first tile starts from. -/
theorem start_first {sig : RefSig} {κ : Kind} {sp : Space} (v : View sig κ sp S8x128 .f32) (c : Dev nD) (t : Fin cfg0.N)
    (ht : t.val % 13 = 0) (l : Fin 128) :
    v.readCov [(⟨Rect.unit ![0, 0] ![8, 128] inb_S8x128_S8x128_0_0, k0_pay4 (F := Ideal)⟩ : View.Piece (Elt Ideal) S8x128 .f32)]
      (Rect.unit (s := S8x128) ![0, 0] ![1, 128] inb_S8x128_S1x128_0_0).toLoadRect (ix2 0 l)
      = accs m c (1280 * t.val) l.val := by
  rw [View.readCov_eq_canon']
  have e0 := View.canon_unit_zero (S := S8x128) (Val := Elt Ideal) (e := .f32) (off := ![0, 0]) (by funext a; fin_cases a <;> rfl)
    inb_S8x128_S8x128_0_0 (k0_pay4 (F := Ideal))
  have := point_lt t
  have h0 : t.val = 0 := by omega
  rw [h0]
  refine (congrFun e0 _).trans ?_
  exact (by pointwise [k0_pay4] : k0_pay4 (F := Ideal) _ = (0 : EReal))

/-- The counts a later tile starts from are the ones kept before it. -/
theorem start_later (M : Memref sig .tc .vmem S8x128 .f32) (hM : M.IsWhole) (X : S8x128.Idx → Elt Ideal .f32) (l : Fin 128) :
    View.ld (View.read (Elt Ideal) M.view (hM.unread X)) (Rect.unit (s := S8x128) ![0, 0] ![1, 128] inb_S8x128_S1x128_0_0) (ix2 0 l)
      = X (ix2 0 l) := by
  rw [hM.read_unread]
  unfold View.ld
  refine congrArg X (funext fun a => Fin.ext ?_)
  match a with
  | ⟨0, _⟩ => rfl
  | ⟨1, _⟩ =>
    change 0 + 1 * l.val = l.val
    omega

theorem eight (X : FVec Ideal S1x128 .f32) (q : Fin 8) (l : Fin 128) : k0_pay2 (F := Ideal) X (ix2 q l) = X (ix2 0 l) := by
  pointwise [k0_pay2]

theorem eight' (X : FVec Ideal S1x128 .f32) (q : Fin 8) (l : Fin 128) : k0_pay3 (F := Ideal) X (ix2 q l) = X (ix2 0 l) := by
  pointwise [k0_pay3, k0_pay2]

/-- The counts kept after a point. -/
theorem left_c (c : Dev nD) (n : ℕ) : ∀ (t : Fin cfg0.N), t.val = n → ∀ l : Fin 128,
    (outsAt0 m c t.val t.isLt).2.2 (ix2 0 l) = accs m c (1280 * t.val + 1280) l.val := by
  induction n using Nat.strong_induction_on with
  | _ n ih =>
  intro t hn l
  by_cases h : t.val % 13 = 0
  · rw [outsAt0_A m c t h]
    frame_out
    refine (eight' _ 0 l).trans ?_
    exact kept_at (logits m c t) (start_first m _ c t h) l
  · rw [outsAt0_B m c t h]
    frame_out
    refine (eight' _ 0 l).trans ?_
    refine kept_at (logits m c t) (fun l => ?_) l
    refine (start_later scM0_0 (Memref.isWhole_whole _) _ l).trans ((ih (t.val - 1) (by omega) ⟨t.val - 1, Nat.lt_of_le_of_lt (Nat.sub_le _ _) t.isLt⟩ rfl l).trans ?_)
    refine congrArg (fun n => accs m c n l.val) ?_
    dsimp only
    omega

/-- The counts a later tile starts from, as the marks of the rows before it. -/
theorem start_B (c : Dev nD) (t : Fin cfg0.N) (h : ¬ t.val % 13 = 0) (l : Fin 128) :
    View.ld (View.read (Elt Ideal) (View.whole cc0_scratch0) ((Memref.isWhole_whole cc0_scratch0).unread
      (outsAt0 m c (t.val - 1) (Nat.lt_of_le_of_lt (Nat.sub_le _ _) t.isLt)).2.2))
      (Rect.unit (s := S8x128) ![0, 0] ![1, 128] inb_S8x128_S1x128_0_0) (ix2 0 l) = accs m c (1280 * t.val) l.val := by
  refine (start_later scM0_0 (Memref.isWhole_whole _) _ l).trans
    ((left_c m c (t.val - 1) ⟨t.val - 1, Nat.lt_of_le_of_lt (Nat.sub_le _ _) t.isLt⟩ rfl l).trans ?_)
  refine congrArg (fun n => accs m c n l.val) ?_
  dsimp only
  omega

/-- The reference's route and counts of the run's operands. -/
abbrev route (c : Dev nD) : FVec Ideal S16640x128 .f32 :=
  val_main_v79 (F := Ideal) (m ((c : Thread nD τ).loc main_arg0)) (m ((c : Thread nD τ).loc main_arg1)) (m ((c : Thread nD τ).loc main_arg2))

abbrev counts (c : Dev nD) : FVec Ideal S8x128 .f32 :=
  val_main_v82 (F := Ideal) (m ((c : Thread nD τ).loc main_arg0)) (m ((c : Thread nD τ).loc main_arg1)) (m ((c : Thread nD τ).loc main_arg2))

theorem point_route (c : Dev nD) (t : Fin cfg0.N) (y : S1280x128.Idx) (i : S16640x128.Idx) (h0 : (i 0 : ℕ) = 1280 * t.val + (y 0).val)
    (h1 : (i 1 : ℕ) = (y 1).val) (s : Vec Ideal S1x128 .f32) (hs : ∀ l : Fin 128, s (ix2 0 l) = accs m c (1280 * t.val) l.val) :
    ptRoute (iblk m c 0 t) (iblk m c 1 t) (iblk m c 2 t) s (iblk m c 3 t) y = route m c i := by
  have e : i = ix2 (at_ t (y 0)) (y 1) := by
    funext a
    apply Fin.ext
    match a with
    | ⟨0, _⟩ => exact h0
    | ⟨1, _⟩ => exact h1
  have ey : y = ix2 (y 0) (y 1) := by
    funext a
    match a with
    | ⟨0, _⟩ => rfl
    | ⟨1, _⟩ => rfl
  rw [e, ey]
  exact (route_at (logits m c t) hs (tri m c t) (y 0) (y 1)).trans (ref_route _ _ _ _ _).symm

/-- The route after the run. -/
theorem final_route (c : Dev nD) : (dats m 0 c).arrAt 4 (cfgs 0).N = route m c := by
  refine (dats m 0 c).arrAt_eq_of_covers 4 _ (by decide +kernel) fun t hf y => ?_
  blk_simp
  rw [after0_4]
  by_cases h : t.val % 13 = 0
  · rw [outsAt0_A m c t h]
    frame_out
    refine point_route m c t _ _ ?_ ?_ _ (start_first m _ c t h)
    · blk_simp [idx t]
      rw [Nat.mul_comm]
    · blk_simp [idx t]
  · rw [outsAt0_B m c t h]
    frame_out
    refine point_route m c t _ _ ?_ ?_ _ (start_B m c t h)
    · blk_simp [idx t]
      rw [Nat.mul_comm]
    · blk_simp [idx t]

theorem point_counts (c : Dev nD) (X : FVec Ideal S1x128 .f32) (hX : ∀ l : Fin 128, X (ix2 0 l) = accs m c 16640 l.val) (y i : S8x128.Idx)
    (h1 : (i 1 : ℕ) = (y 1).val) : k0_pay2 (F := Ideal) X y = counts m c i := by
  have e : i = ix2 (i 0) (y 1) := by
    funext a
    apply Fin.ext
    match a with
    | ⟨0, _⟩ => rfl
    | ⟨1, _⟩ => exact h1
  have ey : y = ix2 (y 0) (y 1) := by
    funext a
    match a with
    | ⟨0, _⟩ => rfl
    | ⟨1, _⟩ => rfl
  rw [e, ey]
  exact (eight X (y 0) (y 1)).trans ((hX _).trans (ref_counts _ _ _ _ _).symm)

/-- The counts after the run. -/
theorem final_counts (c : Dev nD) : (dats m 0 c).arrAt 5 (cfgs 0).N = counts m c := by
  refine (dats m 0 c).arrAt_eq_of_covers 5 _ (by decide +kernel) fun t hf y => ?_
  have hl := (flush0_5 t).mp hf
  have := point_lt t
  blk_simp
  rw [after0_5]
  have h : ¬ t.val % 13 = 0 := by omega
  rw [outsAt0_B m c t h]
  frame_out
  refine point_counts m c _ (fun l => ?_) _ _ ?_
  · refine (kept_at (logits m c t) (start_B m c t h) l).trans ?_
    refine congrArg (fun n => accs m c n l.val) ?_
    omega
  · blk_simp [idx t]

end Cert.Kernel8Ideal.Router

end
-- ==== Proof.Router.Claims.lean ====
/- The router: its frames and the equations of its two results. -/
module

public import proofs.«01_k».proof.Defs
public import proofs.«01_k».proof.Proof.Gen.Kernel8.Frame
public import proofs.«01_k».proof.Proof.Gen.Kernel8Ideal.Value
public import proofs.«01_k».proof.Proof.Gen.Reference8Ideal.Read
public import proofs.«01_k».proof.Proof.Router.Finals
public import Idealize.ShloMosaic.Adequacy
public import Idealize.ShloMosaic.Init

@[expose] public section

set_option maxRecDepth 16384

noncomputable section

namespace Cert.Router

open Idealize.ShloMosaic Idealize.SL.Sem Idealize.ShloMosaic.TcCoe

/-- The kernel terminates, its semaphores back at zero, its arguments unchanged. -/
theorem frame_kernel : quiescent_Kernel8 := fun m ρ _ => Kernel8.Gen.frame m ρ

theorem frame_ideal : quiescent_Kernel8Ideal := fun m ρ _ => Kernel8Ideal.Gen.frame m ρ

theorem frame_reference : quiescent_Reference8Ideal := fun m ρ _ =>
  (θ_run Reference8Ideal.defs _ _).mono (fun r h => ⟨fun c => (h c).2.2, sem_eq_zero_of_no_sems (by decide) r.2⟩)
    (Reference8Ideal.Value.run (F := Ideal) m ρ)

/-- From memories that agree on the arguments, kernel and reference end with the same results. -/
theorem algebraic : algebraic_Kernel8Ideal_Reference8Ideal := by
  intro m g m' g' _ hargs
  refine ⟨fun c => Kernel8Ideal.Router.route m c, fun c => Kernel8Ideal.Router.counts m c, ?_, ?_⟩
  · exact (θ_run Kernel8Ideal.defs _ _).mono (fun r h c => ⟨(Kernel8Ideal.Value.post4 m r h c).trans (Kernel8Ideal.Router.final_route m c), (Kernel8Ideal.Value.post5 m r h c).trans (Kernel8Ideal.Router.final_counts m c),
      Kernel8Ideal.Value.kept_main_arg0 m r h c, Kernel8Ideal.Value.kept_main_arg1 m r h c, Kernel8Ideal.Value.kept_main_arg2 m r h c⟩)
      (Kernel8Ideal.Gen.run_main m g)
  · refine (θ_run Reference8Ideal.defs _ _).mono (fun r h c => ?_) (Reference8Ideal.Value.run (F := Ideal) m' g')
    obtain ⟨e0, e1, e2⟩ := hargs c
    refine ⟨?_, ?_, (h c).2.2⟩
    · refine (h c).1.trans ((Reference8Ideal.Read.val_main_v79_eq _ _).trans ?_)
      rw [e0, e1, e2]
    · refine (h c).2.1.trans ((Reference8Ideal.Read.val_main_v82_eq _ _).trans ?_)
      rw [e0, e1, e2]

end Cert.Router

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Step
public import proofs.«01_k».proof.Proof.Gen.Reference7Ideal.StepRun
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Moe.Frames
public import proofs.«01_k».proof.Proof.Moe.Value
public import proofs.«01_k».proof.Proof.Dense.Claims
public import proofs.«01_k».proof.Proof.Merge.Claims
public import proofs.«01_k».proof.Proof.InProj.Claims
public import proofs.«01_k».proof.Proof.Mixers.Claims
public import proofs.«01_k».proof.Proof.Prompt.Claims
public import proofs.«01_k».proof.Proof.Router.Claims
public import Idealize.ShloMosaic.Adequacy
public import Idealize.ShloMosaic.Init

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts,
  Cert.Kernel7Ideal.Gen.facts, Cert.Reference7Ideal.Gen.facts, Cert.Kernel8.Gen.facts,
  Cert.Kernel8Ideal.Gen.facts, Cert.Reference8Ideal.Gen.facts, Cert.Pre_in_range.Gen.facts,
  Moe.frame_kernel, Moe.frame_ideal, Moe.frame_reference, Moe.frame_reference_pre, Dense.frame_kernel,
  Dense.frame_ideal, Dense.frame_reference, Merge.frame_kernel, Merge.frame_ideal, Merge.frame_reference,
  InProj.frame_kernel_features, InProj.frame_ideal_features, InProj.frame_reference_features, InProj.frame_kernel_gates,
  InProj.frame_ideal_gates, InProj.frame_reference_gates, Mixers.frame_kernel,
  Mixers.frame_ideal, Mixers.frame_reference, Prompt.frame_kernel,
  Prompt.frame_ideal, Prompt.frame_reference, Router.frame_kernel,
  Router.frame_ideal, Router.frame_reference, trivial, Moe.algebraic, trivial, Dense.algebraic, trivial,
  Merge.algebraic, trivial, InProj.algebraic_features, trivial, InProj.algebraic_gates, trivial,
  Mixers.algebraic, trivial, Prompt.algebraic, trivial, Router.algebraic⟩

end Cert.Proof

end
